-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_BestMatch (m : (ℓ : Loc Cert.BestMatch.nD Cert.BestMatch.τ Cert.BestMatch.sig) → Buf (Elt Bits) ℓ) : Prop :=
  True

def Pre_BestMatchIdeal (m : (ℓ : Loc Cert.BestMatchIdeal.nD Cert.BestMatchIdeal.τ Cert.BestMatchIdeal.sig) → Buf (Elt Ideal) ℓ) : Prop :=
  True

def Pre_BestMatchReferenceIdeal (m : (ℓ : Loc Cert.BestMatchReferenceIdeal.nD Cert.BestMatchReferenceIdeal.τ Cert.BestMatchReferenceIdeal.sig) → Buf (Elt Ideal) ℓ) : Prop :=
  True

def Pre_Paint (m : (ℓ : Loc Cert.Paint.nD Cert.Paint.τ Cert.Paint.sig) → Buf (Elt Bits) ℓ) : Prop :=
  True

def Pre_PaintIdeal (m : (ℓ : Loc Cert.PaintIdeal.nD Cert.PaintIdeal.τ Cert.PaintIdeal.sig) → Buf (Elt Ideal) ℓ) : Prop :=
  True

def Pre_PaintIdeal_bounded [hPre_bounded : Cert.Pre_bounded.Facts] (m : (ℓ : Loc Cert.PaintIdeal.nD Cert.PaintIdeal.τ Cert.PaintIdeal.sig) → Buf (Elt Ideal) ℓ) : Prop :=
  ∀ c : Dev Cert.PaintIdeal.nD,
    (Cert.Pre_bounded.fn (F := Ideal) (m ((c.tc : Thread Cert.PaintIdeal.nD Cert.PaintIdeal.τ).loc Cert.PaintIdeal.main_arg0)) (m ((c.tc : Thread Cert.PaintIdeal.nD Cert.PaintIdeal.τ).loc Cert.PaintIdeal.main_arg1)) (m ((c.tc : Thread Cert.PaintIdeal.nD Cert.PaintIdeal.τ).loc Cert.PaintIdeal.main_arg2))).1 = (fun _ => 1#1)
    ∧ (Cert.Pre_bounded.fn (F := Ideal) (m ((c.tc : Thread Cert.PaintIdeal.nD Cert.PaintIdeal.τ).loc Cert.PaintIdeal.main_arg0)) (m ((c.tc : Thread Cert.PaintIdeal.nD Cert.PaintIdeal.τ).loc Cert.PaintIdeal.main_arg1)) (m ((c.tc : Thread Cert.PaintIdeal.nD Cert.PaintIdeal.τ).loc Cert.PaintIdeal.main_arg2))).2 = (fun _ => 1#1)

def Pre_PaintReferenceIdeal (m : (ℓ : Loc Cert.PaintReferenceIdeal.nD Cert.PaintReferenceIdeal.τ Cert.PaintReferenceIdeal.sig) → Buf (Elt Ideal) ℓ) : Prop :=
  True

def Pre_PaintReferenceIdeal_bounded [hPre_bounded : Cert.Pre_bounded.Facts] (m : (ℓ : Loc Cert.PaintReferenceIdeal.nD Cert.PaintReferenceIdeal.τ Cert.PaintReferenceIdeal.sig) → Buf (Elt Ideal) ℓ) : Prop :=
  ∀ c : Dev Cert.PaintReferenceIdeal.nD,
    (Cert.Pre_bounded.fn (F := Ideal) (m ((c.tc : Thread Cert.PaintReferenceIdeal.nD Cert.PaintReferenceIdeal.τ).loc Cert.PaintReferenceIdeal.main_arg0)) (m ((c.tc : Thread Cert.PaintReferenceIdeal.nD Cert.PaintReferenceIdeal.τ).loc Cert.PaintReferenceIdeal.main_arg1)) (m ((c.tc : Thread Cert.PaintReferenceIdeal.nD Cert.PaintReferenceIdeal.τ).loc Cert.PaintReferenceIdeal.main_arg2))).1 = (fun _ => 1#1)
    ∧ (Cert.Pre_bounded.fn (F := Ideal) (m ((c.tc : Thread Cert.PaintReferenceIdeal.nD Cert.PaintReferenceIdeal.τ).loc Cert.PaintReferenceIdeal.main_arg0)) (m ((c.tc : Thread Cert.PaintReferenceIdeal.nD Cert.PaintReferenceIdeal.τ).loc Cert.PaintReferenceIdeal.main_arg1)) (m ((c.tc : Thread Cert.PaintReferenceIdeal.nD Cert.PaintReferenceIdeal.τ).loc Cert.PaintReferenceIdeal.main_arg2))).2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_BestMatch [hBestMatch : Cert.BestMatch.Facts] : Prop :=
  ∀ (m : (ℓ : Loc Cert.BestMatch.nD Cert.BestMatch.τ Cert.BestMatch.sig) → Buf (Elt Bits) ℓ) (g : Dev Cert.BestMatch.nD → PrngReg), Pre_BestMatch m →
    θ_run (Cert.BestMatch.defs (F := Bits)) (onTc (τ := Cert.BestMatch.τ) (Cert.BestMatch.main (F := Bits))) ⟨m, fun _ => 0, g⟩ (fun r => (∀ c : Dev Cert.BestMatch.nD,
      r.2.mem ((c.tc : Thread Cert.BestMatch.nD Cert.BestMatch.τ).loc Cert.BestMatch.main_arg0) = m ((c.tc : Thread Cert.BestMatch.nD Cert.BestMatch.τ).loc Cert.BestMatch.main_arg0)
      ∧ r.2.mem ((c.tc : Thread Cert.BestMatch.nD Cert.BestMatch.τ).loc Cert.BestMatch.main_arg1) = m ((c.tc : Thread Cert.BestMatch.nD Cert.BestMatch.τ).loc Cert.BestMatch.main_arg1))
      ∧ r.2.sem = fun _ => 0)

def quiescent_BestMatchIdeal [hBestMatchIdeal : Cert.BestMatchIdeal.Facts] : Prop :=
  ∀ (m : (ℓ : Loc Cert.BestMatchIdeal.nD Cert.BestMatchIdeal.τ Cert.BestMatchIdeal.sig) → Buf (Elt Ideal) ℓ) (g : Dev Cert.BestMatchIdeal.nD → PrngReg), Pre_BestMatchIdeal m →
    θ_run (Cert.BestMatchIdeal.defs (F := Ideal)) (onTc (τ := Cert.BestMatchIdeal.τ) (Cert.BestMatchIdeal.main (F := Ideal))) ⟨m, fun _ => 0, g⟩ (fun r => (∀ c : Dev Cert.BestMatchIdeal.nD,
      r.2.mem ((c.tc : Thread Cert.BestMatchIdeal.nD Cert.BestMatchIdeal.τ).loc Cert.BestMatchIdeal.main_arg0) = m ((c.tc : Thread Cert.BestMatchIdeal.nD Cert.BestMatchIdeal.τ).loc Cert.BestMatchIdeal.main_arg0)
      ∧ r.2.mem ((c.tc : Thread Cert.BestMatchIdeal.nD Cert.BestMatchIdeal.τ).loc Cert.BestMatchIdeal.main_arg1) = m ((c.tc : Thread Cert.BestMatchIdeal.nD Cert.BestMatchIdeal.τ).loc Cert.BestMatchIdeal.main_arg1))
      ∧ r.2.sem = fun _ => 0)

def quiescent_BestMatchReferenceIdeal [hBestMatchReferenceIdeal : Cert.BestMatchReferenceIdeal.Facts] : Prop :=
  ∀ (m : (ℓ : Loc Cert.BestMatchReferenceIdeal.nD Cert.BestMatchReferenceIdeal.τ Cert.BestMatchReferenceIdeal.sig) → Buf (Elt Ideal) ℓ) (g : Dev Cert.BestMatchReferenceIdeal.nD → PrngReg), Pre_BestMatchReferenceIdeal m →
    θ_run (Cert.BestMatchReferenceIdeal.defs (F := Ideal)) (onTc (τ := Cert.BestMatchReferenceIdeal.τ) (Cert.BestMatchReferenceIdeal.main (F := Ideal))) ⟨m, fun _ => 0, g⟩ (fun r => (∀ c : Dev Cert.BestMatchReferenceIdeal.nD,
      r.2.mem ((c.tc : Thread Cert.BestMatchReferenceIdeal.nD Cert.BestMatchReferenceIdeal.τ).loc Cert.BestMatchReferenceIdeal.main_arg0) = m ((c.tc : Thread Cert.BestMatchReferenceIdeal.nD Cert.BestMatchReferenceIdeal.τ).loc Cert.BestMatchReferenceIdeal.main_arg0)
      ∧ r.2.mem ((c.tc : Thread Cert.BestMatchReferenceIdeal.nD Cert.BestMatchReferenceIdeal.τ).loc Cert.BestMatchReferenceIdeal.main_arg1) = m ((c.tc : Thread Cert.BestMatchReferenceIdeal.nD Cert.BestMatchReferenceIdeal.τ).loc Cert.BestMatchReferenceIdeal.main_arg1))
      ∧ r.2.sem = fun _ => 0)

def quiescent_Paint [hPaint : Cert.Paint.Facts] : Prop :=
  ∀ (m : (ℓ : Loc Cert.Paint.nD Cert.Paint.τ Cert.Paint.sig) → Buf (Elt Bits) ℓ) (g : Dev Cert.Paint.nD → PrngReg), Pre_Paint m →
    θ_run (Cert.Paint.defs (F := Bits)) (onTc (τ := Cert.Paint.τ) (Cert.Paint.main (F := Bits))) ⟨m, fun _ => 0, g⟩ (fun r => (∀ c : Dev Cert.Paint.nD,
      r.2.mem ((c.tc : Thread Cert.Paint.nD Cert.Paint.τ).loc Cert.Paint.main_arg0) = m ((c.tc : Thread Cert.Paint.nD Cert.Paint.τ).loc Cert.Paint.main_arg0)
      ∧ r.2.mem ((c.tc : Thread Cert.Paint.nD Cert.Paint.τ).loc Cert.Paint.main_arg1) = m ((c.tc : Thread Cert.Paint.nD Cert.Paint.τ).loc Cert.Paint.main_arg1)
      ∧ r.2.mem ((c.tc : Thread Cert.Paint.nD Cert.Paint.τ).loc Cert.Paint.main_arg2) = m ((c.tc : Thread Cert.Paint.nD Cert.Paint.τ).loc Cert.Paint.main_arg2))
      ∧ r.2.sem = fun _ => 0)

def quiescent_PaintIdeal [hPaintIdeal : Cert.PaintIdeal.Facts] : Prop :=
  ∀ (m : (ℓ : Loc Cert.PaintIdeal.nD Cert.PaintIdeal.τ Cert.PaintIdeal.sig) → Buf (Elt Ideal) ℓ) (g : Dev Cert.PaintIdeal.nD → PrngReg), Pre_PaintIdeal m →
    θ_run (Cert.PaintIdeal.defs (F := Ideal)) (onTc (τ := Cert.PaintIdeal.τ) (Cert.PaintIdeal.main (F := Ideal))) ⟨m, fun _ => 0, g⟩ (fun r => (∀ c : Dev Cert.PaintIdeal.nD,
      r.2.mem ((c.tc : Thread Cert.PaintIdeal.nD Cert.PaintIdeal.τ).loc Cert.PaintIdeal.main_arg0) = m ((c.tc : Thread Cert.PaintIdeal.nD Cert.PaintIdeal.τ).loc Cert.PaintIdeal.main_arg0)
      ∧ r.2.mem ((c.tc : Thread Cert.PaintIdeal.nD Cert.PaintIdeal.τ).loc Cert.PaintIdeal.main_arg1) = m ((c.tc : Thread Cert.PaintIdeal.nD Cert.PaintIdeal.τ).loc Cert.PaintIdeal.main_arg1)
      ∧ r.2.mem ((c.tc : Thread Cert.PaintIdeal.nD Cert.PaintIdeal.τ).loc Cert.PaintIdeal.main_arg2) = m ((c.tc : Thread Cert.PaintIdeal.nD Cert.PaintIdeal.τ).loc Cert.PaintIdeal.main_arg2))
      ∧ r.2.sem = fun _ => 0)

def quiescent_PaintIdeal_pre_bounded [hPaintIdeal : Cert.PaintIdeal.Facts] [hPre_bounded : Cert.Pre_bounded.Facts] : Prop :=
  ∀ (m : (ℓ : Loc Cert.PaintIdeal.nD Cert.PaintIdeal.τ Cert.PaintIdeal.sig) → Buf (Elt Ideal) ℓ) (g : Dev Cert.PaintIdeal.nD → PrngReg), Pre_PaintIdeal_bounded m →
    θ_run (Cert.PaintIdeal.defs (F := Ideal)) (onTc (τ := Cert.PaintIdeal.τ) (Cert.PaintIdeal.main (F := Ideal))) ⟨m, fun _ => 0, g⟩ (fun r => (∀ c : Dev Cert.PaintIdeal.nD,
      r.2.mem ((c.tc : Thread Cert.PaintIdeal.nD Cert.PaintIdeal.τ).loc Cert.PaintIdeal.main_arg0) = m ((c.tc : Thread Cert.PaintIdeal.nD Cert.PaintIdeal.τ).loc Cert.PaintIdeal.main_arg0)
      ∧ r.2.mem ((c.tc : Thread Cert.PaintIdeal.nD Cert.PaintIdeal.τ).loc Cert.PaintIdeal.main_arg1) = m ((c.tc : Thread Cert.PaintIdeal.nD Cert.PaintIdeal.τ).loc Cert.PaintIdeal.main_arg1)
      ∧ r.2.mem ((c.tc : Thread Cert.PaintIdeal.nD Cert.PaintIdeal.τ).loc Cert.PaintIdeal.main_arg2) = m ((c.tc : Thread Cert.PaintIdeal.nD Cert.PaintIdeal.τ).loc Cert.PaintIdeal.main_arg2))
      ∧ r.2.sem = fun _ => 0)

def quiescent_PaintReferenceIdeal [hPaintReferenceIdeal : Cert.PaintReferenceIdeal.Facts] : Prop :=
  ∀ (m : (ℓ : Loc Cert.PaintReferenceIdeal.nD Cert.PaintReferenceIdeal.τ Cert.PaintReferenceIdeal.sig) → Buf (Elt Ideal) ℓ) (g : Dev Cert.PaintReferenceIdeal.nD → PrngReg), Pre_PaintReferenceIdeal m →
    θ_run (Cert.PaintReferenceIdeal.defs (F := Ideal)) (onTc (τ := Cert.PaintReferenceIdeal.τ) (Cert.PaintReferenceIdeal.main (F := Ideal))) ⟨m, fun _ => 0, g⟩ (fun r => (∀ c : Dev Cert.PaintReferenceIdeal.nD,
      r.2.mem ((c.tc : Thread Cert.PaintReferenceIdeal.nD Cert.PaintReferenceIdeal.τ).loc Cert.PaintReferenceIdeal.main_arg0) = m ((c.tc : Thread Cert.PaintReferenceIdeal.nD Cert.PaintReferenceIdeal.τ).loc Cert.PaintReferenceIdeal.main_arg0)
      ∧ r.2.mem ((c.tc : Thread Cert.PaintReferenceIdeal.nD Cert.PaintReferenceIdeal.τ).loc Cert.PaintReferenceIdeal.main_arg1) = m ((c.tc : Thread Cert.PaintReferenceIdeal.nD Cert.PaintReferenceIdeal.τ).loc Cert.PaintReferenceIdeal.main_arg1)
      ∧ r.2.mem ((c.tc : Thread Cert.PaintReferenceIdeal.nD Cert.PaintReferenceIdeal.τ).loc Cert.PaintReferenceIdeal.main_arg2) = m ((c.tc : Thread Cert.PaintReferenceIdeal.nD Cert.PaintReferenceIdeal.τ).loc Cert.PaintReferenceIdeal.main_arg2))
      ∧ r.2.sem = fun _ => 0)

def quiescent_PaintReferenceIdeal_pre_bounded [hPaintReferenceIdeal : Cert.PaintReferenceIdeal.Facts] [hPre_bounded : Cert.Pre_bounded.Facts] : Prop :=
  ∀ (m : (ℓ : Loc Cert.PaintReferenceIdeal.nD Cert.PaintReferenceIdeal.τ Cert.PaintReferenceIdeal.sig) → Buf (Elt Ideal) ℓ) (g : Dev Cert.PaintReferenceIdeal.nD → PrngReg), Pre_PaintReferenceIdeal_bounded m →
    θ_run (Cert.PaintReferenceIdeal.defs (F := Ideal)) (onTc (τ := Cert.PaintReferenceIdeal.τ) (Cert.PaintReferenceIdeal.main (F := Ideal))) ⟨m, fun _ => 0, g⟩ (fun r => (∀ c : Dev Cert.PaintReferenceIdeal.nD,
      r.2.mem ((c.tc : Thread Cert.PaintReferenceIdeal.nD Cert.PaintReferenceIdeal.τ).loc Cert.PaintReferenceIdeal.main_arg0) = m ((c.tc : Thread Cert.PaintReferenceIdeal.nD Cert.PaintReferenceIdeal.τ).loc Cert.PaintReferenceIdeal.main_arg0)
      ∧ r.2.mem ((c.tc : Thread Cert.PaintReferenceIdeal.nD Cert.PaintReferenceIdeal.τ).loc Cert.PaintReferenceIdeal.main_arg1) = m ((c.tc : Thread Cert.PaintReferenceIdeal.nD Cert.PaintReferenceIdeal.τ).loc Cert.PaintReferenceIdeal.main_arg1)
      ∧ r.2.mem ((c.tc : Thread Cert.PaintReferenceIdeal.nD Cert.PaintReferenceIdeal.τ).loc Cert.PaintReferenceIdeal.main_arg2) = m ((c.tc : Thread Cert.PaintReferenceIdeal.nD Cert.PaintReferenceIdeal.τ).loc Cert.PaintReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_BestMatch_BestMatchIdeal : Prop :=
  True

def algebraic_BestMatchIdeal_BestMatchReferenceIdeal_on_first_row [hBestMatchIdeal : Cert.BestMatchIdeal.Facts] [hBestMatchReferenceIdeal : Cert.BestMatchReferenceIdeal.Facts] [hOn_first_row : Cert.On_first_row.Facts] : Prop :=
  ∀ (m : (ℓ : Loc Cert.BestMatchIdeal.nD Cert.BestMatchIdeal.τ Cert.BestMatchIdeal.sig) → Buf (Elt Ideal) ℓ) (g : Dev Cert.BestMatchIdeal.nD → PrngReg)
    (m' : (ℓ : Loc Cert.BestMatchReferenceIdeal.nD Cert.BestMatchReferenceIdeal.τ Cert.BestMatchReferenceIdeal.sig) → Buf (Elt Ideal) ℓ) (g' : Dev Cert.BestMatchReferenceIdeal.nD → PrngReg), Pre_BestMatchIdeal m →
    (∀ c : Dev Cert.BestMatchIdeal.nD,
      m' ((c.tc : Thread Cert.BestMatchReferenceIdeal.nD Cert.BestMatchReferenceIdeal.τ).loc Cert.BestMatchReferenceIdeal.main_arg0) = m ((c.tc : Thread Cert.BestMatchIdeal.nD Cert.BestMatchIdeal.τ).loc Cert.BestMatchIdeal.main_arg0)
      ∧ m' ((c.tc : Thread Cert.BestMatchReferenceIdeal.nD Cert.BestMatchReferenceIdeal.τ).loc Cert.BestMatchReferenceIdeal.main_arg1) = m ((c.tc : Thread Cert.BestMatchIdeal.nD Cert.BestMatchIdeal.τ).loc Cert.BestMatchIdeal.main_arg1)) →
    ∃ (v0 : (c : Dev Cert.BestMatchIdeal.nD) → Buf (Elt Ideal) ((c.tc : Thread Cert.BestMatchIdeal.nD Cert.BestMatchIdeal.τ).loc Cert.BestMatchIdeal.main_v0_0)) (v1 : (c : Dev Cert.BestMatchIdeal.nD) → Buf (Elt Ideal) ((c.tc : Thread Cert.BestMatchIdeal.nD Cert.BestMatchIdeal.τ).loc Cert.BestMatchIdeal.main_v0_1)),
      θ_run (Cert.BestMatchIdeal.defs (F := Ideal)) (onTc (τ := Cert.BestMatchIdeal.τ) (Cert.BestMatchIdeal.main (F := Ideal))) ⟨m, fun _ => 0, g⟩ (fun r => ∀ c : Dev Cert.BestMatchIdeal.nD,
          (∀ i : (⟨2, ![8, 5120]⟩ : Shape).Idx, (Cert.On_first_row.fn (F := Ideal) (m ((c.tc : Thread Cert.BestMatchIdeal.nD Cert.BestMatchIdeal.τ).loc Cert.BestMatchIdeal.main_arg0)) (m ((c.tc : Thread Cert.BestMatchIdeal.nD Cert.BestMatchIdeal.τ).loc Cert.BestMatchIdeal.main_arg1))).1 i = 1#1 → r.2.mem ((c.tc : Thread Cert.BestMatchIdeal.nD Cert.BestMatchIdeal.τ).loc Cert.BestMatchIdeal.main_v0_0) i = v0 c i)
          ∧ (∀ i : (⟨2, ![8, 5120]⟩ : Shape).Idx, (Cert.On_first_row.fn (F := Ideal) (m ((c.tc : Thread Cert.BestMatchIdeal.nD Cert.BestMatchIdeal.τ).loc Cert.BestMatchIdeal.main_arg0)) (m ((c.tc : Thread Cert.BestMatchIdeal.nD Cert.BestMatchIdeal.τ).loc Cert.BestMatchIdeal.main_arg1))).2 i = 1#1 → r.2.mem ((c.tc : Thread Cert.BestMatchIdeal.nD Cert.BestMatchIdeal.τ).loc Cert.BestMatchIdeal.main_v0_1) i = v1 c i)
          ∧ r.2.mem ((c.tc : Thread Cert.BestMatchIdeal.nD Cert.BestMatchIdeal.τ).loc Cert.BestMatchIdeal.main_arg0) = m ((c.tc : Thread Cert.BestMatchIdeal.nD Cert.BestMatchIdeal.τ).loc Cert.BestMatchIdeal.main_arg0)
          ∧ r.2.mem ((c.tc : Thread Cert.BestMatchIdeal.nD Cert.BestMatchIdeal.τ).loc Cert.BestMatchIdeal.main_arg1) = m ((c.tc : Thread Cert.BestMatchIdeal.nD Cert.BestMatchIdeal.τ).loc Cert.BestMatchIdeal.main_arg1))
      ∧ θ_run (Cert.BestMatchReferenceIdeal.defs (F := Ideal)) (onTc (τ := Cert.BestMatchReferenceIdeal.τ) (Cert.BestMatchReferenceIdeal.main (F := Ideal))) ⟨m', fun _ => 0, g'⟩ (fun r => ∀ c : Dev Cert.BestMatchReferenceIdeal.nD,
          (∀ i : (⟨2, ![8, 5120]⟩ : Shape).Idx, (Cert.On_first_row.fn (F := Ideal) (m ((c.tc : Thread Cert.BestMatchIdeal.nD Cert.BestMatchIdeal.τ).loc Cert.BestMatchIdeal.main_arg0)) (m ((c.tc : Thread Cert.BestMatchIdeal.nD Cert.BestMatchIdeal.τ).loc Cert.BestMatchIdeal.main_arg1))).1 i = 1#1 → r.2.mem ((c.tc : Thread Cert.BestMatchReferenceIdeal.nD Cert.BestMatchReferenceIdeal.τ).loc Cert.BestMatchReferenceIdeal.main_v52) i = v0 c i)
          ∧ (∀ i : (⟨2, ![8, 5120]⟩ : Shape).Idx, (Cert.On_first_row.fn (F := Ideal) (m ((c.tc : Thread Cert.BestMatchIdeal.nD Cert.BestMatchIdeal.τ).loc Cert.BestMatchIdeal.main_arg0)) (m ((c.tc : Thread Cert.BestMatchIdeal.nD Cert.BestMatchIdeal.τ).loc Cert.BestMatchIdeal.main_arg1))).2 i = 1#1 → r.2.mem ((c.tc : Thread Cert.BestMatchReferenceIdeal.nD Cert.BestMatchReferenceIdeal.τ).loc Cert.BestMatchReferenceIdeal.main_v54) i = v1 c i)
          ∧ r.2.mem ((c.tc : Thread Cert.BestMatchReferenceIdeal.nD Cert.BestMatchReferenceIdeal.τ).loc Cert.BestMatchReferenceIdeal.main_arg0) = m' ((c.tc : Thread Cert.BestMatchReferenceIdeal.nD Cert.BestMatchReferenceIdeal.τ).loc Cert.BestMatchReferenceIdeal.main_arg0)
          ∧ r.2.mem ((c.tc : Thread Cert.BestMatchReferenceIdeal.nD Cert.BestMatchReferenceIdeal.τ).loc Cert.BestMatchReferenceIdeal.main_arg1) = m' ((c.tc : Thread Cert.BestMatchReferenceIdeal.nD Cert.BestMatchReferenceIdeal.τ).loc Cert.BestMatchReferenceIdeal.main_arg1))

def preserves_Paint_PaintIdeal : Prop :=
  True

def algebraic_PaintIdeal_PaintReferenceIdeal_pre_bounded [hPaintIdeal : Cert.PaintIdeal.Facts] [hPaintReferenceIdeal : Cert.PaintReferenceIdeal.Facts] [hPre_bounded : Cert.Pre_bounded.Facts] : Prop :=
  ∀ (m : (ℓ : Loc Cert.PaintIdeal.nD Cert.PaintIdeal.τ Cert.PaintIdeal.sig) → Buf (Elt Ideal) ℓ) (g : Dev Cert.PaintIdeal.nD → PrngReg)
    (m' : (ℓ : Loc Cert.PaintReferenceIdeal.nD Cert.PaintReferenceIdeal.τ Cert.PaintReferenceIdeal.sig) → Buf (Elt Ideal) ℓ) (g' : Dev Cert.PaintReferenceIdeal.nD → PrngReg), Pre_PaintIdeal_bounded m →
    (∀ c : Dev Cert.PaintIdeal.nD,
      m' ((c.tc : Thread Cert.PaintReferenceIdeal.nD Cert.PaintReferenceIdeal.τ).loc Cert.PaintReferenceIdeal.main_arg0) = m ((c.tc : Thread Cert.PaintIdeal.nD Cert.PaintIdeal.τ).loc Cert.PaintIdeal.main_arg0)
      ∧ m' ((c.tc : Thread Cert.PaintReferenceIdeal.nD Cert.PaintReferenceIdeal.τ).loc Cert.PaintReferenceIdeal.main_arg1) = m ((c.tc : Thread Cert.PaintIdeal.nD Cert.PaintIdeal.τ).loc Cert.PaintIdeal.main_arg1)
      ∧ m' ((c.tc : Thread Cert.PaintReferenceIdeal.nD Cert.PaintReferenceIdeal.τ).loc Cert.PaintReferenceIdeal.main_arg2) = m ((c.tc : Thread Cert.PaintIdeal.nD Cert.PaintIdeal.τ).loc Cert.PaintIdeal.main_arg2)) →
    ∃ (v0 : (c : Dev Cert.PaintIdeal.nD) → Buf (Elt Ideal) ((c.tc : Thread Cert.PaintIdeal.nD Cert.PaintIdeal.τ).loc Cert.PaintIdeal.main_v0_0)) (v1 : (c : Dev Cert.PaintIdeal.nD) → Buf (Elt Ideal) ((c.tc : Thread Cert.PaintIdeal.nD Cert.PaintIdeal.τ).loc Cert.PaintIdeal.main_v0_1)),
      θ_run (Cert.PaintIdeal.defs (F := Ideal)) (onTc (τ := Cert.PaintIdeal.τ) (Cert.PaintIdeal.main (F := Ideal))) ⟨m, fun _ => 0, g⟩ (fun r => ∀ c : Dev Cert.PaintIdeal.nD,
          r.2.mem ((c.tc : Thread Cert.PaintIdeal.nD Cert.PaintIdeal.τ).loc Cert.PaintIdeal.main_v0_0) = v0 c
          ∧ r.2.mem ((c.tc : Thread Cert.PaintIdeal.nD Cert.PaintIdeal.τ).loc Cert.PaintIdeal.main_v0_1) = v1 c
          ∧ r.2.mem ((c.tc : Thread Cert.PaintIdeal.nD Cert.PaintIdeal.τ).loc Cert.PaintIdeal.main_arg0) = m ((c.tc : Thread Cert.PaintIdeal.nD Cert.PaintIdeal.τ).loc Cert.PaintIdeal.main_arg0)
          ∧ r.2.mem ((c.tc : Thread Cert.PaintIdeal.nD Cert.PaintIdeal.τ).loc Cert.PaintIdeal.main_arg1) = m ((c.tc : Thread Cert.PaintIdeal.nD Cert.PaintIdeal.τ).loc Cert.PaintIdeal.main_arg1)
          ∧ r.2.mem ((c.tc : Thread Cert.PaintIdeal.nD Cert.PaintIdeal.τ).loc Cert.PaintIdeal.main_arg2) = m ((c.tc : Thread Cert.PaintIdeal.nD Cert.PaintIdeal.τ).loc Cert.PaintIdeal.main_arg2))
      ∧ θ_run (Cert.PaintReferenceIdeal.defs (F := Ideal)) (onTc (τ := Cert.PaintReferenceIdeal.τ) (Cert.PaintReferenceIdeal.main (F := Ideal))) ⟨m', fun _ => 0, g'⟩ (fun r => ∀ c : Dev Cert.PaintReferenceIdeal.nD,
          r.2.mem ((c.tc : Thread Cert.PaintReferenceIdeal.nD Cert.PaintReferenceIdeal.τ).loc Cert.PaintReferenceIdeal.main_v61) = v0 c
          ∧ r.2.mem ((c.tc : Thread Cert.PaintReferenceIdeal.nD Cert.PaintReferenceIdeal.τ).loc Cert.PaintReferenceIdeal.main_v339) = v1 c
          ∧ r.2.mem ((c.tc : Thread Cert.PaintReferenceIdeal.nD Cert.PaintReferenceIdeal.τ).loc Cert.PaintReferenceIdeal.main_arg0) = m' ((c.tc : Thread Cert.PaintReferenceIdeal.nD Cert.PaintReferenceIdeal.τ).loc Cert.PaintReferenceIdeal.main_arg0)
          ∧ r.2.mem ((c.tc : Thread Cert.PaintReferenceIdeal.nD Cert.PaintReferenceIdeal.τ).loc Cert.PaintReferenceIdeal.main_arg1) = m' ((c.tc : Thread Cert.PaintReferenceIdeal.nD Cert.PaintReferenceIdeal.τ).loc Cert.PaintReferenceIdeal.main_arg1)
          ∧ r.2.mem ((c.tc : Thread Cert.PaintReferenceIdeal.nD Cert.PaintReferenceIdeal.τ).loc Cert.PaintReferenceIdeal.main_arg2) = m' ((c.tc : Thread Cert.PaintReferenceIdeal.nD Cert.PaintReferenceIdeal.τ).loc Cert.PaintReferenceIdeal.main_arg2))

def Claim : Prop :=
  ∃ (hKernel : Cert.Kernel.Facts) (hKernelIdeal : Cert.KernelIdeal.Facts) (hReferenceIdeal : Cert.ReferenceIdeal.Facts) (hBestMatch : Cert.BestMatch.Facts) (hBestMatchIdeal : Cert.BestMatchIdeal.Facts) (hBestMatchReferenceIdeal : Cert.BestMatchReferenceIdeal.Facts) (hPaint : Cert.Paint.Facts) (hPaintIdeal : Cert.PaintIdeal.Facts) (hPaintReferenceIdeal : Cert.PaintReferenceIdeal.Facts) (hPre_in_range : Cert.Pre_in_range.Facts) (hPre_bounded : Cert.Pre_bounded.Facts) (hOn_first_row : Cert.On_first_row.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_BestMatch (hBestMatch := hBestMatch)
    ∧ quiescent_BestMatchIdeal (hBestMatchIdeal := hBestMatchIdeal)
    ∧ quiescent_BestMatchReferenceIdeal (hBestMatchReferenceIdeal := hBestMatchReferenceIdeal)
    ∧ quiescent_Paint (hPaint := hPaint)
    ∧ quiescent_PaintIdeal (hPaintIdeal := hPaintIdeal)
    ∧ quiescent_PaintIdeal_pre_bounded (hPaintIdeal := hPaintIdeal) (hPre_bounded := hPre_bounded)
    ∧ quiescent_PaintReferenceIdeal (hPaintReferenceIdeal := hPaintReferenceIdeal)
    ∧ quiescent_PaintReferenceIdeal_pre_bounded (hPaintReferenceIdeal := hPaintReferenceIdeal) (hPre_bounded := hPre_bounded)
    ∧ preserves_Kernel_KernelIdeal
    ∧ algebraic_KernelIdeal_ReferenceIdeal (hKernelIdeal := hKernelIdeal) (hReferenceIdeal := hReferenceIdeal) (hPre_in_range := hPre_in_range)
    ∧ preserves_BestMatch_BestMatchIdeal
    ∧ algebraic_BestMatchIdeal_BestMatchReferenceIdeal_on_first_row (hBestMatchIdeal := hBestMatchIdeal) (hBestMatchReferenceIdeal := hBestMatchReferenceIdeal) (hOn_first_row := hOn_first_row)
    ∧ preserves_Paint_PaintIdeal
    ∧ algebraic_PaintIdeal_PaintReferenceIdeal_pre_bounded (hPaintIdeal := hPaintIdeal) (hPaintReferenceIdeal := hPaintReferenceIdeal) (hPre_bounded := hPre_bounded)
-- ==== On_first_row.lean ====
abbrev S8x5120 : Shape := ⟨2, ![8, 5120]⟩
abbrev S5120x128 : Shape := ⟨2, ![5120, 128]⟩
abbrev S_ : Shape := ⟨0, ![]⟩

class Facts : Prop where
  bcast_S_S8x5120 : S_.BroadcastsInDim S8x5120 (![] : Fin 0 → Fin S8x5120.rank)

variable [Facts]

def fn {F : FTy → Type} [FloatOps F] (main_arg0 : FVec F S8x5120 .f32) (main_arg1 : FVec F S5120x128 .f32) : IVec S8x5120 1 × IVec S8x5120 1 :=
  let main_v0 : IVec S8x5120 32 := iotaInDim S8x5120 32 0
  let main_c : IVec S_ 32 := constantI S_ 32 0#32
  let main_v1 : IVec S8x5120 32 := broadcastInDim S8x5120 ![] bcast_S_S8x5120 main_c
  let main_v2 : IVec S8x5120 1 := cmpi .eq main_v0 main_v1
  (main_v2, main_v2)
-- ==== Pre_bounded.lean ====
abbrev S15360x128 : Shape := ⟨2, ![15360, 128]⟩
abbrev S5120x128 : Shape := ⟨2, ![5120, 128]⟩
abbrev S15360 : Shape := ⟨1, ![15360]⟩
abbrev S15360x1 : Shape := ⟨2, ![15360, 1]⟩
abbrev S_ : Shape := ⟨0, ![]⟩
abbrev S5120x4 : Shape := ⟨2, ![5120, 4]⟩
abbrev S16 : Shape := ⟨1, ![16]⟩
abbrev S1x16x1 : Shape := ⟨3, ![1, 16, 1]⟩
abbrev S1x1x16 : Shape := ⟨3, ![1, 1, 16]⟩
abbrev S5120x1 : Shape := ⟨2, ![5120, 1]⟩
abbrev S5120 : Shape := ⟨1, ![5120]⟩
abbrev S5120x1x1 : Shape := ⟨3, ![5120, 1, 1]⟩
abbrev S5120x16x1 : Shape := ⟨3, ![5120, 16, 1]⟩
abbrev S5120x1x16 : Shape := ⟨3, ![5120, 1, 16]⟩
abbrev S5120x16x16 : Shape := ⟨3, ![5120, 16, 16]⟩
abbrev S16x16 : Shape := ⟨2, ![16, 16]⟩
abbrev S1x16x16 : Shape := ⟨3, ![1, 16, 16]⟩

class Facts : Prop where
  slices_S15360x128_S15360x1_0_4 : S15360x128.Slices ![0, 4] S15360x1
  shapeCasts_S15360x1_S15360 : S15360x1.ShapeCasts S15360
  slices_S15360x128_S15360x1_0_5 : S15360x128.Slices ![0, 5] S15360x1
  bcast_S_S15360 : S_.BroadcastsInDim S15360 (![] : Fin 0 → Fin S15360.rank)
  slices_S5120x128_S5120x4_0_0 : S5120x128.Slices ![0, 0] S5120x4
  bcast_S16_S1x16x1_1 : S16.BroadcastsInDim S1x16x1 (![1] : Fin 1 → Fin S1x16x1.rank)
  bcast_S16_S1x1x16_2 : S16.BroadcastsInDim S1x1x16 (![2] : Fin 1 → Fin S1x1x16.rank)
  slices_S5120x4_S5120x1_0_0 : S5120x4.Slices ![0, 0] S5120x1
  shapeCasts_S5120x1_S5120 : S5120x1.ShapeCasts S5120
  bcast_S_S5120 : S_.BroadcastsInDim S5120 (![] : Fin 0 → Fin S5120.rank)
  bcast_S5120_S5120x1x1_0 : S5120.BroadcastsInDim S5120x1x1 (![0] : Fin 1 → Fin S5120x1x1.rank)
  slices_S5120x4_S5120x1_0_1 : S5120x4.Slices ![0, 1] S5120x1
  slices_S5120x4_S5120x1_0_2 : S5120x4.Slices ![0, 2] S5120x1
  slices_S5120x4_S5120x1_0_3 : S5120x4.Slices ![0, 3] S5120x1
  bcast_S1x16x1_S5120x16x1_0_1_2 : S1x16x1.BroadcastsInDim S5120x16x1 (![0, 1, 2] : Fin 3 → Fin S5120x16x1.rank)
  bcast_S5120x1x1_S5120x16x1_0_1_2 : S5120x1x1.BroadcastsInDim S5120x16x1 (![0, 1, 2] : Fin 3 → Fin S5120x16x1.rank)
  bcast_S1x1x16_S5120x1x16_0_1_2 : S1x1x16.BroadcastsInDim S5120x1x16 (![0, 1, 2] : Fin 3 → Fin S5120x1x16.rank)
  bcast_S5120x1x1_S5120x1x16_0_1_2 : S5120x1x1.BroadcastsInDim S5120x1x16 (![0, 1, 2] : Fin 3 → Fin S5120x1x16.rank)
  bcast_S5120x16x1_S5120x16x16_0_1_2 : S5120x16x1.BroadcastsInDim S5120x16x16 (![0, 1, 2] : Fin 3 → Fin S5120x16x16.rank)
  bcast_S5120x1x16_S5120x16x16_0_1_2 : S5120x1x16.BroadcastsInDim S5120x16x16 (![0, 1, 2] : Fin 3 → Fin S5120x16x16.rank)
  reducesTo_S5120x16x16_S16x16_d0 : S5120x16x16.ReducesTo [0] S16x16
  h_S_ : 0 < S_.numel
  slices_S5120x128_S5120x1_0_5 : S5120x128.Slices ![0, 5] S5120x1
  slices_S5120x128_S5120x4_0_6 : S5120x128.Slices ![0, 6] S5120x4
  bcast_S5120x1x1_S5120x16x16_0_1_2 : S5120x1x1.BroadcastsInDim S5120x16x16 (![0, 1, 2] : Fin 3 → Fin S5120x16x16.rank)
  bcast_S_S5120x16x16 : S_.BroadcastsInDim S5120x16x16 (![] : Fin 0 → Fin S5120x16x16.rank)
  bcast_S16x16_S1x16x16_1_2 : S16x16.BroadcastsInDim S1x16x16 (![1, 2] : Fin 2 → Fin S1x16x16.rank)
  bcast_S1x16x16_S5120x16x16_0_1_2 : S1x16x16.BroadcastsInDim S5120x16x16 (![0, 1, 2] : Fin 3 → Fin S5120x16x16.rank)

variable [Facts]

def fn_where {F : FTy → Type} [FloatOps F] (arg0 : IVec S15360 1) (arg1 : FVec F S15360 .f32) (arg2 : FVec F S_ .f32) : FVec F S15360 .f32 :=
  let v0 : FVec F S_ .f32 := id arg2
  let v1 : FVec F S15360 .f32 := broadcastInDim S15360 ![] bcast_S_S15360 v0
  let v2 : FVec F S15360 .f32 := select arg0 arg1 v1
  v2

def fn_where_0 {F : FTy → Type} [FloatOps F] (arg0 : IVec S15360 1) (arg1 : FVec F S15360 .f32) (arg2 : FVec F S15360 .f32) : FVec F S15360 .f32 :=
  let v0 : FVec F S15360 .f32 := select arg0 arg1 arg2
  v0

def fn_where_1 {F : FTy → Type} [FloatOps F] (arg0 : IVec S5120x1x1 1) (arg1 : FVec F S5120x16x16 .f32) (arg2 : FVec F S_ .f32) : FVec F S5120x16x16 .f32 :=
  let v0 : FVec F S_ .f32 := id arg2
  let v1 : IVec S5120x16x16 1 := broadcastInDim S5120x16x16 ![0, 1, 2] bcast_S5120x1x1_S5120x16x16_0_1_2 arg0
  let v2 : FVec F S5120x16x16 .f32 := broadcastInDim S5120x16x16 ![] bcast_S_S5120x16x16 v0
  let v3 : FVec F S5120x16x16 .f32 := select v1 arg1 v2
  v3

def fn_part9 {F : FTy → Type} [FloatOps F] (main_v24 : IVec S15360 1) (main_v76 : FVec F S5120x16x16 .f32) (main_v131 : FVec F S16x16 .f32) (main_v136 : IVec S5120x1x1 1) (main_v182 : IVec S5120x16x16 1) (main_v185 : IVec S5120x1x16 1) : IVec S15360 1 × IVec S5120x16x16 1 :=
  let main_v186 : IVec S5120x16x16 1 := broadcastInDim S5120x16x16 ![0, 1, 2] bcast_S5120x1x16_S5120x16x16_0_1_2 main_v185
  let main_v187 : IVec S5120x16x16 1 := andi main_v182 main_v186
  let main_v188 : FVec F S5120x16x16 .f32 := uitofp .f32 main_v187
  let main_cst_28 : FVec F S_ .f32 := constant S_ .f32 0x00000000#32
  let main_v189 : FVec F S5120x16x16 .f32 := fn_where_1 (F := F) main_v136 main_v188 main_cst_28
  let main_v190 : FVec F S5120x16x16 .f32 := maximumf main_v76 main_v189
  let main_v191 : FVec F S1x16x16 .f32 := broadcastInDim S1x16x16 ![1, 2] bcast_S16x16_S1x16x16_1_2 main_v131
  let main_v192 : FVec F S5120x16x16 .f32 := broadcastInDim S5120x16x16 ![0, 1, 2] bcast_S1x16x16_S5120x16x16_0_1_2 main_v191
  let main_v193 : FVec F S5120x16x16 .f32 := subf main_v192 main_v76
  let main_v194 : FVec F S5120x16x16 .f32 := subf main_v193 main_v189
  let main_v195 : FVec F S5120x16x16 .f32 := mulf main_v190 main_v194
  let main_cst_29 : FVec F S_ .f32 := constant S_ .f32 0x00000000#32
  let main_v196 : FVec F S5120x16x16 .f32 := broadcastInDim S5120x16x16 ![] bcast_S_S5120x16x16 main_cst_29
  let main_v197 : IVec S5120x16x16 1 := cmpf .oge main_v195 main_v196
  (main_v24, main_v197)

def fn_part8 {F : FTy → Type} [FloatOps F] (main_v24 : IVec S15360 1) (main_v76 : FVec F S5120x16x16 .f32) (main_v131 : FVec F S16x16 .f32) (main_v136 : IVec S5120x1x1 1) (main_v139 : FVec F S1x16x1 .f32) (main_v141 : FVec F S1x1x16 .f32) (main_v147 : FVec F S5120x1x1 .f32) (main_v153 : FVec F S5120x1x1 .f32) (main_v161 : FVec F S5120x1x1 .f32) (main_v163 : FVec F S5120 .f32) : IVec S15360 1 × IVec S5120x16x16 1 :=
  let main_cst_26 : FVec F S_ .f32 := constant S_ .f32 0x3F800000#32
  let main_v164 : FVec F S5120 .f32 := broadcastInDim S5120 ![] bcast_S_S5120 main_cst_26
  let main_v165 : FVec F S5120 .f32 := subf main_v163 main_v164
  let main_cst_27 : FVec F S_ .f32 := constant S_ .f32 0x42000000#32
  let main_v166 : FVec F S5120 .f32 := broadcastInDim S5120 ![] bcast_S_S5120 main_cst_27
  let main_v167 : FVec F S5120 .f32 := Host.divf main_v165 main_v166
  let main_v168 : FVec F S5120 .f32 := Host.floor main_v167
  let main_v169 : FVec F S5120x1x1 .f32 := broadcastInDim S5120x1x1 ![0] bcast_S5120_S5120x1x1_0 main_v168
  let main_v170 : FVec F S5120x16x1 .f32 := broadcastInDim S5120x16x1 ![0, 1, 2] bcast_S1x16x1_S5120x16x1_0_1_2 main_v139
  let main_v171 : FVec F S5120x16x1 .f32 := broadcastInDim S5120x16x1 ![0, 1, 2] bcast_S5120x1x1_S5120x16x1_0_1_2 main_v153
  let main_v172 : IVec S5120x16x1 1 := cmpf .oge main_v170 main_v171
  let main_v173 : FVec F S5120x16x1 .f32 := broadcastInDim S5120x16x1 ![0, 1, 2] bcast_S1x16x1_S5120x16x1_0_1_2 main_v139
  let main_v174 : FVec F S5120x16x1 .f32 := broadcastInDim S5120x16x1 ![0, 1, 2] bcast_S5120x1x1_S5120x16x1_0_1_2 main_v169
  let main_v175 : IVec S5120x16x1 1 := cmpf .ole main_v173 main_v174
  let main_v176 : IVec S5120x16x1 1 := andi main_v172 main_v175
  let main_v177 : FVec F S5120x1x16 .f32 := broadcastInDim S5120x1x16 ![0, 1, 2] bcast_S1x1x16_S5120x1x16_0_1_2 main_v141
  let main_v178 : FVec F S5120x1x16 .f32 := broadcastInDim S5120x1x16 ![0, 1, 2] bcast_S5120x1x1_S5120x1x16_0_1_2 main_v147
  let main_v179 : IVec S5120x1x16 1 := cmpf .oge main_v177 main_v178
  let main_v180 : IVec S5120x16x16 1 := broadcastInDim S5120x16x16 ![0, 1, 2] bcast_S5120x16x1_S5120x16x16_0_1_2 main_v176
  let main_v181 : IVec S5120x16x16 1 := broadcastInDim S5120x16x16 ![0, 1, 2] bcast_S5120x1x16_S5120x16x16_0_1_2 main_v179
  let main_v182 : IVec S5120x16x16 1 := andi main_v180 main_v181
  let main_v183 : FVec F S5120x1x16 .f32 := broadcastInDim S5120x1x16 ![0, 1, 2] bcast_S1x1x16_S5120x1x16_0_1_2 main_v141
  let main_v184 : FVec F S5120x1x16 .f32 := broadcastInDim S5120x1x16 ![0, 1, 2] bcast_S5120x1x1_S5120x1x16_0_1_2 main_v161
  let main_v185 : IVec S5120x1x16 1 := cmpf .ole main_v183 main_v184
  fn_part9 (F := F) main_v24 main_v76 main_v131 main_v136 main_v182 main_v185

def fn_part7 {F : FTy → Type} [FloatOps F] (main_v24 : IVec S15360 1) (main_v76 : FVec F S5120x16x16 .f32) (main_v131 : FVec F S16x16 .f32) (main_v136 : IVec S5120x1x1 1) (main_v137 : FVec F S5120x4 .f32) (main_v139 : FVec F S1x16x1 .f32) (main_v141 : FVec F S1x1x16 .f32) (main_v143 : FVec F S5120 .f32) : IVec S15360 1 × IVec S5120x16x16 1 :=
  let main_cst_22 : FVec F S_ .f32 := constant S_ .f32 0x42000000#32
  let main_v144 : FVec F S5120 .f32 := broadcastInDim S5120 ![] bcast_S_S5120 main_cst_22
  let main_v145 : FVec F S5120 .f32 := Host.divf main_v143 main_v144
  let main_v146 : FVec F S5120 .f32 := Host.floor main_v145
  let main_v147 : FVec F S5120x1x1 .f32 := broadcastInDim S5120x1x1 ![0] bcast_S5120_S5120x1x1_0 main_v146
  let main_v148 : FVec F S5120x1 .f32 := (extractStridedSlice S5120x1 ![0, 1] · slices_S5120x4_S5120x1_0_1) main_v137
  let main_v149 : FVec F S5120 .f32 := shapeCast S5120 main_v148 shapeCasts_S5120x1_S5120
  let main_cst_23 : FVec F S_ .f32 := constant S_ .f32 0x42000000#32
  let main_v150 : FVec F S5120 .f32 := broadcastInDim S5120 ![] bcast_S_S5120 main_cst_23
  let main_v151 : FVec F S5120 .f32 := Host.divf main_v149 main_v150
  let main_v152 : FVec F S5120 .f32 := Host.floor main_v151
  let main_v153 : FVec F S5120x1x1 .f32 := broadcastInDim S5120x1x1 ![0] bcast_S5120_S5120x1x1_0 main_v152
  let main_v154 : FVec F S5120x1 .f32 := (extractStridedSlice S5120x1 ![0, 2] · slices_S5120x4_S5120x1_0_2) main_v137
  let main_v155 : FVec F S5120 .f32 := shapeCast S5120 main_v154 shapeCasts_S5120x1_S5120
  let main_cst_24 : FVec F S_ .f32 := constant S_ .f32 0x3F800000#32
  let main_v156 : FVec F S5120 .f32 := broadcastInDim S5120 ![] bcast_S_S5120 main_cst_24
  let main_v157 : FVec F S5120 .f32 := subf main_v155 main_v156
  let main_cst_25 : FVec F S_ .f32 := constant S_ .f32 0x42000000#32
  let main_v158 : FVec F S5120 .f32 := broadcastInDim S5120 ![] bcast_S_S5120 main_cst_25
  let main_v159 : FVec F S5120 .f32 := Host.divf main_v157 main_v158
  let main_v160 : FVec F S5120 .f32 := Host.floor main_v159
  let main_v161 : FVec F S5120x1x1 .f32 := broadcastInDim S5120x1x1 ![0] bcast_S5120_S5120x1x1_0 main_v160
  let main_v162 : FVec F S5120x1 .f32 := (extractStridedSlice S5120x1 ![0, 3] · slices_S5120x4_S5120x1_0_3) main_v137
  let main_v163 : FVec F S5120 .f32 := shapeCast S5120 main_v162 shapeCasts_S5120x1_S5120
  fn_part8 (F := F) main_v24 main_v76 main_v131 main_v136 main_v139 main_v141 main_v147 main_v153 main_v161 main_v163

def fn_part6 {F : FTy → Type} [FloatOps F] (main_arg1 : FVec F S5120x128 .f32) (main_v24 : IVec S15360 1) (main_v76 : FVec F S5120x16x16 .f32) (main_v81 : FVec F S1x1x16 .f32) (main_v101 : FVec F S5120x1x1 .f32) (main_v122 : IVec S5120x16x16 1) : IVec S15360 1 × IVec S5120x16x16 1 :=
  let main_v123 : FVec F S5120x1x16 .f32 := broadcastInDim S5120x1x16 ![0, 1, 2] bcast_S1x1x16_S5120x1x16_0_1_2 main_v81
  let main_v124 : FVec F S5120x1x16 .f32 := broadcastInDim S5120x1x16 ![0, 1, 2] bcast_S5120x1x1_S5120x1x16_0_1_2 main_v101
  let main_v125 : IVec S5120x1x16 1 := cmpf .ole main_v123 main_v124
  let main_v126 : IVec S5120x16x16 1 := broadcastInDim S5120x16x16 ![0, 1, 2] bcast_S5120x1x16_S5120x16x16_0_1_2 main_v125
  let main_v127 : IVec S5120x16x16 1 := andi main_v122 main_v126
  let main_v128 : FVec F S5120x16x16 .f32 := uitofp .f32 main_v127
  let main_cst_19 : FVec F S_ .f32 := constant S_ .f32 0x00000000#32
  let main_v129 : FVec F S16x16 .f32 := (fun x v => Host.reduceAdd x v reducesTo_S5120x16x16_S16x16_d0 h_S_) main_v76 main_cst_19
  let main_cst_20 : FVec F S_ .f32 := constant S_ .f32 0x00000000#32
  let main_v130 : FVec F S16x16 .f32 := (fun x v => Host.reduceAdd x v reducesTo_S5120x16x16_S16x16_d0 h_S_) main_v128 main_cst_20
  let main_v131 : FVec F S16x16 .f32 := addf main_v129 main_v130
  let main_v132 : FVec F S5120x1 .f32 := (extractStridedSlice S5120x1 ![0, 5] · slices_S5120x128_S5120x1_0_5) main_arg1
  let main_v133 : FVec F S5120 .f32 := shapeCast S5120 main_v132 shapeCasts_S5120x1_S5120
  let main_cst_21 : FVec F S_ .f32 := constant S_ .f32 0x00000000#32
  let main_v134 : FVec F S5120 .f32 := broadcastInDim S5120 ![] bcast_S_S5120 main_cst_21
  let main_v135 : IVec S5120 1 := cmpf .ogt main_v133 main_v134
  let main_v136 : IVec S5120x1x1 1 := broadcastInDim S5120x1x1 ![0] bcast_S5120_S5120x1x1_0 main_v135
  let main_v137 : FVec F S5120x4 .f32 := (extractStridedSlice S5120x4 ![0, 6] · slices_S5120x128_S5120x4_0_6) main_arg1
  let main_v138 : FVec F S16 .f32 := sitofp .f32 (iotaInDim S16 32 0)
  let main_v139 : FVec F S1x16x1 .f32 := broadcastInDim S1x16x1 ![1] bcast_S16_S1x16x1_1 main_v138
  let main_v140 : FVec F S16 .f32 := sitofp .f32 (iotaInDim S16 32 0)
  let main_v141 : FVec F S1x1x16 .f32 := broadcastInDim S1x1x16 ![2] bcast_S16_S1x1x16_2 main_v140
  let main_v142 : FVec F S5120x1 .f32 := (extractStridedSlice S5120x1 ![0, 0] · slices_S5120x4_S5120x1_0_0) main_v137
  let main_v143 : FVec F S5120 .f32 := shapeCast S5120 main_v142 shapeCasts_S5120x1_S5120
  fn_part7 (F := F) main_v24 main_v76 main_v131 main_v136 main_v137 main_v139 main_v141 main_v143

def fn_part5 {F : FTy → Type} [FloatOps F] (main_arg1 : FVec F S5120x128 .f32) (main_v24 : IVec S15360 1) (main_v76 : FVec F S5120x16x16 .f32) (main_v77 : FVec F S5120x4 .f32) (main_v79 : FVec F S1x16x1 .f32) (main_v81 : FVec F S1x1x16 .f32) (main_v87 : FVec F S5120x1x1 .f32) (main_v93 : FVec F S5120x1x1 .f32) (main_v100 : FVec F S5120 .f32) : IVec S15360 1 × IVec S5120x16x16 1 :=
  let main_v101 : FVec F S5120x1x1 .f32 := broadcastInDim S5120x1x1 ![0] bcast_S5120_S5120x1x1_0 main_v100
  let main_v102 : FVec F S5120x1 .f32 := (extractStridedSlice S5120x1 ![0, 3] · slices_S5120x4_S5120x1_0_3) main_v77
  let main_v103 : FVec F S5120 .f32 := shapeCast S5120 main_v102 shapeCasts_S5120x1_S5120
  let main_cst_17 : FVec F S_ .f32 := constant S_ .f32 0x3F800000#32
  let main_v104 : FVec F S5120 .f32 := broadcastInDim S5120 ![] bcast_S_S5120 main_cst_17
  let main_v105 : FVec F S5120 .f32 := subf main_v103 main_v104
  let main_cst_18 : FVec F S_ .f32 := constant S_ .f32 0x42000000#32
  let main_v106 : FVec F S5120 .f32 := broadcastInDim S5120 ![] bcast_S_S5120 main_cst_18
  let main_v107 : FVec F S5120 .f32 := Host.divf main_v105 main_v106
  let main_v108 : FVec F S5120 .f32 := Host.floor main_v107
  let main_v109 : FVec F S5120x1x1 .f32 := broadcastInDim S5120x1x1 ![0] bcast_S5120_S5120x1x1_0 main_v108
  let main_v110 : FVec F S5120x16x1 .f32 := broadcastInDim S5120x16x1 ![0, 1, 2] bcast_S1x16x1_S5120x16x1_0_1_2 main_v79
  let main_v111 : FVec F S5120x16x1 .f32 := broadcastInDim S5120x16x1 ![0, 1, 2] bcast_S5120x1x1_S5120x16x1_0_1_2 main_v93
  let main_v112 : IVec S5120x16x1 1 := cmpf .oge main_v110 main_v111
  let main_v113 : FVec F S5120x16x1 .f32 := broadcastInDim S5120x16x1 ![0, 1, 2] bcast_S1x16x1_S5120x16x1_0_1_2 main_v79
  let main_v114 : FVec F S5120x16x1 .f32 := broadcastInDim S5120x16x1 ![0, 1, 2] bcast_S5120x1x1_S5120x16x1_0_1_2 main_v109
  let main_v115 : IVec S5120x16x1 1 := cmpf .ole main_v113 main_v114
  let main_v116 : IVec S5120x16x1 1 := andi main_v112 main_v115
  let main_v117 : FVec F S5120x1x16 .f32 := broadcastInDim S5120x1x16 ![0, 1, 2] bcast_S1x1x16_S5120x1x16_0_1_2 main_v81
  let main_v118 : FVec F S5120x1x16 .f32 := broadcastInDim S5120x1x16 ![0, 1, 2] bcast_S5120x1x1_S5120x1x16_0_1_2 main_v87
  let main_v119 : IVec S5120x1x16 1 := cmpf .oge main_v117 main_v118
  let main_v120 : IVec S5120x16x16 1 := broadcastInDim S5120x16x16 ![0, 1, 2] bcast_S5120x16x1_S5120x16x16_0_1_2 main_v116
  let main_v121 : IVec S5120x16x16 1 := broadcastInDim S5120x16x16 ![0, 1, 2] bcast_S5120x1x16_S5120x16x16_0_1_2 main_v119
  let main_v122 : IVec S5120x16x16 1 := andi main_v120 main_v121
  fn_part6 (F := F) main_arg1 main_v24 main_v76 main_v81 main_v101 main_v122

def fn_part4 {F : FTy → Type} [FloatOps F] (main_arg1 : FVec F S5120x128 .f32) (main_v24 : IVec S15360 1) (main_v76 : FVec F S5120x16x16 .f32) (main_v77 : FVec F S5120x4 .f32) (main_v79 : FVec F S1x16x1 .f32) (main_v80 : FVec F S16 .f32) : IVec S15360 1 × IVec S5120x16x16 1 :=
  let main_v81 : FVec F S1x1x16 .f32 := broadcastInDim S1x1x16 ![2] bcast_S16_S1x1x16_2 main_v80
  let main_v82 : FVec F S5120x1 .f32 := (extractStridedSlice S5120x1 ![0, 0] · slices_S5120x4_S5120x1_0_0) main_v77
  let main_v83 : FVec F S5120 .f32 := shapeCast S5120 main_v82 shapeCasts_S5120x1_S5120
  let main_cst_13 : FVec F S_ .f32 := constant S_ .f32 0x42000000#32
  let main_v84 : FVec F S5120 .f32 := broadcastInDim S5120 ![] bcast_S_S5120 main_cst_13
  let main_v85 : FVec F S5120 .f32 := Host.divf main_v83 main_v84
  let main_v86 : FVec F S5120 .f32 := Host.floor main_v85
  let main_v87 : FVec F S5120x1x1 .f32 := broadcastInDim S5120x1x1 ![0] bcast_S5120_S5120x1x1_0 main_v86
  let main_v88 : FVec F S5120x1 .f32 := (extractStridedSlice S5120x1 ![0, 1] · slices_S5120x4_S5120x1_0_1) main_v77
  let main_v89 : FVec F S5120 .f32 := shapeCast S5120 main_v88 shapeCasts_S5120x1_S5120
  let main_cst_14 : FVec F S_ .f32 := constant S_ .f32 0x42000000#32
  let main_v90 : FVec F S5120 .f32 := broadcastInDim S5120 ![] bcast_S_S5120 main_cst_14
  let main_v91 : FVec F S5120 .f32 := Host.divf main_v89 main_v90
  let main_v92 : FVec F S5120 .f32 := Host.floor main_v91
  let main_v93 : FVec F S5120x1x1 .f32 := broadcastInDim S5120x1x1 ![0] bcast_S5120_S5120x1x1_0 main_v92
  let main_v94 : FVec F S5120x1 .f32 := (extractStridedSlice S5120x1 ![0, 2] · slices_S5120x4_S5120x1_0_2) main_v77
  let main_v95 : FVec F S5120 .f32 := shapeCast S5120 main_v94 shapeCasts_S5120x1_S5120
  let main_cst_15 : FVec F S_ .f32 := constant S_ .f32 0x3F800000#32
  let main_v96 : FVec F S5120 .f32 := broadcastInDim S5120 ![] bcast_S_S5120 main_cst_15
  let main_v97 : FVec F S5120 .f32 := subf main_v95 main_v96
  let main_cst_16 : FVec F S_ .f32 := constant S_ .f32 0x42000000#32
  let main_v98 : FVec F S5120 .f32 := broadcastInDim S5120 ![] bcast_S_S5120 main_cst_16
  let main_v99 : FVec F S5120 .f32 := Host.divf main_v97 main_v98
  let main_v100 : FVec F S5120 .f32 := Host.floor main_v99
  fn_part5 (F := F) main_arg1 main_v24 main_v76 main_v77 main_v79 main_v81 main_v87 main_v93 main_v100

def fn_part3 {F : FTy → Type} [FloatOps F] (main_arg1 : FVec F S5120x128 .f32) (main_arg2 : FVec F S5120x128 .f32) (main_v24 : IVec S15360 1) (main_v27 : FVec F S1x16x1 .f32) (main_v29 : FVec F S1x1x16 .f32) (main_v35 : FVec F S5120x1x1 .f32) (main_v41 : FVec F S5120x1x1 .f32) (main_v49 : FVec F S5120x1x1 .f32) (main_v56 : FVec F S5120 .f32) : IVec S15360 1 × IVec S5120x16x16 1 :=
  let main_v57 : FVec F S5120x1x1 .f32 := broadcastInDim S5120x1x1 ![0] bcast_S5120_S5120x1x1_0 main_v56
  let main_v58 : FVec F S5120x16x1 .f32 := broadcastInDim S5120x16x1 ![0, 1, 2] bcast_S1x16x1_S5120x16x1_0_1_2 main_v27
  let main_v59 : FVec F S5120x16x1 .f32 := broadcastInDim S5120x16x1 ![0, 1, 2] bcast_S5120x1x1_S5120x16x1_0_1_2 main_v41
  let main_v60 : IVec S5120x16x1 1 := cmpf .oge main_v58 main_v59
  let main_v61 : FVec F S5120x16x1 .f32 := broadcastInDim S5120x16x1 ![0, 1, 2] bcast_S1x16x1_S5120x16x1_0_1_2 main_v27
  let main_v62 : FVec F S5120x16x1 .f32 := broadcastInDim S5120x16x1 ![0, 1, 2] bcast_S5120x1x1_S5120x16x1_0_1_2 main_v57
  let main_v63 : IVec S5120x16x1 1 := cmpf .ole main_v61 main_v62
  let main_v64 : IVec S5120x16x1 1 := andi main_v60 main_v63
  let main_v65 : FVec F S5120x1x16 .f32 := broadcastInDim S5120x1x16 ![0, 1, 2] bcast_S1x1x16_S5120x1x16_0_1_2 main_v29
  let main_v66 : FVec F S5120x1x16 .f32 := broadcastInDim S5120x1x16 ![0, 1, 2] bcast_S5120x1x1_S5120x1x16_0_1_2 main_v35
  let main_v67 : IVec S5120x1x16 1 := cmpf .oge main_v65 main_v66
  let main_v68 : IVec S5120x16x16 1 := broadcastInDim S5120x16x16 ![0, 1, 2] bcast_S5120x16x1_S5120x16x16_0_1_2 main_v64
  let main_v69 : IVec S5120x16x16 1 := broadcastInDim S5120x16x16 ![0, 1, 2] bcast_S5120x1x16_S5120x16x16_0_1_2 main_v67
  let main_v70 : IVec S5120x16x16 1 := andi main_v68 main_v69
  let main_v71 : FVec F S5120x1x16 .f32 := broadcastInDim S5120x1x16 ![0, 1, 2] bcast_S1x1x16_S5120x1x16_0_1_2 main_v29
  let main_v72 : FVec F S5120x1x16 .f32 := broadcastInDim S5120x1x16 ![0, 1, 2] bcast_S5120x1x1_S5120x1x16_0_1_2 main_v49
  let main_v73 : IVec S5120x1x16 1 := cmpf .ole main_v71 main_v72
  let main_v74 : IVec S5120x16x16 1 := broadcastInDim S5120x16x16 ![0, 1, 2] bcast_S5120x1x16_S5120x16x16_0_1_2 main_v73
  let main_v75 : IVec S5120x16x16 1 := andi main_v70 main_v74
  let main_v76 : FVec F S5120x16x16 .f32 := uitofp .f32 main_v75
  let main_v77 : FVec F S5120x4 .f32 := (extractStridedSlice S5120x4 ![0, 0] · slices_S5120x128_S5120x4_0_0) main_arg2
  let main_v78 : FVec F S16 .f32 := sitofp .f32 (iotaInDim S16 32 0)
  let main_v79 : FVec F S1x16x1 .f32 := broadcastInDim S1x16x1 ![1] bcast_S16_S1x16x1_1 main_v78
  let main_v80 : FVec F S16 .f32 := sitofp .f32 (iotaInDim S16 32 0)
  fn_part4 (F := F) main_arg1 main_v24 main_v76 main_v77 main_v79 main_v80

def fn_part2 {F : FTy → Type} [FloatOps F] (main_arg1 : FVec F S5120x128 .f32) (main_arg2 : FVec F S5120x128 .f32) (main_v24 : IVec S15360 1) (main_v25 : FVec F S5120x4 .f32) (main_v27 : FVec F S1x16x1 .f32) (main_v29 : FVec F S1x1x16 .f32) (main_v35 : FVec F S5120x1x1 .f32) (main_v37 : FVec F S5120 .f32) : IVec S15360 1 × IVec S5120x16x16 1 :=
  let main_cst_8 : FVec F S_ .f32 := constant S_ .f32 0x42000000#32
  let main_v38 : FVec F S5120 .f32 := broadcastInDim S5120 ![] bcast_S_S5120 main_cst_8
  let main_v39 : FVec F S5120 .f32 := Host.divf main_v37 main_v38
  let main_v40 : FVec F S5120 .f32 := Host.floor main_v39
  let main_v41 : FVec F S5120x1x1 .f32 := broadcastInDim S5120x1x1 ![0] bcast_S5120_S5120x1x1_0 main_v40
  let main_v42 : FVec F S5120x1 .f32 := (extractStridedSlice S5120x1 ![0, 2] · slices_S5120x4_S5120x1_0_2) main_v25
  let main_v43 : FVec F S5120 .f32 := shapeCast S5120 main_v42 shapeCasts_S5120x1_S5120
  let main_cst_9 : FVec F S_ .f32 := constant S_ .f32 0x3F800000#32
  let main_v44 : FVec F S5120 .f32 := broadcastInDim S5120 ![] bcast_S_S5120 main_cst_9
  let main_v45 : FVec F S5120 .f32 := subf main_v43 main_v44
  let main_cst_10 : FVec F S_ .f32 := constant S_ .f32 0x42000000#32
  let main_v46 : FVec F S5120 .f32 := broadcastInDim S5120 ![] bcast_S_S5120 main_cst_10
  let main_v47 : FVec F S5120 .f32 := Host.divf main_v45 main_v46
  let main_v48 : FVec F S5120 .f32 := Host.floor main_v47
  let main_v49 : FVec F S5120x1x1 .f32 := broadcastInDim S5120x1x1 ![0] bcast_S5120_S5120x1x1_0 main_v48
  let main_v50 : FVec F S5120x1 .f32 := (extractStridedSlice S5120x1 ![0, 3] · slices_S5120x4_S5120x1_0_3) main_v25
  let main_v51 : FVec F S5120 .f32 := shapeCast S5120 main_v50 shapeCasts_S5120x1_S5120
  let main_cst_11 : FVec F S_ .f32 := constant S_ .f32 0x3F800000#32
  let main_v52 : FVec F S5120 .f32 := broadcastInDim S5120 ![] bcast_S_S5120 main_cst_11
  let main_v53 : FVec F S5120 .f32 := subf main_v51 main_v52
  let main_cst_12 : FVec F S_ .f32 := constant S_ .f32 0x42000000#32
  let main_v54 : FVec F S5120 .f32 := broadcastInDim S5120 ![] bcast_S_S5120 main_cst_12
  let main_v55 : FVec F S5120 .f32 := Host.divf main_v53 main_v54
  let main_v56 : FVec F S5120 .f32 := Host.floor main_v55
  fn_part3 (F := F) main_arg1 main_arg2 main_v24 main_v27 main_v29 main_v35 main_v41 main_v49 main_v56

def fn_part1 {F : FTy → Type} [FloatOps F] (main_arg1 : FVec F S5120x128 .f32) (main_arg2 : FVec F S5120x128 .f32) (main_v0 : IVec S15360 32) (main_v2 : FVec F S15360 .f32) (main_v4 : FVec F S15360 .f32) (main_v10 : FVec F S15360 .f32) (main_v13 : FVec F S15360 .f32) (main_v15 : IVec S15360 1) (main_v16 : FVec F S15360 .f32) : IVec S15360 1 × IVec S5120x16x16 1 :=
  let main_v17 : FVec F S15360 .f32 := subf main_v16 main_v2
  let main_v18 : FVec F S15360 .f32 := mulf main_v17 main_v4
  let main_c_5 : IVec S_ 32 := constantI S_ 32 10240#32
  let main_v19 : IVec S15360 32 := broadcastInDim S15360 ![] bcast_S_S15360 main_c_5
  let main_v20 : IVec S15360 1 := cmpi .slt main_v0 main_v19
  let main_v21 : FVec F S15360 .f32 := fn_where_0 (F := F) main_v20 main_v10 main_v13
  let main_v22 : FVec F S15360 .f32 := fn_where_0 (F := F) main_v15 main_v18 main_v21
  let main_cst_6 : FVec F S_ .f32 := constant S_ .f32 0x4E6E6B28#32
  let main_v23 : FVec F S15360 .f32 := broadcastInDim S15360 ![] bcast_S_S15360 main_cst_6
  let main_v24 : IVec S15360 1 := cmpf .ole main_v22 main_v23
  let main_v25 : FVec F S5120x4 .f32 := (extractStridedSlice S5120x4 ![0, 0] · slices_S5120x128_S5120x4_0_0) main_arg1
  let main_v26 : FVec F S16 .f32 := sitofp .f32 (iotaInDim S16 32 0)
  let main_v27 : FVec F S1x16x1 .f32 := broadcastInDim S1x16x1 ![1] bcast_S16_S1x16x1_1 main_v26
  let main_v28 : FVec F S16 .f32 := sitofp .f32 (iotaInDim S16 32 0)
  let main_v29 : FVec F S1x1x16 .f32 := broadcastInDim S1x1x16 ![2] bcast_S16_S1x1x16_2 main_v28
  let main_v30 : FVec F S5120x1 .f32 := (extractStridedSlice S5120x1 ![0, 0] · slices_S5120x4_S5120x1_0_0) main_v25
  let main_v31 : FVec F S5120 .f32 := shapeCast S5120 main_v30 shapeCasts_S5120x1_S5120
  let main_cst_7 : FVec F S_ .f32 := constant S_ .f32 0x42000000#32
  let main_v32 : FVec F S5120 .f32 := broadcastInDim S5120 ![] bcast_S_S5120 main_cst_7
  let main_v33 : FVec F S5120 .f32 := Host.divf main_v31 main_v32
  let main_v34 : FVec F S5120 .f32 := Host.floor main_v33
  let main_v35 : FVec F S5120x1x1 .f32 := broadcastInDim S5120x1x1 ![0] bcast_S5120_S5120x1x1_0 main_v34
  let main_v36 : FVec F S5120x1 .f32 := (extractStridedSlice S5120x1 ![0, 1] · slices_S5120x4_S5120x1_0_1) main_v25
  let main_v37 : FVec F S5120 .f32 := shapeCast S5120 main_v36 shapeCasts_S5120x1_S5120
  fn_part2 (F := F) main_arg1 main_arg2 main_v24 main_v25 main_v27 main_v29 main_v35 main_v37

def fn {F : FTy → Type} [FloatOps F] (main_arg0 : FVec F S15360x128 .f32) (main_arg1 : FVec F S5120x128 .f32) (main_arg2 : FVec F S5120x128 .f32) : IVec S15360 1 × IVec S5120x16x16 1 :=
  let main_v0 : IVec S15360 32 := iotaInDim S15360 32 0
  let main_v1 : FVec F S15360x1 .f32 := (extractStridedSlice S15360x1 ![0, 4] · slices_S15360x128_S15360x1_0_4) main_arg0
  let main_v2 : FVec F S15360 .f32 := shapeCast S15360 main_v1 shapeCasts_S15360x1_S15360
  let main_v3 : FVec F S15360x1 .f32 := (extractStridedSlice S15360x1 ![0, 5] · slices_S15360x128_S15360x1_0_5) main_arg0
  let main_v4 : FVec F S15360 .f32 := shapeCast S15360 main_v3 shapeCasts_S15360x1_S15360
  let main_cst : FVec F S_ .f32 := constant S_ .f32 0x00000000#32
  let main_v5 : FVec F S15360 .f32 := broadcastInDim S15360 ![] bcast_S_S15360 main_cst
  let main_v6 : IVec S15360 1 := cmpf .ogt main_v2 main_v5
  let main_cst_0 : FVec F S_ .f32 := constant S_ .f32 0x3F800000#32
  let main_v7 : FVec F S15360 .f32 := broadcastInDim S15360 ![] bcast_S_S15360 main_cst_0
  let main_v8 : FVec F S15360 .f32 := subf main_v7 main_v2
  let main_v9 : FVec F S15360 .f32 := mulf main_v8 main_v4
  let main_cst_1 : FVec F S_ .f32 := constant S_ .f32 0x00000000#32
  let main_v10 : FVec F S15360 .f32 := fn_where (F := F) main_v6 main_v9 main_cst_1
  let main_cst_2 : FVec F S_ .f32 := constant S_ .f32 0x3F000000#32
  let main_v11 : FVec F S15360 .f32 := broadcastInDim S15360 ![] bcast_S_S15360 main_cst_2
  let main_v12 : IVec S15360 1 := cmpf .olt main_v2 main_v11
  let main_cst_3 : FVec F S_ .f32 := constant S_ .f32 0x00000000#32
  let main_v13 : FVec F S15360 .f32 := fn_where (F := F) main_v12 main_v4 main_cst_3
  let main_c : IVec S_ 32 := constantI S_ 32 5120#32
  let main_v14 : IVec S15360 32 := broadcastInDim S15360 ![] bcast_S_S15360 main_c
  let main_v15 : IVec S15360 1 := cmpi .slt main_v0 main_v14
  let main_cst_4 : FVec F S_ .f32 := constant S_ .f32 0x3F800000#32
  let main_v16 : FVec F S15360 .f32 := broadcastInDim S15360 ![] bcast_S_S15360 main_cst_4
  fn_part1 (F := F) main_arg1 main_arg2 main_v0 main_v2 main_v4 main_v10 main_v13 main_v15 main_v16
-- ==== Pre_in_range.lean ====
abbrev S5120 : Shape := ⟨1, ![5120]⟩
abbrev S5000x4 : Shape := ⟨2, ![5000, 4]⟩
abbrev S5000 : Shape := ⟨1, ![5000]⟩
abbrev S_ : Shape := ⟨0, ![]⟩

class Facts : Prop where
  bcast_S_S5120 : S_.BroadcastsInDim S5120 (![] : Fin 0 → Fin S5120.rank)

variable [Facts]

def fn {F : FTy → Type} [FloatOps F] (main_arg0 : IVec S5120 32) (main_arg1 : FVec F S5120 .f32) (main_arg2 : FVec F S5000x4 .f32) (main_arg3 : FVec F S5000 .f32) : IVec S5120 1 :=
  let main_c : IVec S_ 32 := constantI S_ 32 0#32
  let main_v0 : IVec S5120 32 := broadcastInDim S5120 ![] bcast_S_S5120 main_c
  let main_v1 : IVec S5120 1 := cmpi .sge main_arg0 main_v0
  let main_c_0 : IVec S_ 32 := constantI S_ 32 5000#32
  let main_v2 : IVec S5120 32 := broadcastInDim S5120 ![] bcast_S_S5120 main_c_0
  let main_v3 : IVec S5120 1 := cmpi .slt main_arg0 main_v2
  let main_v4 : IVec S5120 1 := andi main_v1 main_v3
  main_v4
-- ==== Kernel.lean ====
abbrev S5120 : Shape := ⟨1, ![5120]⟩
abbrev S5000x4 : Shape := ⟨2, ![5000, 4]⟩
abbrev S5000 : Shape := ⟨1, ![5000]⟩
abbrev S1x4 : Shape := ⟨2, ![1, 4]⟩
abbrev S_ : Shape := ⟨0, ![]⟩
abbrev S1x1x1x4 : Shape := ⟨4, ![1, 1, 1, 4]⟩
abbrev S120x1x1x4 : Shape := ⟨4, ![120, 1, 1, 4]⟩
abbrev S120x4 : Shape := ⟨2, ![120, 4]⟩
abbrev S5120x4 : Shape := ⟨2, ![5120, 4]⟩
abbrev S120 : Shape := ⟨1, ![120]⟩
abbrev S4x5120 : Shape := ⟨2, ![4, 5120]⟩
abbrev S1x5120 : Shape := ⟨2, ![1, 5120]⟩
abbrev S9x5120 : Shape := ⟨2, ![9, 5120]⟩
abbrev S46080 : Shape := ⟨1, ![46080]⟩
abbrev S160 : Shape := ⟨1, ![160]⟩
abbrev S16 : Shape := ⟨1, ![16]⟩

abbrev nBuf : Table → Nat
  | .hbm => 28
  | .local .scVector .vmem => 21
  | _ => 0

abbrev bufTy : (tb : Table) → Fin (nBuf tb) → BufTy
  | .hbm, ⟨0, _⟩ => ⟨S5120, .i32⟩
  | .hbm, ⟨1, _⟩ => ⟨S5120, .f32⟩
  | .hbm, ⟨2, _⟩ => ⟨S5000x4, .f32⟩
  | .hbm, ⟨3, _⟩ => ⟨S5000, .f32⟩
  | .hbm, ⟨4, _⟩ => ⟨S1x4, .f32⟩
  | .hbm, ⟨5, _⟩ => ⟨S1x4, .f32⟩
  | .hbm, ⟨6, _⟩ => ⟨S_, .f32⟩
  | .hbm, ⟨7, _⟩ => ⟨S5000x4, .f32⟩
  | .hbm, ⟨8, _⟩ => ⟨S5000x4, .f32⟩
  | .hbm, ⟨9, _⟩ => ⟨S5000x4, .f32⟩
  | .hbm, ⟨10, _⟩ => ⟨S1x1x1x4, .f32⟩
  | .hbm, ⟨11, _⟩ => ⟨S120x1x1x4, .f32⟩
  | .hbm, ⟨12, _⟩ => ⟨S120x4, .f32⟩
  | .hbm, ⟨13, _⟩ => ⟨S5120x4, .f32⟩
  | .hbm, ⟨14, _⟩ => ⟨S1x1x1x4, .f32⟩
  | .hbm, ⟨15, _⟩ => ⟨S120x1x1x4, .f32⟩
  | .hbm, ⟨16, _⟩ => ⟨S120x4, .f32⟩
  | .hbm, ⟨17, _⟩ => ⟨S5120x4, .f32⟩
  | .hbm, ⟨18, _⟩ => ⟨S_, .f32⟩
  | .hbm, ⟨19, _⟩ => ⟨S120, .f32⟩
  | .hbm, ⟨20, _⟩ => ⟨S5120, .f32⟩
  | .hbm, ⟨21, _⟩ => ⟨S4x5120, .f32⟩
  | .hbm, ⟨22, _⟩ => ⟨S4x5120, .f32⟩
  | .hbm, ⟨23, _⟩ => ⟨S1x5120, .f32⟩
  | .hbm, ⟨24, _⟩ => ⟨S9x5120, .f32⟩
  | .hbm, ⟨25, _⟩ => ⟨S46080, .f32⟩
  | .hbm, ⟨26, _⟩ => ⟨S46080, .f32⟩
  | .hbm, ⟨27, _⟩ => ⟨S5120, .f32⟩
  | .local .scVector .vmem, ⟨0, _⟩ => ⟨S5120, .f32⟩
  | .local .scVector .vmem, ⟨1, _⟩ => ⟨S5120, .f32⟩
  | .local .scVector .vmem, ⟨2, _⟩ => ⟨S5120, .f32⟩
  | .local .scVector .vmem, ⟨3, _⟩ => ⟨S5120, .f32⟩
  | .local .scVector .vmem, ⟨4, _⟩ => ⟨S5120, .f32⟩
  | .local .scVector .vmem, ⟨5, _⟩ => ⟨S5120, .f32⟩
  | .local .scVector .vmem, ⟨6, _⟩ => ⟨S5120, .f32⟩
  | .local .scVector .vmem, ⟨7, _⟩ => ⟨S5120, .f32⟩
  | .local .scVector .vmem, ⟨8, _⟩ => ⟨S5120, .f32⟩
  | .local .scVector .vmem, ⟨9, _⟩ => ⟨S160, .f32⟩
  | .local .scVector .vmem, ⟨10, _⟩ => ⟨S160, .f32⟩
  | .local .scVector .vmem, ⟨11, _⟩ => ⟨S160, .f32⟩
  | .local .scVector .vmem, ⟨12, _⟩ => ⟨S160, .f32⟩
  | .local .scVector .vmem, ⟨13, _⟩ => ⟨S160, .f32⟩
  | .local .scVector .vmem, ⟨14, _⟩ => ⟨S160, .f32⟩
  | .local .scVector .vmem, ⟨15, _⟩ => ⟨S160, .f32⟩
  | .local .scVector .vmem, ⟨16, _⟩ => ⟨S160, .f32⟩
  | .local .scVector .vmem, ⟨17, _⟩ => ⟨S160, .f32⟩
  | .local .scVector .vmem, ⟨18, _⟩ => ⟨S5120, .i32⟩
  | .local .scVector .vmem, ⟨19, _⟩ => ⟨S5120, .f32⟩
  | .local .scVector .vmem, ⟨20, _⟩ => ⟨S160, .f32⟩
  | _, _ => ⟨S5120, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_arg0_scv : Ref sig .scVector := ⟨.hbm, 0, rfl⟩
abbrev main_arg1_scv : Ref sig .scVector := ⟨.hbm, 1, rfl⟩
abbrev main_v17_scv : Ref sig .scVector := ⟨.hbm, 25, rfl⟩
abbrev main_v18_0_scv : Ref sig .scVector := ⟨.hbm, 26, rfl⟩
abbrev main_v18_1_scv : Ref sig .scVector := ⟨.hbm, 27, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev cc0_scratch18 : Ref sig .scVector := ⟨.vmem, 18, rfl⟩
abbrev cc0_scratch19 : Ref sig .scVector := ⟨.vmem, 19, rfl⟩
abbrev cc0_scratch20 : Ref sig .scVector := ⟨.vmem, 20, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  let c0_i32 : BitVec 32 := 0#32
  let v3 : BitVec 32 := Scalar.addi v2 c0_i32
  let v4 : Index := Scalar.indexCast v3
  ![v4.toNat]

def k0_chk1 (v5 : IVec S16 32) : Prop :=
  (∀ a x, ((![v5] : Fin 1 → IVec S16 32) a x).toNat < S5120.size a) ∧
  (∀ a x, ((![v5] : Fin 1 → IVec S16 32) a x).toNat < S5120.size a) ∧
  (∀ a x, ((![v5] : Fin 1 → IVec S16 32) a x).toNat < S5120.size a) ∧
  (∀ a x, ((![v5] : Fin 1 → IVec S16 32) a x).toNat < S5120.size a) ∧
  (∀ a x, ((![v5] : Fin 1 → IVec S16 32) a x).toNat < S5120.size a) ∧
  (∀ a x, ((![v5] : Fin 1 → IVec S16 32) a x).toNat < S5120.size a) ∧
  (∀ a x, ((![v5] : Fin 1 → IVec S16 32) a x).toNat < S5120.size a) ∧
  (∀ a x, ((![v5] : Fin 1 → IVec S16 32) a x).toNat < S5120.size a) ∧
  (∀ a x, ((![v5] : Fin 1 → IVec S16 32) a x).toNat < S5120.size a)
theorem k0_idx1_inb : ∀ (v5 : IVec S16 32) (k0_hw1 : k0_chk1 v5), ∀ a x, ((![v5] : Fin 1 → IVec S16 32) a x).toNat < S5120.size a := fun v5 k0_hw1 => k0_hw1.1
theorem k0_idx2_inb : ∀ (v5 : IVec S16 32) (k0_hw1 : k0_chk1 v5), ∀ a x, ((![v5] : Fin 1 → IVec S16 32) a x).toNat < S5120.size a := fun v5 k0_hw1 => k0_hw1.2.1
theorem k0_idx3_inb : ∀ (v5 : IVec S16 32) (k0_hw1 : k0_chk1 v5), ∀ a x, ((![v5] : Fin 1 → IVec S16 32) a x).toNat < S5120.size a := fun v5 k0_hw1 => k0_hw1.2.2.1
theorem k0_idx4_inb : ∀ (v5 : IVec S16 32) (k0_hw1 : k0_chk1 v5), ∀ a x, ((![v5] : Fin 1 → IVec S16 32) a x).toNat < S5120.size a := fun v5 k0_hw1 => k0_hw1.2.2.2.1
theorem k0_idx5_inb : ∀ (v5 : IVec S16 32) (k0_hw1 : k0_chk1 v5), ∀ a x, ((![v5] : Fin 1 → IVec S16 32) a x).toNat < S5120.size a := fun v5 k0_hw1 => k0_hw1.2.2.2.2.1
theorem k0_idx6_inb : ∀ (v5 : IVec S16 32) (k0_hw1 : k0_chk1 v5), ∀ a x, ((![v5] : Fin 1 → IVec S16 32) a x).toNat < S5120.size a := fun v5 k0_hw1 => k0_hw1.2.2.2.2.2.1
theorem k0_idx7_inb : ∀ (v5 : IVec S16 32) (k0_hw1 : k0_chk1 v5), ∀ a x, ((![v5] : Fin 1 → IVec S16 32) a x).toNat < S5120.size a := fun v5 k0_hw1 => k0_hw1.2.2.2.2.2.2.1
theorem k0_idx8_inb : ∀ (v5 : IVec S16 32) (k0_hw1 : k0_chk1 v5), ∀ a x, ((![v5] : Fin 1 → IVec S16 32) a x).toNat < S5120.size a := fun v5 k0_hw1 => k0_hw1.2.2.2.2.2.2.2.1
theorem k0_idx9_inb : ∀ (v5 : IVec S16 32) (k0_hw1 : k0_chk1 v5), ∀ a x, ((![v5] : Fin 1 → IVec S16 32) a x).toNat < S5120.size a := fun v5 k0_hw1 => k0_hw1.2.2.2.2.2.2.2.2
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  let c16_i32 : BitVec 32 := 16#32
  let v24 : BitVec 32 := Scalar.addi v2 c16_i32
  let v25 : Index := Scalar.indexCast v24
  ![v25.toNat]

def k0_chk2 (v26 : IVec S16 32) : Prop :=
  (∀ a x, ((![v26] : Fin 1 → IVec S16 32) a x).toNat < S5120.size a) ∧
  (∀ a x, ((![v26] : Fin 1 → IVec S16 32) a x).toNat < S5120.size a) ∧
  (∀ a x, ((![v26] : Fin 1 → IVec S16 32) a x).toNat < S5120.size a) ∧
  (∀ a x, ((![v26] : Fin 1 → IVec S16 32) a x).toNat < S5120.size a) ∧
  (∀ a x, ((![v26] : Fin 1 → IVec S16 32) a x).toNat < S5120.size a) ∧
  (∀ a x, ((![v26] : Fin 1 → IVec S16 32) a x).toNat < S5120.size a) ∧
  (∀ a x, ((![v26] : Fin 1 → IVec S16 32) a x).toNat < S5120.size a) ∧
  (∀ a x, ((![v26] : Fin 1 → IVec S16 32) a x).toNat < S5120.size a) ∧
  (∀ a x, ((![v26] : Fin 1 → IVec S16 32) a x).toNat < S5120.size a)
theorem k0_idx10_inb : ∀ (v26 : IVec S16 32) (k0_hw2 : k0_chk2 v26), ∀ a x, ((![v26] : Fin 1 → IVec S16 32) a x).toNat < S5120.size a := fun v26 k0_hw2 => k0_hw2.1
theorem k0_idx11_inb : ∀ (v26 : IVec S16 32) (k0_hw2 : k0_chk2 v26), ∀ a x, ((![v26] : Fin 1 → IVec S16 32) a x).toNat < S5120.size a := fun v26 k0_hw2 => k0_hw2.2.1
theorem k0_idx12_inb : ∀ (v26 : IVec S16 32) (k0_hw2 : k0_chk2 v26), ∀ a x, ((![v26] : Fin 1 → IVec S16 32) a x).toNat < S5120.size a := fun v26 k0_hw2 => k0_hw2.2.2.1
theorem k0_idx13_inb : ∀ (v26 : IVec S16 32) (k0_hw2 : k0_chk2 v26), ∀ a x, ((![v26] : Fin 1 → IVec S16 32) a x).toNat < S5120.size a := fun v26 k0_hw2 => k0_hw2.2.2.2.1
theorem k0_idx14_inb : ∀ (v26 : IVec S16 32) (k0_hw2 : k0_chk2 v26), ∀ a x, ((![v26] : Fin 1 → IVec S16 32) a x).toNat < S5120.size a := fun v26 k0_hw2 => k0_hw2.2.2.2.2.1
theorem k0_idx15_inb : ∀ (v26 : IVec S16 32) (k0_hw2 : k0_chk2 v26), ∀ a x, ((![v26] : Fin 1 → IVec S16 32) a x).toNat < S5120.size a := fun v26 k0_hw2 => k0_hw2.2.2.2.2.2.1
theorem k0_idx16_inb : ∀ (v26 : IVec S16 32) (k0_hw2 : k0_chk2 v26), ∀ a x, ((![v26] : Fin 1 → IVec S16 32) a x).toNat < S5120.size a := fun v26 k0_hw2 => k0_hw2.2.2.2.2.2.2.1
theorem k0_idx17_inb : ∀ (v26 : IVec S16 32) (k0_hw2 : k0_chk2 v26), ∀ a x, ((![v26] : Fin 1 → IVec S16 32) a x).toNat < S5120.size a := fun v26 k0_hw2 => k0_hw2.2.2.2.2.2.2.2.1
theorem k0_idx18_inb : ∀ (v26 : IVec S16 32) (k0_hw2 : k0_chk2 v26), ∀ a x, ((![v26] : Fin 1 → IVec S16 32) a x).toNat < S5120.size a := fun v26 k0_hw2 => k0_hw2.2.2.2.2.2.2.2.2
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  let c32_i32 : BitVec 32 := 32#32
  let v45 : BitVec 32 := Scalar.addi v2 c32_i32
  let v46 : Index := Scalar.indexCast v45
  ![v46.toNat]

def k0_chk3 (v47 : IVec S16 32) : Prop :=
  (∀ a x, ((![v47] : Fin 1 → IVec S16 32) a x).toNat < S5120.size a) ∧
  (∀ a x, ((![v47] : Fin 1 → IVec S16 32) a x).toNat < S5120.size a) ∧
  (∀ a x, ((![v47] : Fin 1 → IVec S16 32) a x).toNat < S5120.size a) ∧
  (∀ a x, ((![v47] : Fin 1 → IVec S16 32) a x).toNat < S5120.size a) ∧
  (∀ a x, ((![v47] : Fin 1 → IVec S16 32) a x).toNat < S5120.size a) ∧
  (∀ a x, ((![v47] : Fin 1 → IVec S16 32) a x).toNat < S5120.size a) ∧
  (∀ a x, ((![v47] : Fin 1 → IVec S16 32) a x).toNat < S5120.size a) ∧
  (∀ a x, ((![v47] : Fin 1 → IVec S16 32) a x).toNat < S5120.size a) ∧
  (∀ a x, ((![v47] : Fin 1 → IVec S16 32) a x).toNat < S5120.size a)
theorem k0_idx19_inb : ∀ (v47 : IVec S16 32) (k0_hw3 : k0_chk3 v47), ∀ a x, ((![v47] : Fin 1 → IVec S16 32) a x).toNat < S5120.size a := fun v47 k0_hw3 => k0_hw3.1
theorem k0_idx20_inb : ∀ (v47 : IVec S16 32) (k0_hw3 : k0_chk3 v47), ∀ a x, ((![v47] : Fin 1 → IVec S16 32) a x).toNat < S5120.size a := fun v47 k0_hw3 => k0_hw3.2.1
theorem k0_idx21_inb : ∀ (v47 : IVec S16 32) (k0_hw3 : k0_chk3 v47), ∀ a x, ((![v47] : Fin 1 → IVec S16 32) a x).toNat < S5120.size a := fun v47 k0_hw3 => k0_hw3.2.2.1
theorem k0_idx22_inb : ∀ (v47 : IVec S16 32) (k0_hw3 : k0_chk3 v47), ∀ a x, ((![v47] : Fin 1 → IVec S16 32) a x).toNat < S5120.size a := fun v47 k0_hw3 => k0_hw3.2.2.2.1
theorem k0_idx23_inb : ∀ (v47 : IVec S16 32) (k0_hw3 : k0_chk3 v47), ∀ a x, ((![v47] : Fin 1 → IVec S16 32) a x).toNat < S5120.size a := fun v47 k0_hw3 => k0_hw3.2.2.2.2.1
theorem k0_idx24_inb : ∀ (v47 : IVec S16 32) (k0_hw3 : k0_chk3 v47), ∀ a x, ((![v47] : Fin 1 → IVec S16 32) a x).toNat < S5120.size a := fun v47 k0_hw3 => k0_hw3.2.2.2.2.2.1
theorem k0_idx25_inb : ∀ (v47 : IVec S16 32) (k0_hw3 : k0_chk3 v47), ∀ a x, ((![v47] : Fin 1 → IVec S16 32) a x).toNat < S5120.size a := fun v47 k0_hw3 => k0_hw3.2.2.2.2.2.2.1
theorem k0_idx26_inb : ∀ (v47 : IVec S16 32) (k0_hw3 : k0_chk3 v47), ∀ a x, ((![v47] : Fin 1 → IVec S16 32) a x).toNat < S5120.size a := fun v47 k0_hw3 => k0_hw3.2.2.2.2.2.2.2.1
theorem k0_idx27_inb : ∀ (v47 : IVec S16 32) (k0_hw3 : k0_chk3 v47), ∀ a x, ((![v47] : Fin 1 → IVec S16 32) a x).toNat < S5120.size a := fun v47 k0_hw3 => k0_hw3.2.2.2.2.2.2.2.2
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  let c48_i32 : BitVec 32 := 48#32
  let v66 : BitVec 32 := Scalar.addi v2 c48_i32
  let v67 : Index := Scalar.indexCast v66
  ![v67.toNat]

def k0_chk4 (v68 : IVec S16 32) : Prop :=
  (∀ a x, ((![v68] : Fin 1 → IVec S16 32) a x).toNat < S5120.size a) ∧
  (∀ a x, ((![v68] : Fin 1 → IVec S16 32) a x).toNat < S5120.size a) ∧
  (∀ a x, ((![v68] : Fin 1 → IVec S16 32) a x).toNat < S5120.size a) ∧
  (∀ a x, ((![v68] : Fin 1 → IVec S16 32) a x).toNat < S5120.size a) ∧
  (∀ a x, ((![v68] : Fin 1 → IVec S16 32) a x).toNat < S5120.size a) ∧
  (∀ a x, ((![v68] : Fin 1 → IVec S16 32) a x).toNat < S5120.size a) ∧
  (∀ a x, ((![v68] : Fin 1 → IVec S16 32) a x).toNat < S5120.size a) ∧
  (∀ a x, ((![v68] : Fin 1 → IVec S16 32) a x).toNat < S5120.size a) ∧
  (∀ a x, ((![v68] : Fin 1 → IVec S16 32) a x).toNat < S5120.size a)
theorem k0_idx28_inb : ∀ (v68 : IVec S16 32) (k0_hw4 : k0_chk4 v68), ∀ a x, ((![v68] : Fin 1 → IVec S16 32) a x).toNat < S5120.size a := fun v68 k0_hw4 => k0_hw4.1
theorem k0_idx29_inb : ∀ (v68 : IVec S16 32) (k0_hw4 : k0_chk4 v68), ∀ a x, ((![v68] : Fin 1 → IVec S16 32) a x).toNat < S5120.size a := fun v68 k0_hw4 => k0_hw4.2.1
theorem k0_idx30_inb : ∀ (v68 : IVec S16 32) (k0_hw4 : k0_chk4 v68), ∀ a x, ((![v68] : Fin 1 → IVec S16 32) a x).toNat < S5120.size a := fun v68 k0_hw4 => k0_hw4.2.2.1
theorem k0_idx31_inb : ∀ (v68 : IVec S16 32) (k0_hw4 : k0_chk4 v68), ∀ a x, ((![v68] : Fin 1 → IVec S16 32) a x).toNat < S5120.size a := fun v68 k0_hw4 => k0_hw4.2.2.2.1
theorem k0_idx32_inb : ∀ (v68 : IVec S16 32) (k0_hw4 : k0_chk4 v68), ∀ a x, ((![v68] : Fin 1 → IVec S16 32) a x).toNat < S5120.size a := fun v68 k0_hw4 => k0_hw4.2.2.2.2.1
theorem k0_idx33_inb : ∀ (v68 : IVec S16 32) (k0_hw4 : k0_chk4 v68), ∀ a x, ((![v68] : Fin 1 → IVec S16 32) a x).toNat < S5120.size a := fun v68 k0_hw4 => k0_hw4.2.2.2.2.2.1
theorem k0_idx34_inb : ∀ (v68 : IVec S16 32) (k0_hw4 : k0_chk4 v68), ∀ a x, ((![v68] : Fin 1 → IVec S16 32) a x).toNat < S5120.size a := fun v68 k0_hw4 => k0_hw4.2.2.2.2.2.2.1
theorem k0_idx35_inb : ∀ (v68 : IVec S16 32) (k0_hw4 : k0_chk4 v68), ∀ a x, ((![v68] : Fin 1 → IVec S16 32) a x).toNat < S5120.size a := fun v68 k0_hw4 => k0_hw4.2.2.2.2.2.2.2.1
theorem k0_idx36_inb : ∀ (v68 : IVec S16 32) (k0_hw4 : k0_chk4 v68), ∀ a x, ((![v68] : Fin 1 → IVec S16 32) a x).toNat < S5120.size a := fun v68 k0_hw4 => k0_hw4.2.2.2.2.2.2.2.2
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  let c64_i32 : BitVec 32 := 64#32
  let v87 : BitVec 32 := Scalar.addi v2 c64_i32
  let v88 : Index := Scalar.indexCast v87
  ![v88.toNat]

def k0_chk5 (v89 : IVec S16 32) : Prop :=
  (∀ a x, ((![v89] : Fin 1 → IVec S16 32) a x).toNat < S5120.size a) ∧
  (∀ a x, ((![v89] : Fin 1 → IVec S16 32) a x).toNat < S5120.size a) ∧
  (∀ a x, ((![v89] : Fin 1 → IVec S16 32) a x).toNat < S5120.size a) ∧
  (∀ a x, ((![v89] : Fin 1 → IVec S16 32) a x).toNat < S5120.size a) ∧
  (∀ a x, ((![v89] : Fin 1 → IVec S16 32) a x).toNat < S5120.size a) ∧
  (∀ a x, ((![v89] : Fin 1 → IVec S16 32) a x).toNat < S5120.size a) ∧
  (∀ a x, ((![v89] : Fin 1 → IVec S16 32) a x).toNat < S5120.size a) ∧
  (∀ a x, ((![v89] : Fin 1 → IVec S16 32) a x).toNat < S5120.size a) ∧
  (∀ a x, ((![v89] : Fin 1 → IVec S16 32) a x).toNat < S5120.size a)
theorem k0_idx37_inb : ∀ (v89 : IVec S16 32) (k0_hw5 : k0_chk5 v89), ∀ a x, ((![v89] : Fin 1 → IVec S16 32) a x).toNat < S5120.size a := fun v89 k0_hw5 => k0_hw5.1
theorem k0_idx38_inb : ∀ (v89 : IVec S16 32) (k0_hw5 : k0_chk5 v89), ∀ a x, ((![v89] : Fin 1 → IVec S16 32) a x).toNat < S5120.size a := fun v89 k0_hw5 => k0_hw5.2.1
theorem k0_idx39_inb : ∀ (v89 : IVec S16 32) (k0_hw5 : k0_chk5 v89), ∀ a x, ((![v89] : Fin 1 → IVec S16 32) a x).toNat < S5120.size a := fun v89 k0_hw5 => k0_hw5.2.2.1
theorem k0_idx40_inb : ∀ (v89 : IVec S16 32) (k0_hw5 : k0_chk5 v89), ∀ a x, ((![v89] : Fin 1 → IVec S16 32) a x).toNat < S5120.size a := fun v89 k0_hw5 => k0_hw5.2.2.2.1
theorem k0_idx41_inb : ∀ (v89 : IVec S16 32) (k0_hw5 : k0_chk5 v89), ∀ a x, ((![v89] : Fin 1 → IVec S16 32) a x).toNat < S5120.size a := fun v89 k0_hw5 => k0_hw5.2.2.2.2.1
theorem k0_idx42_inb : ∀ (v89 : IVec S16 32) (k0_hw5 : k0_chk5 v89), ∀ a x, ((![v89] : Fin 1 → IVec S16 32) a x).toNat < S5120.size a := fun v89 k0_hw5 => k0_hw5.2.2.2.2.2.1
theorem k0_idx43_inb : ∀ (v89 : IVec S16 32) (k0_hw5 : k0_chk5 v89), ∀ a x, ((![v89] : Fin 1 → IVec S16 32) a x).toNat < S5120.size a := fun v89 k0_hw5 => k0_hw5.2.2.2.2.2.2.1
theorem k0_idx44_inb : ∀ (v89 : IVec S16 32) (k0_hw5 : k0_chk5 v89), ∀ a x, ((![v89] : Fin 1 → IVec S16 32) a x).toNat < S5120.size a := fun v89 k0_hw5 => k0_hw5.2.2.2.2.2.2.2.1
theorem k0_idx45_inb : ∀ (v89 : IVec S16 32) (k0_hw5 : k0_chk5 v89), ∀ a x, ((![v89] : Fin 1 → IVec S16 32) a x).toNat < S5120.size a := fun v89 k0_hw5 => k0_hw5.2.2.2.2.2.2.2.2
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  let c80_i32 : BitVec 32 := 80#32
  let v108 : BitVec 32 := Scalar.addi v2 c80_i32
  let v109 : Index := Scalar.indexCast v108
  ![v109.toNat]

def k0_chk6 (v110 : IVec S16 32) : Prop :=
  (∀ a x, ((![v110] : Fin 1 → IVec S16 32) a x).toNat < S5120.size a) ∧
  (∀ a x, ((![v110] : Fin 1 → IVec S16 32) a x).toNat < S5120.size a) ∧
  (∀ a x, ((![v110] : Fin 1 → IVec S16 32) a x).toNat < S5120.size a) ∧
  (∀ a x, ((![v110] : Fin 1 → IVec S16 32) a x).toNat < S5120.size a) ∧
  (∀ a x, ((![v110] : Fin 1 → IVec S16 32) a x).toNat < S5120.size a) ∧
  (∀ a x, ((![v110] : Fin 1 → IVec S16 32) a x).toNat < S5120.size a) ∧
  (∀ a x, ((![v110] : Fin 1 → IVec S16 32) a x).toNat < S5120.size a) ∧
  (∀ a x, ((![v110] : Fin 1 → IVec S16 32) a x).toNat < S5120.size a) ∧
  (∀ a x, ((![v110] : Fin 1 → IVec S16 32) a x).toNat < S5120.size a)
theorem k0_idx46_inb : ∀ (v110 : IVec S16 32) (k0_hw6 : k0_chk6 v110), ∀ a x, ((![v110] : Fin 1 → IVec S16 32) a x).toNat < S5120.size a := fun v110 k0_hw6 => k0_hw6.1
theorem k0_idx47_inb : ∀ (v110 : IVec S16 32) (k0_hw6 : k0_chk6 v110), ∀ a x, ((![v110] : Fin 1 → IVec S16 32) a x).toNat < S5120.size a := fun v110 k0_hw6 => k0_hw6.2.1
theorem k0_idx48_inb : ∀ (v110 : IVec S16 32) (k0_hw6 : k0_chk6 v110), ∀ a x, ((![v110] : Fin 1 → IVec S16 32) a x).toNat < S5120.size a := fun v110 k0_hw6 => k0_hw6.2.2.1
theorem k0_idx49_inb : ∀ (v110 : IVec S16 32) (k0_hw6 : k0_chk6 v110), ∀ a x, ((![v110] : Fin 1 → IVec S16 32) a x).toNat < S5120.size a := fun v110 k0_hw6 => k0_hw6.2.2.2.1
theorem k0_idx50_inb : ∀ (v110 : IVec S16 32) (k0_hw6 : k0_chk6 v110), ∀ a x, ((![v110] : Fin 1 → IVec S16 32) a x).toNat < S5120.size a := fun v110 k0_hw6 => k0_hw6.2.2.2.2.1
theorem k0_idx51_inb : ∀ (v110 : IVec S16 32) (k0_hw6 : k0_chk6 v110), ∀ a x, ((![v110] : Fin 1 → IVec S16 32) a x).toNat < S5120.size a := fun v110 k0_hw6 => k0_hw6.2.2.2.2.2.1
theorem k0_idx52_inb : ∀ (v110 : IVec S16 32) (k0_hw6 : k0_chk6 v110), ∀ a x, ((![v110] : Fin 1 → IVec S16 32) a x).toNat < S5120.size a := fun v110 k0_hw6 => k0_hw6.2.2.2.2.2.2.1
theorem k0_idx53_inb : ∀ (v110 : IVec S16 32) (k0_hw6 : k0_chk6 v110), ∀ a x, ((![v110] : Fin 1 → IVec S16 32) a x).toNat < S5120.size a := fun v110 k0_hw6 => k0_hw6.2.2.2.2.2.2.2.1
theorem k0_idx54_inb : ∀ (v110 : IVec S16 32) (k0_hw6 : k0_chk6 v110), ∀ a x, ((![v110] : Fin 1 → IVec S16 32) a x).toNat < S5120.size a := fun v110 k0_hw6 => k0_hw6.2.2.2.2.2.2.2.2
def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  let c96_i32 : BitVec 32 := 96#32
  let v129 : BitVec 32 := Scalar.addi v2 c96_i32
  let v130 : Index := Scalar.indexCast v129
  ![v130.toNat]

def k0_chk7 (v131 : IVec S16 32) : Prop :=
  (∀ a x, ((![v131] : Fin 1 → IVec S16 32) a x).toNat < S5120.size a) ∧
  (∀ a x, ((![v131] : Fin 1 → IVec S16 32) a x).toNat < S5120.size a) ∧
  (∀ a x, ((![v131] : Fin 1 → IVec S16 32) a x).toNat < S5120.size a) ∧
  (∀ a x, ((![v131] : Fin 1 → IVec S16 32) a x).toNat < S5120.size a) ∧
  (∀ a x, ((![v131] : Fin 1 → IVec S16 32) a x).toNat < S5120.size a) ∧
  (∀ a x, ((![v131] : Fin 1 → IVec S16 32) a x).toNat < S5120.size a) ∧
  (∀ a x, ((![v131] : Fin 1 → IVec S16 32) a x).toNat < S5120.size a) ∧
  (∀ a x, ((![v131] : Fin 1 → IVec S16 32) a x).toNat < S5120.size a) ∧
  (∀ a x, ((![v131] : Fin 1 → IVec S16 32) a x).toNat < S5120.size a)
theorem k0_idx55_inb : ∀ (v131 : IVec S16 32) (k0_hw7 : k0_chk7 v131), ∀ a x, ((![v131] : Fin 1 → IVec S16 32) a x).toNat < S5120.size a := fun v131 k0_hw7 => k0_hw7.1
theorem k0_idx56_inb : ∀ (v131 : IVec S16 32) (k0_hw7 : k0_chk7 v131), ∀ a x, ((![v131] : Fin 1 → IVec S16 32) a x).toNat < S5120.size a := fun v131 k0_hw7 => k0_hw7.2.1
theorem k0_idx57_inb : ∀ (v131 : IVec S16 32) (k0_hw7 : k0_chk7 v131), ∀ a x, ((![v131] : Fin 1 → IVec S16 32) a x).toNat < S5120.size a := fun v131 k0_hw7 => k0_hw7.2.2.1
theorem k0_idx58_inb : ∀ (v131 : IVec S16 32) (k0_hw7 : k0_chk7 v131), ∀ a x, ((![v131] : Fin 1 → IVec S16 32) a x).toNat < S5120.size a := fun v131 k0_hw7 => k0_hw7.2.2.2.1
theorem k0_idx59_inb : ∀ (v131 : IVec S16 32) (k0_hw7 : k0_chk7 v131), ∀ a x, ((![v131] : Fin 1 → IVec S16 32) a x).toNat < S5120.size a := fun v131 k0_hw7 => k0_hw7.2.2.2.2.1
theorem k0_idx60_inb : ∀ (v131 : IVec S16 32) (k0_hw7 : k0_chk7 v131), ∀ a x, ((![v131] : Fin 1 → IVec S16 32) a x).toNat < S5120.size a := fun v131 k0_hw7 => k0_hw7.2.2.2.2.2.1
theorem k0_idx61_inb : ∀ (v131 : IVec S16 32) (k0_hw7 : k0_chk7 v131), ∀ a x, ((![v131] : Fin 1 → IVec S16 32) a x).toNat < S5120.size a := fun v131 k0_hw7 => k0_hw7.2.2.2.2.2.2.1
theorem k0_idx62_inb : ∀ (v131 : IVec S16 32) (k0_hw7 : k0_chk7 v131), ∀ a x, ((![v131] : Fin 1 → IVec S16 32) a x).toNat < S5120.size a := fun v131 k0_hw7 => k0_hw7.2.2.2.2.2.2.2.1
theorem k0_idx63_inb : ∀ (v131 : IVec S16 32) (k0_hw7 : k0_chk7 v131), ∀ a x, ((![v131] : Fin 1 → IVec S16 32) a x).toNat < S5120.size a := fun v131 k0_hw7 => k0_hw7.2.2.2.2.2.2.2.2
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  let c112_i32 : BitVec 32 := 112#32
  let v150 : BitVec 32 := Scalar.addi v2 c112_i32
  let v151 : Index := Scalar.indexCast v150
  ![v151.toNat]

def k0_chk8 (v152 : IVec S16 32) : Prop :=
  (∀ a x, ((![v152] : Fin 1 → IVec S16 32) a x).toNat < S5120.size a) ∧
  (∀ a x, ((![v152] : Fin 1 → IVec S16 32) a x).toNat < S5120.size a) ∧
  (∀ a x, ((![v152] : Fin 1 → IVec S16 32) a x).toNat < S5120.size a) ∧
  (∀ a x, ((![v152] : Fin 1 → IVec S16 32) a x).toNat < S5120.size a) ∧
  (∀ a x, ((![v152] : Fin 1 → IVec S16 32) a x).toNat < S5120.size a) ∧
  (∀ a x, ((![v152] : Fin 1 → IVec S16 32) a x).toNat < S5120.size a) ∧
  (∀ a x, ((![v152] : Fin 1 → IVec S16 32) a x).toNat < S5120.size a) ∧
  (∀ a x, ((![v152] : Fin 1 → IVec S16 32) a x).toNat < S5120.size a) ∧
  (∀ a x, ((![v152] : Fin 1 → IVec S16 32) a x).toNat < S5120.size a)
theorem k0_idx64_inb : ∀ (v152 : IVec S16 32) (k0_hw8 : k0_chk8 v152), ∀ a x, ((![v152] : Fin 1 → IVec S16 32) a x).toNat < S5120.size a := fun v152 k0_hw8 => k0_hw8.1
theorem k0_idx65_inb : ∀ (v152 : IVec S16 32) (k0_hw8 : k0_chk8 v152), ∀ a x, ((![v152] : Fin 1 → IVec S16 32) a x).toNat < S5120.size a := fun v152 k0_hw8 => k0_hw8.2.1
theorem k0_idx66_inb : ∀ (v152 : IVec S16 32) (k0_hw8 : k0_chk8 v152), ∀ a x, ((![v152] : Fin 1 → IVec S16 32) a x).toNat < S5120.size a := fun v152 k0_hw8 => k0_hw8.2.2.1
theorem k0_idx67_inb : ∀ (v152 : IVec S16 32) (k0_hw8 : k0_chk8 v152), ∀ a x, ((![v152] : Fin 1 → IVec S16 32) a x).toNat < S5120.size a := fun v152 k0_hw8 => k0_hw8.2.2.2.1
theorem k0_idx68_inb : ∀ (v152 : IVec S16 32) (k0_hw8 : k0_chk8 v152), ∀ a x, ((![v152] : Fin 1 → IVec S16 32) a x).toNat < S5120.size a := fun v152 k0_hw8 => k0_hw8.2.2.2.2.1
theorem k0_idx69_inb : ∀ (v152 : IVec S16 32) (k0_hw8 : k0_chk8 v152), ∀ a x, ((![v152] : Fin 1 → IVec S16 32) a x).toNat < S5120.size a := fun v152 k0_hw8 => k0_hw8.2.2.2.2.2.1
theorem k0_idx70_inb : ∀ (v152 : IVec S16 32) (k0_hw8 : k0_chk8 v152), ∀ a x, ((![v152] : Fin 1 → IVec S16 32) a x).toNat < S5120.size a := fun v152 k0_hw8 => k0_hw8.2.2.2.2.2.2.1
theorem k0_idx71_inb : ∀ (v152 : IVec S16 32) (k0_hw8 : k0_chk8 v152), ∀ a x, ((![v152] : Fin 1 → IVec S16 32) a x).toNat < S5120.size a := fun v152 k0_hw8 => k0_hw8.2.2.2.2.2.2.2.1
theorem k0_idx72_inb : ∀ (v152 : IVec S16 32) (k0_hw8 : k0_chk8 v152), ∀ a x, ((![v152] : Fin 1 → IVec S16 32) a x).toNat < S5120.size a := fun v152 k0_hw8 => k0_hw8.2.2.2.2.2.2.2.2
def k0_off9 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  let c128_i32 : BitVec 32 := 128#32
  let v171 : BitVec 32 := Scalar.addi v2 c128_i32
  let v172 : Index := Scalar.indexCast v171
  ![v172.toNat]

def k0_chk9 (v173 : IVec S16 32) : Prop :=
  (∀ a x, ((![v173] : Fin 1 → IVec S16 32) a x).toNat < S5120.size a) ∧
  (∀ a x, ((![v173] : Fin 1 → IVec S16 32) a x).toNat < S5120.size a) ∧
  (∀ a x, ((![v173] : Fin 1 → IVec S16 32) a x).toNat < S5120.size a) ∧
  (∀ a x, ((![v173] : Fin 1 → IVec S16 32) a x).toNat < S5120.size a) ∧
  (∀ a x, ((![v173] : Fin 1 → IVec S16 32) a x).toNat < S5120.size a) ∧
  (∀ a x, ((![v173] : Fin 1 → IVec S16 32) a x).toNat < S5120.size a) ∧
  (∀ a x, ((![v173] : Fin 1 → IVec S16 32) a x).toNat < S5120.size a) ∧
  (∀ a x, ((![v173] : Fin 1 → IVec S16 32) a x).toNat < S5120.size a) ∧
  (∀ a x, ((![v173] : Fin 1 → IVec S16 32) a x).toNat < S5120.size a)
theorem k0_idx73_inb : ∀ (v173 : IVec S16 32) (k0_hw9 : k0_chk9 v173), ∀ a x, ((![v173] : Fin 1 → IVec S16 32) a x).toNat < S5120.size a := fun v173 k0_hw9 => k0_hw9.1
theorem k0_idx74_inb : ∀ (v173 : IVec S16 32) (k0_hw9 : k0_chk9 v173), ∀ a x, ((![v173] : Fin 1 → IVec S16 32) a x).toNat < S5120.size a := fun v173 k0_hw9 => k0_hw9.2.1
theorem k0_idx75_inb : ∀ (v173 : IVec S16 32) (k0_hw9 : k0_chk9 v173), ∀ a x, ((![v173] : Fin 1 → IVec S16 32) a x).toNat < S5120.size a := fun v173 k0_hw9 => k0_hw9.2.2.1
theorem k0_idx76_inb : ∀ (v173 : IVec S16 32) (k0_hw9 : k0_chk9 v173), ∀ a x, ((![v173] : Fin 1 → IVec S16 32) a x).toNat < S5120.size a := fun v173 k0_hw9 => k0_hw9.2.2.2.1
theorem k0_idx77_inb : ∀ (v173 : IVec S16 32) (k0_hw9 : k0_chk9 v173), ∀ a x, ((![v173] : Fin 1 → IVec S16 32) a x).toNat < S5120.size a := fun v173 k0_hw9 => k0_hw9.2.2.2.2.1
theorem k0_idx78_inb : ∀ (v173 : IVec S16 32) (k0_hw9 : k0_chk9 v173), ∀ a x, ((![v173] : Fin 1 → IVec S16 32) a x).toNat < S5120.size a := fun v173 k0_hw9 => k0_hw9.2.2.2.2.2.1
theorem k0_idx79_inb : ∀ (v173 : IVec S16 32) (k0_hw9 : k0_chk9 v173), ∀ a x, ((![v173] : Fin 1 → IVec S16 32) a x).toNat < S5120.size a := fun v173 k0_hw9 => k0_hw9.2.2.2.2.2.2.1
theorem k0_idx80_inb : ∀ (v173 : IVec S16 32) (k0_hw9 : k0_chk9 v173), ∀ a x, ((![v173] : Fin 1 → IVec S16 32) a x).toNat < S5120.size a := fun v173 k0_hw9 => k0_hw9.2.2.2.2.2.2.2.1
theorem k0_idx81_inb : ∀ (v173 : IVec S16 32) (k0_hw9 : k0_chk9 v173), ∀ a x, ((![v173] : Fin 1 → IVec S16 32) a x).toNat < S5120.size a := fun v173 k0_hw9 => k0_hw9.2.2.2.2.2.2.2.2
def k0_off10 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  let c144_i32 : BitVec 32 := 144#32
  let v192 : BitVec 32 := Scalar.addi v2 c144_i32
  let v193 : Index := Scalar.indexCast v192
  ![v193.toNat]

def k0_chk10 (v194 : IVec S16 32) : Prop :=
  (∀ a x, ((![v194] : Fin 1 → IVec S16 32) a x).toNat < S5120.size a) ∧
  (∀ a x, ((![v194] : Fin 1 → IVec S16 32) a x).toNat < S5120.size a) ∧
  (∀ a x, ((![v194] : Fin 1 → IVec S16 32) a x).toNat < S5120.size a) ∧
  (∀ a x, ((![v194] : Fin 1 → IVec S16 32) a x).toNat < S5120.size a) ∧
  (∀ a x, ((![v194] : Fin 1 → IVec S16 32) a x).toNat < S5120.size a) ∧
  (∀ a x, ((![v194] : Fin 1 → IVec S16 32) a x).toNat < S5120.size a) ∧
  (∀ a x, ((![v194] : Fin 1 → IVec S16 32) a x).toNat < S5120.size a) ∧
  (∀ a x, ((![v194] : Fin 1 → IVec S16 32) a x).toNat < S5120.size a) ∧
  (∀ a x, ((![v194] : Fin 1 → IVec S16 32) a x).toNat < S5120.size a)
theorem k0_idx82_inb : ∀ (v194 : IVec S16 32) (k0_hw10 : k0_chk10 v194), ∀ a x, ((![v194] : Fin 1 → IVec S16 32) a x).toNat < S5120.size a := fun v194 k0_hw10 => k0_hw10.1
theorem k0_idx83_inb : ∀ (v194 : IVec S16 32) (k0_hw10 : k0_chk10 v194), ∀ a x, ((![v194] : Fin 1 → IVec S16 32) a x).toNat < S5120.size a := fun v194 k0_hw10 => k0_hw10.2.1
theorem k0_idx84_inb : ∀ (v194 : IVec S16 32) (k0_hw10 : k0_chk10 v194), ∀ a x, ((![v194] : Fin 1 → IVec S16 32) a x).toNat < S5120.size a := fun v194 k0_hw10 => k0_hw10.2.2.1
theorem k0_idx85_inb : ∀ (v194 : IVec S16 32) (k0_hw10 : k0_chk10 v194), ∀ a x, ((![v194] : Fin 1 → IVec S16 32) a x).toNat < S5120.size a := fun v194 k0_hw10 => k0_hw10.2.2.2.1
theorem k0_idx86_inb : ∀ (v194 : IVec S16 32) (k0_hw10 : k0_chk10 v194), ∀ a x, ((![v194] : Fin 1 → IVec S16 32) a x).toNat < S5120.size a := fun v194 k0_hw10 => k0_hw10.2.2.2.2.1
theorem k0_idx87_inb : ∀ (v194 : IVec S16 32) (k0_hw10 : k0_chk10 v194), ∀ a x, ((![v194] : Fin 1 → IVec S16 32) a x).toNat < S5120.size a := fun v194 k0_hw10 => k0_hw10.2.2.2.2.2.1
theorem k0_idx88_inb : ∀ (v194 : IVec S16 32) (k0_hw10 : k0_chk10 v194), ∀ a x, ((![v194] : Fin 1 → IVec S16 32) a x).toNat < S5120.size a := fun v194 k0_hw10 => k0_hw10.2.2.2.2.2.2.1
theorem k0_idx89_inb : ∀ (v194 : IVec S16 32) (k0_hw10 : k0_chk10 v194), ∀ a x, ((![v194] : Fin 1 → IVec S16 32) a x).toNat < S5120.size a := fun v194 k0_hw10 => k0_hw10.2.2.2.2.2.2.2.1
theorem k0_idx90_inb : ∀ (v194 : IVec S16 32) (k0_hw10 : k0_chk10 v194), ∀ a x, ((![v194] : Fin 1 → IVec S16 32) a x).toNat < S5120.size a := fun v194 k0_hw10 => k0_hw10.2.2.2.2.2.2.2.2
def k0_off11 (i : grid0.Coords) (c0_i32_80 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  let v213 : BitVec 32 := Scalar.addi c0_i32_80 v2
  ![v213.toNat]
@[reducible] def k0_t1_loop : Scf.Loop 32 :=
  let c0_i32_102 : BitVec 32 := 0#32
  let c320_i32 : BitVec 32 := 320#32
  let v243 : BitVec 32 := Scalar.addi c0_i32_102 c320_i32
  let c1_i32 : BitVec 32 := 1#32
  ⟨c0_i32_102, v243, c1_i32⟩
def k0_off12 (k0_t1 : Fin k0_t1_loop.trips) : Fin 1 → Nat :=
  let c0_i32_102 : BitVec 32 := 0#32
  let c1_i32 : BitVec 32 := 1#32
  let arg28 : BitVec 32 := Scf.iv c0_i32_102 c1_i32 k0_t1
  let c16_i32_104 : BitVec 32 := 16#32
  let v244 : BitVec 32 := Scalar.muli arg28 c16_i32_104
  let v245 : Index := Scalar.indexCast v244
  ![v245.toNat]

def k0_chk11 (v263 : IVec S16 32) : Prop :=
  (∀ a x, ((![v263] : Fin 1 → IVec S16 32) a x).toNat < S160.size a)
theorem k0_idx91_inb : ∀ (v263 : IVec S16 32) (k0_hw11 : k0_chk11 v263), ∀ a x, ((![v263] : Fin 1 → IVec S16 32) a x).toNat < S160.size a := fun v263 k0_hw11 => k0_hw11
def k0_off13 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S5120 : Shape := ⟨1, ![5120]⟩
abbrev S5000x4 : Shape := ⟨2, ![5000, 4]⟩
abbrev S5000 : Shape := ⟨1, ![5000]⟩
abbrev S_ : Shape := ⟨0, ![]⟩
abbrev S5120x1 : Shape := ⟨2, ![5120, 1]⟩
abbrev S5120x4 : Shape := ⟨2, ![5120, 4]⟩
abbrev S4x5120 : Shape := ⟨2, ![4, 5120]⟩
abbrev S1x5120 : Shape := ⟨2, ![1, 5120]⟩
abbrev S9x5120 : Shape := ⟨2, ![9, 5120]⟩
abbrev S5120x5120 : Shape := ⟨2, ![5120, 5120]⟩
abbrev S46080 : Shape := ⟨1, ![46080]⟩

abbrev nBuf : Space → Nat
  | .hbm => 55
  | .vmem => 0
  | .smem => 0
  | _ => 0

abbrev bufTy : (tb : Table) → Fin (tcTables nBuf tb) → BufTy
  | .hbm, ⟨0, _⟩ => ⟨S5120, .i32⟩
  | .hbm, ⟨1, _⟩ => ⟨S5120, .f32⟩
  | .hbm, ⟨2, _⟩ => ⟨S5000x4, .f32⟩
  | .hbm, ⟨3, _⟩ => ⟨S5000, .f32⟩
  | .hbm, ⟨4, _⟩ => ⟨S_, .f32⟩
  | .hbm, ⟨5, _⟩ => ⟨S5000x4, .f32⟩
  | .hbm, ⟨6, _⟩ => ⟨S5000x4, .f32⟩
  | .hbm, ⟨7, _⟩ => ⟨S5000x4, .f32⟩
  | .hbm, ⟨8, _⟩ => ⟨S_, .i32⟩
  | .hbm, ⟨9, _⟩ => ⟨S5120, .i32⟩
  | .hbm, ⟨10, _⟩ => ⟨S5120, .i1⟩
  | .hbm, ⟨11, _⟩ => ⟨S_, .i32⟩
  | .hbm, ⟨12, _⟩ => ⟨S5120, .i32⟩
  | .hbm, ⟨13, _⟩ => ⟨S5120, .i32⟩
  | .hbm, ⟨14, _⟩ => ⟨S5120, .i32⟩
  | .hbm, ⟨15, _⟩ => ⟨S5120x1, .i32⟩
  | .hbm, ⟨16, _⟩ => ⟨S5120x4, .f32⟩
  | .hbm, ⟨17, _⟩ => ⟨S4x5120, .f32⟩
  | .hbm, ⟨18, _⟩ => ⟨S_, .i32⟩
  | .hbm, ⟨19, _⟩ => ⟨S5120, .i32⟩
  | .hbm, ⟨20, _⟩ => ⟨S5120, .i1⟩
  | .hbm, ⟨21, _⟩ => ⟨S_, .i32⟩
  | .hbm, ⟨22, _⟩ => ⟨S5120, .i32⟩
  | .hbm, ⟨23, _⟩ => ⟨S5120, .i32⟩
  | .hbm, ⟨24, _⟩ => ⟨S5120, .i32⟩
  | .hbm, ⟨25, _⟩ => ⟨S5120x1, .i32⟩
  | .hbm, ⟨26, _⟩ => ⟨S5120x4, .f32⟩
  | .hbm, ⟨27, _⟩ => ⟨S4x5120, .f32⟩
  | .hbm, ⟨28, _⟩ => ⟨S_, .i32⟩
  | .hbm, ⟨29, _⟩ => ⟨S5120, .i32⟩
  | .hbm, ⟨30, _⟩ => ⟨S5120, .i1⟩
  | .hbm, ⟨31, _⟩ => ⟨S_, .i32⟩
  | .hbm, ⟨32, _⟩ => ⟨S5120, .i32⟩
  | .hbm, ⟨33, _⟩ => ⟨S5120, .i32⟩
  | .hbm, ⟨34, _⟩ => ⟨S5120, .i32⟩
  | .hbm, ⟨35, _⟩ => ⟨S5120x1, .i32⟩
  | .hbm, ⟨36, _⟩ => ⟨S5120, .f32⟩
  | .hbm, ⟨37, _⟩ => ⟨S1x5120, .f32⟩
  | .hbm, ⟨38, _⟩ => ⟨S9x5120, .f32⟩
  | .hbm, ⟨39, _⟩ => ⟨S_, .f32⟩
  | .hbm, ⟨40, _⟩ => ⟨S5120, .f32⟩
  | .hbm, ⟨41, _⟩ => ⟨S5120, .i1⟩
  | .hbm, ⟨42, _⟩ => ⟨S5120x1, .i32⟩
  | .hbm, ⟨43, _⟩ => ⟨S5120, .i32⟩
  | .hbm, ⟨44, _⟩ => ⟨S1x5120, .i32⟩
  | .hbm, ⟨45, _⟩ => ⟨S5120x5120, .i32⟩
  | .hbm, ⟨46, _⟩ => ⟨S5120x5120, .i32⟩
  | .hbm, ⟨47, _⟩ => ⟨S5120x5120, .i1⟩
  | .hbm, ⟨48, _⟩ => ⟨S5120x1, .i1⟩
  | .hbm, ⟨49, _⟩ => ⟨S5120x5120, .i1⟩
  | .hbm, ⟨50, _⟩ => ⟨S5120x5120, .i1⟩
  | .hbm, ⟨51, _⟩ => ⟨S5120x5120, .f32⟩
  | .hbm, ⟨52, _⟩ => ⟨S_, .f32⟩
  | .hbm, ⟨53, _⟩ => ⟨S5120, .f32⟩
  | .hbm, ⟨54, _⟩ => ⟨S46080, .f32⟩
  | _, _ => ⟨S5120, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== BestMatch.lean ====
abbrev S8x5120 : Shape := ⟨2, ![8, 5120]⟩
abbrev S5120x128 : Shape := ⟨2, ![5120, 128]⟩
abbrev S256x128 : Shape := ⟨2, ![256, 128]⟩
abbrev S1x5120 : Shape := ⟨2, ![1, 5120]⟩
abbrev S256x1 : Shape := ⟨2, ![256, 1]⟩
abbrev S256x5120 : Shape := ⟨2, ![256, 5120]⟩
abbrev S5120 : Shape := ⟨1, ![5120]⟩

abbrev nBuf : Space → Nat
  | .hbm => 4
  | .vmem => 5
  | .smem => 0
  | _ => 0

abbrev bufTy : (tb : Table) → Fin (tcTables nBuf tb) → BufTy
  | .hbm, ⟨0, _⟩ => ⟨S8x5120, .f32⟩
  | .hbm, ⟨1, _⟩ => ⟨S5120x128, .f32⟩
  | .hbm, ⟨2, _⟩ => ⟨S8x5120, .f32⟩
  | .hbm, ⟨3, _⟩ => ⟨S8x5120, .i32⟩
  | .local _ .vmem, ⟨0, _⟩ => ⟨S8x5120, .f32⟩
  | .local _ .vmem, ⟨1, _⟩ => ⟨S256x128, .f32⟩
  | .local _ .vmem, ⟨2, _⟩ => ⟨S256x128, .f32⟩
  | .local _ .vmem, ⟨3, _⟩ => ⟨S8x5120, .f32⟩
  | .local _ .vmem, ⟨4, _⟩ => ⟨S8x5120, .i32⟩
  | _, _ => ⟨S8x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_9 : BitVec 32 := 0#32
  let v53 : BitVec 1 := Scalar.cmpi .ne v52 c0_i32_9
  v53

def k0_cond2 (i : grid0.Coords) : BitVec 1 :=
  let arg0 : BitVec 32 := BitVec.ofNat 32 (i 0).val
  let c0_i32_10 : BitVec 32 := 0#32
  let v54 : BitVec 1 := Scalar.cmpi .sgt arg0 c0_i32_10
  let v55 : BitVec 32 := Scalar.extui v54
  let c0_i32_11 : BitVec 32 := 0#32
  let v56 : BitVec 1 := Scalar.cmpi .ne v55 c0_i32_11
  v56

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x5120 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== BestMatchReferenceIdeal.lean ====
abbrev S8x5120 : Shape := ⟨2, ![8, 5120]⟩
abbrev S5120x128 : Shape := ⟨2, ![5120, 128]⟩
abbrev S4x5120 : Shape := ⟨2, ![4, 5120]⟩
abbrev S5120x4 : Shape := ⟨2, ![5120, 4]⟩
abbrev S5120x1 : Shape := ⟨2, ![5120, 1]⟩
abbrev S5120 : Shape := ⟨1, ![5120]⟩
abbrev S1x5120 : Shape := ⟨2, ![1, 5120]⟩
abbrev S5120x5120 : Shape := ⟨2, ![5120, 5120]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S8x5120, .f32⟩
  | .hbm, ⟨1, _⟩ => ⟨S5120x128, .f32⟩
  | .hbm, ⟨2, _⟩ => ⟨S4x5120, .f32⟩
  | .hbm, ⟨3, _⟩ => ⟨S5120x4, .f32⟩
  | .hbm, ⟨4, _⟩ => ⟨S5120x4, .f32⟩
  | .hbm, ⟨5, _⟩ => ⟨S5120x1, .f32⟩
  | .hbm, ⟨6, _⟩ => ⟨S5120x1, .f32⟩
  | .hbm, ⟨7, _⟩ => ⟨S5120x1, .f32⟩
  | .hbm, ⟨8, _⟩ => ⟨S5120x1, .f32⟩
  | .hbm, ⟨9, _⟩ => ⟨S5120x1, .f32⟩
  | .hbm, ⟨10, _⟩ => ⟨S5120, .f32⟩
  | .hbm, ⟨11, _⟩ => ⟨S1x5120, .f32⟩
  | .hbm, ⟨12, _⟩ => ⟨S5120x1, .f32⟩
  | .hbm, ⟨13, _⟩ => ⟨S5120, .f32⟩
  | .hbm, ⟨14, _⟩ => ⟨S1x5120, .f32⟩
  | .hbm, ⟨15, _⟩ => ⟨S5120x1, .f32⟩
  | .hbm, ⟨16, _⟩ => ⟨S5120, .f32⟩
  | .hbm, ⟨17, _⟩ => ⟨S1x5120, .f32⟩
  | .hbm, ⟨18, _⟩ => ⟨S5120x1, .f32⟩
  | .hbm, ⟨19, _⟩ => ⟨S5120, .f32⟩
  | .hbm, ⟨20, _⟩ => ⟨S1x5120, .f32⟩
  | .hbm, ⟨21, _⟩ => ⟨S5120x5120, .f32⟩
  | .hbm, ⟨22, _⟩ => ⟨S5120x5120, .f32⟩
  | .hbm, ⟨23, _⟩ => ⟨S5120x5120, .f32⟩
  | .hbm, ⟨24, _⟩ => ⟨S5120x5120, .f32⟩
  | .hbm, ⟨25, _⟩ => ⟨S5120x5120, .f32⟩
  | .hbm, ⟨26, _⟩ => ⟨S5120x5120, .f32⟩
  | .hbm, ⟨27, _⟩ => ⟨S5120x5120, .f32⟩
  | .hbm, ⟨28, _⟩ => ⟨S5120x5120, .f32⟩
  | .hbm, ⟨29, _⟩ => ⟨S5120x5120, .f32⟩
  | .hbm, ⟨30, _⟩ => ⟨S5120x5120, .f32⟩
  | .hbm, ⟨31, _⟩ => ⟨S5120x5120, .f32⟩
  | .hbm, ⟨32, _⟩ => ⟨S5120x5120, .f32⟩
  | .hbm, ⟨33, _⟩ => ⟨S5120x5120, .f32⟩
  | .hbm, ⟨34, _⟩ => ⟨S_, .f32⟩
  | .hbm, ⟨35, _⟩ => ⟨S5120x5120, .f32⟩
  | .hbm, ⟨36, _⟩ => ⟨S5120x5120, .f32⟩
  | .hbm, ⟨37, _⟩ => ⟨S5120x5120, .f32⟩
  | .hbm, ⟨38, _⟩ => ⟨S_, .f32⟩
  | .hbm, ⟨39, _⟩ => ⟨S5120x5120, .f32⟩
  | .hbm, ⟨40, _⟩ => ⟨S5120x5120, .f32⟩
  | .hbm, ⟨41, _⟩ => ⟨S5120x5120, .f32⟩
  | .hbm, ⟨42, _⟩ => ⟨S5120x1, .f32⟩
  | .hbm, ⟨43, _⟩ => ⟨S5120x1, .f32⟩
  | .hbm, ⟨44, _⟩ => ⟨S5120x1, .f32⟩
  | .hbm, ⟨45, _⟩ => ⟨S1x5120, .f32⟩
  | .hbm, ⟨46, _⟩ => ⟨S1x5120, .f32⟩
  | .hbm, ⟨47, _⟩ => ⟨S1x5120, .f32⟩
  | .hbm, ⟨48, _⟩ => ⟨S5120x5120, .f32⟩
  | .hbm, ⟨49, _⟩ => ⟨S5120x5120, .f32⟩
  | .hbm, ⟨50, _⟩ => ⟨S5120x5120, .f32⟩
  | .hbm, ⟨51, _⟩ => ⟨S5120x5120, .f32⟩
  | .hbm, ⟨52, _⟩ => ⟨S5120x5120, .f32⟩
  | .hbm, ⟨53, _⟩ => ⟨S_, .f32⟩
  | .hbm, ⟨54, _⟩ => ⟨S5120, .f32⟩
  | .hbm, ⟨55, _⟩ => ⟨S5120x5120, .i32⟩
  | .hbm, ⟨56, _⟩ => ⟨S_, .f32⟩
  | .hbm, ⟨57, _⟩ => ⟨S_, .i32⟩
  | .hbm, ⟨58, _⟩ => ⟨S5120, .f32⟩
  | .hbm, ⟨59, _⟩ => ⟨S5120, .i32⟩
  | .hbm, ⟨60, _⟩ => ⟨S1x5120, .f32⟩
  | .hbm, ⟨61, _⟩ => ⟨S8x5120, .f32⟩
  | .hbm, ⟨62, _⟩ => ⟨S1x5120, .i32⟩
  | .hbm, ⟨63, _⟩ => ⟨S8x5120, .i32⟩
  | _, _ => ⟨S8x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_cst : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_cst_0 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_cst_1 : Ref sig .tc := ⟨.hbm, 53, rfl⟩
abbrev main_v49 : Ref sig .tc := ⟨.hbm, 54, rfl⟩
abbrev main_call0_v0 : Ref sig .tc := ⟨.hbm, 55, rfl⟩
abbrev main_call0_cst : Ref sig .tc := ⟨.hbm, 56, rfl⟩
abbrev main_call0_c : Ref sig .tc := ⟨.hbm, 57, rfl⟩
abbrev main_call0_v1_0 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩

abbrev nD : Nat := 1
abbrev τ : Topo := Topo.v7x

variable {F : FTy → Type} [FloatOps F]
-- ==== Paint.lean ====
abbrev S15360x128 : Shape := ⟨2, ![15360, 128]⟩
abbrev S5120x128 : Shape := ⟨2, ![5120, 128]⟩
abbrev S256x256 : Shape := ⟨2, ![256, 256]⟩
abbrev S16x128 : Shape := ⟨2, ![16, 128]⟩
abbrev S1x256 : Shape := ⟨2, ![1, 256]⟩
abbrev S8x128 : Shape := ⟨2, ![8, 128]⟩
abbrev S8x1 : Shape := ⟨2, ![8, 1]⟩
abbrev S8x256 : Shape := ⟨2, ![8, 256]⟩
abbrev S256x8 : Shape := ⟨2, ![256, 8]⟩
abbrev S256x1 : Shape := ⟨2, ![256, 1]⟩
abbrev S1x128 : Shape := ⟨2, ![1, 128]⟩
abbrev S5120x1 : Shape := ⟨2, ![5120, 1]⟩
abbrev S128x128 : Shape := ⟨2, ![128, 128]⟩
abbrev S5120 : Shape := ⟨1, ![5120]⟩

abbrev nBuf : Space → Nat
  | .hbm => 5
  | .vmem => 5
  | .smem => 0
  | _ => 0

abbrev bufTy : (tb : Table) → Fin (tcTables nBuf tb) → BufTy
  | .hbm, ⟨0, _⟩ => ⟨S15360x128, .f32⟩
  | .hbm, ⟨1, _⟩ => ⟨S5120x128, .f32⟩
  | .hbm, ⟨2, _⟩ => ⟨S5120x128, .f32⟩
  | .hbm, ⟨3, _⟩ => ⟨S256x256, .f32⟩
  | .hbm, ⟨4, _⟩ => ⟨S16x128, .f32⟩
  | .local _ .vmem, ⟨0, _⟩ => ⟨S15360x128, .f32⟩
  | .local _ .vmem, ⟨1, _⟩ => ⟨S5120x128, .f32⟩
  | .local _ .vmem, ⟨2, _⟩ => ⟨S5120x128, .f32⟩
  | .local _ .vmem, ⟨3, _⟩ => ⟨S256x256, .f32⟩
  | .local _ .vmem, ⟨4, _⟩ => ⟨S16x128, .f32⟩
  | _, _ => ⟨S15360x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c640_i32 : BitVec 32 := 640#32
  let v4 : BitVec 32 := Scalar.addi c0_i32 c640_i32
  let c1_i32 : BitVec 32 := 1#32
  ⟨c0_i32, v4, c1_i32⟩
def k0_off1 (k0_t1 : Fin k0_t1_loop.trips) : Fin 2 → Nat :=
  let c0_i32_94 : BitVec 32 := 0#32
  let c0_i32 : BitVec 32 := 0#32
  let c1_i32 : BitVec 32 := 1#32
  let arg5 : BitVec 32 := Scf.iv c0_i32 c1_i32 k0_t1
  let c8_i32 : BitVec 32 := 8#32
  let v290 : BitVec 32 := Scalar.muli arg5 c8_i32
  let v291 : BitVec 32 := Scalar.addi c0_i32_94 v290
  let v292 : Index := Scalar.indexCast v291
  let c0_95 : Index := 0#32
  ![v292.toNat, 0]
@[reducible] def k0_t2_loop : Scf.Loop 32 :=
  let c0_i32_4 : BitVec 32 := 0#32
  let c640_i32_5 : BitVec 32 := 640#32
  let v5 : BitVec 32 := Scalar.addi c0_i32_4 c640_i32_5
  let c1_i32_6 : BitVec 32 := 1#32
  ⟨c0_i32_4, v5, c1_i32_6⟩
def k0_off2 (k0_t2 : Fin k0_t2_loop.trips) : Fin 2 → Nat :=
  let c5120_i32 : BitVec 32 := 5120#32
  let c0_i32_4 : BitVec 32 := 0#32
  let c1_i32_6 : BitVec 32 := 1#32
  let arg5 : BitVec 32 := Scf.iv c0_i32_4 c1_i32_6 k0_t2
  let c8_i32 : BitVec 32 := 8#32
  let v290 : BitVec 32 := Scalar.muli arg5 c8_i32
  let v291 : BitVec 32 := Scalar.addi c5120_i32 v290
  let v292 : Index := Scalar.indexCast v291
  let c0_94 : Index := 0#32
  ![v292.toNat, 0]
@[reducible] def k0_t3_loop : Scf.Loop 32 :=
  let c0_i32_9 : BitVec 32 := 0#32
  let c640_i32_10 : BitVec 32 := 640#32
  let v6 : BitVec 32 := Scalar.addi c0_i32_9 c640_i32_10
  let c1_i32_11 : BitVec 32 := 1#32
  ⟨c0_i32_9, v6, c1_i32_11⟩
def k0_off3 (k0_t3 : Fin k0_t3_loop.trips) : Fin 2 → Nat :=
  let c10240_i32 : BitVec 32 := 10240#32
  let c0_i32_9 : BitVec 32 := 0#32
  let c1_i32_11 : BitVec 32 := 1#32
  let arg5 : BitVec 32 := Scf.iv c0_i32_9 c1_i32_11 k0_t3
  let c8_i32 : BitVec 32 := 8#32
  let v290 : BitVec 32 := Scalar.muli arg5 c8_i32
  let v291 : BitVec 32 := Scalar.addi c10240_i32 v290
  let v292 : Index := Scalar.indexCast v291
  let c0_94 : Index := 0#32
  ![v292.toNat, 0]
abbrev stage0_0 : Fin 1 → Memref sig .tc .vmem S15360x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== PaintReferenceIdeal.lean ====
abbrev S15360x128 : Shape := ⟨2, ![15360, 128]⟩
abbrev S5120x128 : Shape := ⟨2, ![5120, 128]⟩
abbrev S15360 : Shape := ⟨1, ![15360]⟩
abbrev S15360x1 : Shape := ⟨2, ![15360, 1]⟩
abbrev S_ : Shape := ⟨0, ![]⟩
abbrev S15360x1x1 : Shape := ⟨3, ![15360, 1, 1]⟩
abbrev S256 : Shape := ⟨1, ![256]⟩
abbrev S1x256x1 : Shape := ⟨3, ![1, 256, 1]⟩
abbrev S1x1x256 : Shape := ⟨3, ![1, 1, 256]⟩
abbrev S15360x256x1 : Shape := ⟨3, ![15360, 256, 1]⟩
abbrev S15360x1x256 : Shape := ⟨3, ![15360, 1, 256]⟩
abbrev S15360x256x256 : Shape := ⟨3, ![15360, 256, 256]⟩
abbrev S256x256 : Shape := ⟨2, ![256, 256]⟩
abbrev S5120x4 : Shape := ⟨2, ![5120, 4]⟩
abbrev S5120x1 : Shape := ⟨2, ![5120, 1]⟩
abbrev S5120 : Shape := ⟨1, ![5120]⟩
abbrev S16 : Shape := ⟨1, ![16]⟩
abbrev S1x16x1 : Shape := ⟨3, ![1, 16, 1]⟩
abbrev S1x1x16 : Shape := ⟨3, ![1, 1, 16]⟩
abbrev S5120x1x1 : Shape := ⟨3, ![5120, 1, 1]⟩
abbrev S5120x16x1 : Shape := ⟨3, ![5120, 16, 1]⟩
abbrev S5120x1x16 : Shape := ⟨3, ![5120, 1, 16]⟩
abbrev S5120x16x16 : Shape := ⟨3, ![5120, 16, 16]⟩
abbrev S16x16 : Shape := ⟨2, ![16, 16]⟩
abbrev S1x16x16 : Shape := ⟨3, ![1, 16, 16]⟩
abbrev S128 : Shape := ⟨1, ![128]⟩
abbrev S1x1x128 : Shape := ⟨3, ![1, 1, 128]⟩
abbrev S5120x1x128 : Shape := ⟨3, ![5120, 1, 128]⟩
abbrev S5120x16x128 : Shape := ⟨3, ![5120, 16, 128]⟩
abbrev S16x128 : Shape := ⟨2, ![16, 128]⟩

abbrev nBuf : Space → Nat
  | .hbm => 403
  | .vmem => 0
  | .smem => 0
  | _ => 0

abbrev hbmTy0_0 (i : Nat) : BufTy := match i % 128 with
  | 0 => ⟨S15360x128, .f32⟩
  | 1 => ⟨S5120x128, .f32⟩
  | 2 => ⟨S5120x128, .f32⟩
  | 3 => ⟨S15360, .i32⟩
  | 4 => ⟨S15360x1, .f32⟩
  | 5 => ⟨S15360, .f32⟩
  | 6 => ⟨S15360x1, .f32⟩
  | 7 => ⟨S15360, .f32⟩
  | 8 => ⟨S_, .f32⟩
  | 9 => ⟨S15360, .f32⟩
  | 10 => ⟨S15360, .i1⟩
  | 11 => ⟨S_, .f32⟩
  | 12 => ⟨S15360, .f32⟩
  | 13 => ⟨S15360, .f32⟩
  | 14 => ⟨S15360, .f32⟩
  | 15 => ⟨S_, .f32⟩
  | 16 => ⟨S_, .f32⟩
  | 17 => ⟨S15360, .f32⟩
  | 18 => ⟨S15360, .f32⟩
  | 19 => ⟨S_, .f32⟩
  | 20 => ⟨S15360, .f32⟩
  | 21 => ⟨S15360, .i1⟩
  | 22 => ⟨S_, .f32⟩
  | 23 => ⟨S_, .f32⟩
  | 24 => ⟨S15360, .f32⟩
  | 25 => ⟨S15360, .f32⟩
  | 26 => ⟨S_, .i32⟩
  | 27 => ⟨S15360, .i32⟩
  | 28 => ⟨S15360, .i1⟩
  | 29 => ⟨S_, .f32⟩
  | 30 => ⟨S15360, .f32⟩
  | 31 => ⟨S15360, .f32⟩
  | 32 => ⟨S15360, .f32⟩
  | 33 => ⟨S_, .i32⟩
  | 34 => ⟨S15360, .i32⟩
  | 35 => ⟨S15360, .i1⟩
  | 36 => ⟨S15360, .f32⟩
  | 37 => ⟨S15360, .f32⟩
  | 38 => ⟨S15360x1x1, .f32⟩
  | 39 => ⟨S15360x1, .f32⟩
  | 40 => ⟨S15360, .f32⟩
  | 41 => ⟨S15360x1x1, .f32⟩
  | 42 => ⟨S15360x1, .f32⟩
  | 43 => ⟨S15360, .f32⟩
  | 44 => ⟨S15360x1x1, .f32⟩
  | 45 => ⟨S15360x1, .f32⟩
  | 46 => ⟨S15360, .f32⟩
  | 47 => ⟨S15360x1x1, .f32⟩
  | 48 => ⟨S15360x1, .f32⟩
  | 49 => ⟨S15360, .f32⟩
  | 50 => ⟨S15360x1x1, .f32⟩
  | 51 => ⟨S256, .f32⟩
  | 52 => ⟨S1x256x1, .f32⟩
  | 53 => ⟨S256, .f32⟩
  | 54 => ⟨S1x1x256, .f32⟩
  | 55 => ⟨S15360x256x1, .f32⟩
  | 56 => ⟨S15360x256x1, .f32⟩
  | 57 => ⟨S15360x256x1, .i1⟩
  | 58 => ⟨S15360x256x1, .f32⟩
  | 59 => ⟨S15360x256x1, .f32⟩
  | 60 => ⟨S15360x256x1, .i1⟩
  | 61 => ⟨S15360x256x1, .i1⟩
  | 62 => ⟨S15360x1x256, .f32⟩
  | 63 => ⟨S15360x1x256, .f32⟩
  | 64 => ⟨S15360x1x256, .i1⟩
  | 65 => ⟨S15360x256x256, .i1⟩
  | 66 => ⟨S15360x256x256, .i1⟩
  | 67 => ⟨S15360x256x256, .i1⟩
  | 68 => ⟨S15360x1x256, .f32⟩
  | 69 => ⟨S15360x1x256, .f32⟩
  | 70 => ⟨S15360x1x256, .i1⟩
  | 71 => ⟨S15360x256x256, .i1⟩
  | 72 => ⟨S15360x256x256, .i1⟩
  | 73 => ⟨S_, .f32⟩
  | 74 => ⟨S_, .f32⟩
  | 75 => ⟨S15360x256x256, .f32⟩
  | 76 => ⟨S15360x256x256, .f32⟩
  | 77 => ⟨S15360x256x256, .f32⟩
  | 78 => ⟨S_, .f32⟩
  | 79 => ⟨S256x256, .f32⟩
  | 80 => ⟨S_, .f32⟩
  | 81 => ⟨S256x256, .f32⟩
  | 82 => ⟨S256x256, .f32⟩
  | 83 => ⟨S5120x4, .f32⟩
  | 84 => ⟨S5120x1, .f32⟩
  | 85 => ⟨S5120, .f32⟩
  | 86 => ⟨S5120x1, .f32⟩
  | 87 => ⟨S5120, .f32⟩
  | 88 => ⟨S_, .f32⟩
  | 89 => ⟨S5120, .f32⟩
  | 90 => ⟨S5120, .i1⟩
  | 91 => ⟨S5120x4, .f32⟩
  | 92 => ⟨S5120x4, .f32⟩
  | 93 => ⟨S16, .f32⟩
  | 94 => ⟨S1x16x1, .f32⟩
  | 95 => ⟨S16, .f32⟩
  | 96 => ⟨S1x1x16, .f32⟩
  | 97 => ⟨S5120x1, .f32⟩
  | 98 => ⟨S5120, .f32⟩
  | 99 => ⟨S_, .f32⟩
  | 100 => ⟨S5120, .f32⟩
  | 101 => ⟨S5120, .f32⟩
  | 102 => ⟨S5120, .f32⟩
  | 103 => ⟨S5120x1x1, .f32⟩
  | 104 => ⟨S5120x1, .f32⟩
  | 105 => ⟨S5120, .f32⟩
  | 106 => ⟨S_, .f32⟩
  | 107 => ⟨S5120, .f32⟩
  | 108 => ⟨S5120, .f32⟩
  | 109 => ⟨S5120, .f32⟩
  | 110 => ⟨S5120x1x1, .f32⟩
  | 111 => ⟨S5120x1, .f32⟩
  | 112 => ⟨S5120, .f32⟩
  | 113 => ⟨S_, .f32⟩
  | 114 => ⟨S5120, .f32⟩
  | 115 => ⟨S5120, .f32⟩
  | 116 => ⟨S_, .f32⟩
  | 117 => ⟨S5120, .f32⟩
  | 118 => ⟨S5120, .f32⟩
  | 119 => ⟨S5120, .f32⟩
  | 120 => ⟨S5120x1x1, .f32⟩
  | 121 => ⟨S5120x1, .f32⟩
  | 122 => ⟨S5120, .f32⟩
  | 123 => ⟨S_, .f32⟩
  | 124 => ⟨S5120, .f32⟩
  | 125 => ⟨S5120, .f32⟩
  | 126 => ⟨S_, .f32⟩
  | 127 => ⟨S5120, .f32⟩
  | _ => ⟨S15360x128, .f32⟩

abbrev hbmTy0_1 (i : Nat) : BufTy := match i % 128 with
  | 0 => ⟨S5120, .f32⟩
  | 1 => ⟨S5120, .f32⟩
  | 2 => ⟨S5120x1x1, .f32⟩
  | 3 => ⟨S5120x16x1, .f32⟩
  | 4 => ⟨S5120x16x1, .f32⟩
  | 5 => ⟨S5120x16x1, .i1⟩
  | 6 => ⟨S5120x16x1, .f32⟩
  | 7 => ⟨S5120x16x1, .f32⟩
  | 8 => ⟨S5120x16x1, .i1⟩
  | 9 => ⟨S5120x16x1, .i1⟩
  | 10 => ⟨S5120x1x16, .f32⟩
  | 11 => ⟨S5120x1x16, .f32⟩
  | 12 => ⟨S5120x1x16, .i1⟩
  | 13 => ⟨S5120x16x16, .i1⟩
  | 14 => ⟨S5120x16x16, .i1⟩
  | 15 => ⟨S5120x16x16, .i1⟩
  | 16 => ⟨S5120x1x16, .f32⟩
  | 17 => ⟨S5120x1x16, .f32⟩
  | 18 => ⟨S5120x1x16, .i1⟩
  | 19 => ⟨S5120x16x16, .i1⟩
  | 20 => ⟨S5120x16x16, .i1⟩
  | 21 => ⟨S5120x16x16, .f32⟩
  | 22 => ⟨S5120x4, .f32⟩
  | 23 => ⟨S16, .f32⟩
  | 24 => ⟨S1x16x1, .f32⟩
  | 25 => ⟨S16, .f32⟩
  | 26 => ⟨S1x1x16, .f32⟩
  | 27 => ⟨S5120x1, .f32⟩
  | 28 => ⟨S5120, .f32⟩
  | 29 => ⟨S_, .f32⟩
  | 30 => ⟨S5120, .f32⟩
  | 31 => ⟨S5120, .f32⟩
  | 32 => ⟨S5120, .f32⟩
  | 33 => ⟨S5120x1x1, .f32⟩
  | 34 => ⟨S5120x1, .f32⟩
  | 35 => ⟨S5120, .f32⟩
  | 36 => ⟨S_, .f32⟩
  | 37 => ⟨S5120, .f32⟩
  | 38 => ⟨S5120, .f32⟩
  | 39 => ⟨S5120, .f32⟩
  | 40 => ⟨S5120x1x1, .f32⟩
  | 41 => ⟨S5120x1, .f32⟩
  | 42 => ⟨S5120, .f32⟩
  | 43 => ⟨S_, .f32⟩
  | 44 => ⟨S5120, .f32⟩
  | 45 => ⟨S5120, .f32⟩
  | 46 => ⟨S_, .f32⟩
  | 47 => ⟨S5120, .f32⟩
  | 48 => ⟨S5120, .f32⟩
  | 49 => ⟨S5120, .f32⟩
  | 50 => ⟨S5120x1x1, .f32⟩
  | 51 => ⟨S5120x1, .f32⟩
  | 52 => ⟨S5120, .f32⟩
  | 53 => ⟨S_, .f32⟩
  | 54 => ⟨S5120, .f32⟩
  | 55 => ⟨S5120, .f32⟩
  | 56 => ⟨S_, .f32⟩
  | 57 => ⟨S5120, .f32⟩
  | 58 => ⟨S5120, .f32⟩
  | 59 => ⟨S5120, .f32⟩
  | 60 => ⟨S5120x1x1, .f32⟩
  | 61 => ⟨S5120x16x1, .f32⟩
  | 62 => ⟨S5120x16x1, .f32⟩
  | 63 => ⟨S5120x16x1, .i1⟩
  | 64 => ⟨S5120x16x1, .f32⟩
  | 65 => ⟨S5120x16x1, .f32⟩
  | 66 => ⟨S5120x16x1, .i1⟩
  | 67 => ⟨S5120x16x1, .i1⟩
  | 68 => ⟨S5120x1x16, .f32⟩
  | 69 => ⟨S5120x1x16, .f32⟩
  | 70 => ⟨S5120x1x16, .i1⟩
  | 71 => ⟨S5120x16x16, .i1⟩
  | 72 => ⟨S5120x16x16, .i1⟩
  | 73 => ⟨S5120x16x16, .i1⟩
  | 74 => ⟨S5120x1x16, .f32⟩
  | 75 => ⟨S5120x1x16, .f32⟩
  | 76 => ⟨S5120x1x16, .i1⟩
  | 77 => ⟨S5120x16x16, .i1⟩
  | 78 => ⟨S5120x16x16, .i1⟩
  | 79 => ⟨S5120x16x16, .f32⟩
  | 80 => ⟨S_, .f32⟩
  | 81 => ⟨S16x16, .f32⟩
  | 82 => ⟨S_, .f32⟩
  | 83 => ⟨S16x16, .f32⟩
  | 84 => ⟨S16x16, .f32⟩
  | 85 => ⟨S5120x1, .f32⟩
  | 86 => ⟨S5120, .f32⟩
  | 87 => ⟨S_, .f32⟩
  | 88 => ⟨S5120, .f32⟩
  | 89 => ⟨S5120, .i1⟩
  | 90 => ⟨S5120x1x1, .i1⟩
  | 91 => ⟨S5120x4, .f32⟩
  | 92 => ⟨S16, .f32⟩
  | 93 => ⟨S1x16x1, .f32⟩
  | 94 => ⟨S16, .f32⟩
  | 95 => ⟨S1x1x16, .f32⟩
  | 96 => ⟨S5120x1, .f32⟩
  | 97 => ⟨S5120, .f32⟩
  | 98 => ⟨S_, .f32⟩
  | 99 => ⟨S5120, .f32⟩
  | 100 => ⟨S5120, .f32⟩
  | 101 => ⟨S5120, .f32⟩
  | 102 => ⟨S5120x1x1, .f32⟩
  | 103 => ⟨S5120x1, .f32⟩
  | 104 => ⟨S5120, .f32⟩
  | 105 => ⟨S_, .f32⟩
  | 106 => ⟨S5120, .f32⟩
  | 107 => ⟨S5120, .f32⟩
  | 108 => ⟨S5120, .f32⟩
  | 109 => ⟨S5120x1x1, .f32⟩
  | 110 => ⟨S5120x1, .f32⟩
  | 111 => ⟨S5120, .f32⟩
  | 112 => ⟨S_, .f32⟩
  | 113 => ⟨S5120, .f32⟩
  | 114 => ⟨S5120, .f32⟩
  | 115 => ⟨S_, .f32⟩
  | 116 => ⟨S5120, .f32⟩
  | 117 => ⟨S5120, .f32⟩
  | 118 => ⟨S5120, .f32⟩
  | 119 => ⟨S5120x1x1, .f32⟩
  | 120 => ⟨S5120x1, .f32⟩
  | 121 => ⟨S5120, .f32⟩
  | 122 => ⟨S_, .f32⟩
  | 123 => ⟨S5120, .f32⟩
  | 124 => ⟨S5120, .f32⟩
  | 125 => ⟨S_, .f32⟩
  | 126 => ⟨S5120, .f32⟩
  | 127 => ⟨S5120, .f32⟩
  | _ => ⟨S15360x128, .f32⟩

abbrev hbmTy0_2 (i : Nat) : BufTy := match i % 128 with
  | 0 => ⟨S5120, .f32⟩
  | 1 => ⟨S5120x1x1, .f32⟩
  | 2 => ⟨S5120x16x1, .f32⟩
  | 3 => ⟨S5120x16x1, .f32⟩
  | 4 => ⟨S5120x16x1, .i1⟩
  | 5 => ⟨S5120x16x1, .f32⟩
  | 6 => ⟨S5120x16x1, .f32⟩
  | 7 => ⟨S5120x16x1, .i1⟩
  | 8 => ⟨S5120x16x1, .i1⟩
  | 9 => ⟨S5120x1x16, .f32⟩
  | 10 => ⟨S5120x1x16, .f32⟩
  | 11 => ⟨S5120x1x16, .i1⟩
  | 12 => ⟨S5120x16x16, .i1⟩
  | 13 => ⟨S5120x16x16, .i1⟩
  | 14 => ⟨S5120x16x16, .i1⟩
  | 15 => ⟨S5120x1x16, .f32⟩
  | 16 => ⟨S5120x1x16, .f32⟩
  | 17 => ⟨S5120x1x16, .i1⟩
  | 18 => ⟨S5120x16x16, .i1⟩
  | 19 => ⟨S5120x16x16, .i1⟩
  | 20 => ⟨S5120x16x16, .f32⟩
  | 21 => ⟨S_, .f32⟩
  | 22 => ⟨S_, .f32⟩
  | 23 => ⟨S5120x16x16, .i1⟩
  | 24 => ⟨S5120x16x16, .f32⟩
  | 25 => ⟨S5120x16x16, .f32⟩
  | 26 => ⟨S5120x16x16, .f32⟩
  | 27 => ⟨S1x16x16, .f32⟩
  | 28 => ⟨S5120x16x16, .f32⟩
  | 29 => ⟨S5120x16x16, .f32⟩
  | 30 => ⟨S5120x16x16, .f32⟩
  | 31 => ⟨S5120x16x16, .f32⟩
  | 32 => ⟨S_, .f32⟩
  | 33 => ⟨S5120, .f32⟩
  | 34 => ⟨S_, .f32⟩
  | 35 => ⟨S5120, .f32⟩
  | 36 => ⟨S5120, .i1⟩
  | 37 => ⟨S5120x1, .f32⟩
  | 38 => ⟨S5120, .f32⟩
  | 39 => ⟨S5120x1, .f32⟩
  | 40 => ⟨S5120, .f32⟩
  | 41 => ⟨S5120, .f32⟩
  | 42 => ⟨S_, .f32⟩
  | 43 => ⟨S5120, .f32⟩
  | 44 => ⟨S5120, .i1⟩
  | 45 => ⟨S5120, .i1⟩
  | 46 => ⟨S_, .f32⟩
  | 47 => ⟨S5120, .f32⟩
  | 48 => ⟨S5120, .i1⟩
  | 49 => ⟨S5120, .i1⟩
  | 50 => ⟨S_, .f32⟩
  | 51 => ⟨S_, .f32⟩
  | 52 => ⟨S5120, .f32⟩
  | 53 => ⟨S5120, .f32⟩
  | 54 => ⟨S5120, .f32⟩
  | 55 => ⟨S5120x1, .f32⟩
  | 56 => ⟨S5120, .f32⟩
  | 57 => ⟨S5120x1, .f32⟩
  | 58 => ⟨S5120, .f32⟩
  | 59 => ⟨S5120, .f32⟩
  | 60 => ⟨S5120x1, .f32⟩
  | 61 => ⟨S5120, .f32⟩
  | 62 => ⟨S5120, .f32⟩
  | 63 => ⟨S5120x1, .f32⟩
  | 64 => ⟨S5120, .f32⟩
  | 65 => ⟨S5120x1, .f32⟩
  | 66 => ⟨S5120, .f32⟩
  | 67 => ⟨S5120, .f32⟩
  | 68 => ⟨S5120x1, .f32⟩
  | 69 => ⟨S5120, .f32⟩
  | 70 => ⟨S5120, .f32⟩
  | 71 => ⟨S5120x1, .f32⟩
  | 72 => ⟨S5120, .f32⟩
  | 73 => ⟨S5120x1, .f32⟩
  | 74 => ⟨S5120, .f32⟩
  | 75 => ⟨S5120, .f32⟩
  | 76 => ⟨S5120x1, .f32⟩
  | 77 => ⟨S5120, .f32⟩
  | 78 => ⟨S5120, .f32⟩
  | 79 => ⟨S5120x1, .f32⟩
  | 80 => ⟨S5120, .f32⟩
  | 81 => ⟨S5120x1, .f32⟩
  | 82 => ⟨S5120, .f32⟩
  | 83 => ⟨S5120, .f32⟩
  | 84 => ⟨S5120x1, .f32⟩
  | 85 => ⟨S5120, .f32⟩
  | 86 => ⟨S5120, .f32⟩
  | 87 => ⟨S_, .f32⟩
  | 88 => ⟨S5120, .f32⟩
  | 89 => ⟨S5120, .f32⟩
  | 90 => ⟨S5120, .f32⟩
  | 91 => ⟨S5120x1x1, .f32⟩
  | 92 => ⟨S_, .f32⟩
  | 93 => ⟨S5120, .f32⟩
  | 94 => ⟨S5120, .f32⟩
  | 95 => ⟨S5120, .f32⟩
  | 96 => ⟨S5120x1x1, .f32⟩
  | 97 => ⟨S_, .f32⟩
  | 98 => ⟨S5120, .f32⟩
  | 99 => ⟨S5120, .f32⟩
  | 100 => ⟨S_, .f32⟩
  | 101 => ⟨S5120, .f32⟩
  | 102 => ⟨S5120, .f32⟩
  | 103 => ⟨S5120, .f32⟩
  | 104 => ⟨S5120x1x1, .f32⟩
  | 105 => ⟨S_, .f32⟩
  | 106 => ⟨S5120, .f32⟩
  | 107 => ⟨S5120, .f32⟩
  | 108 => ⟨S_, .f32⟩
  | 109 => ⟨S5120, .f32⟩
  | 110 => ⟨S5120, .f32⟩
  | 111 => ⟨S5120, .f32⟩
  | 112 => ⟨S5120x1x1, .f32⟩
  | 113 => ⟨S16, .f32⟩
  | 114 => ⟨S1x16x1, .f32⟩
  | 115 => ⟨S128, .f32⟩
  | 116 => ⟨S1x1x128, .f32⟩
  | 117 => ⟨S5120x16x1, .f32⟩
  | 118 => ⟨S5120x16x1, .f32⟩
  | 119 => ⟨S5120x16x1, .i1⟩
  | 120 => ⟨S5120x16x1, .f32⟩
  | 121 => ⟨S5120x16x1, .f32⟩
  | 122 => ⟨S5120x16x1, .i1⟩
  | 123 => ⟨S5120x16x1, .i1⟩
  | 124 => ⟨S5120x1x128, .f32⟩
  | 125 => ⟨S5120x1x128, .f32⟩
  | 126 => ⟨S5120x1x128, .i1⟩
  | 127 => ⟨S5120x16x128, .i1⟩
  | _ => ⟨S15360x128, .f32⟩

abbrev hbmTy0_3 (i : Nat) : BufTy := match i % 128 with
  | 0 => ⟨S5120x16x128, .i1⟩
  | 1 => ⟨S5120x16x128, .i1⟩
  | 2 => ⟨S5120x1x128, .f32⟩
  | 3 => ⟨S5120x1x128, .f32⟩
  | 4 => ⟨S5120x1x128, .i1⟩
  | 5 => ⟨S5120x16x128, .i1⟩
  | 6 => ⟨S5120x16x128, .i1⟩
  | 7 => ⟨S_, .f32⟩
  | 8 => ⟨S1x1x128, .f32⟩
  | 9 => ⟨S1x1x128, .i1⟩
  | 10 => ⟨S5120x16x128, .i1⟩
  | 11 => ⟨S5120x16x128, .i1⟩
  | 12 => ⟨S5120x16x128, .f32⟩
  | 13 => ⟨S5120x1x1, .f32⟩
  | 14 => ⟨S5120x1x1, .f32⟩
  | 15 => ⟨S5120x16x128, .f32⟩
  | 16 => ⟨S5120x16x128, .f32⟩
  | 17 => ⟨S_, .f32⟩
  | 18 => ⟨S16x128, .f32⟩
  | _ => ⟨S15360x128, .f32⟩

abbrev hbmTy (i : Nat) : BufTy := match i / 128 with
  | 0 => hbmTy0_0 i
  | 1 => hbmTy0_1 i
  | 2 => hbmTy0_2 i
  | 3 => hbmTy0_3 i
  | _ => ⟨S15360x128, .f32⟩

abbrev bufTy : (tb : Table) → Fin (tcTables nBuf tb) → BufTy
  | .hbm, ⟨i, _⟩ => hbmTy i
  | _, _ => ⟨S15360x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_v58 : Ref sig .tc := ⟨.hbm, 77, rfl⟩
abbrev main_cst_7 : Ref sig .tc := ⟨.hbm, 78, rfl⟩
abbrev main_v59 : Ref sig .tc := ⟨.hbm, 79, rfl⟩
abbrev main_cst_8 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_9 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_10 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_11 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_12 : Ref sig .tc := ⟨.hbm, 113, rfl⟩
abbrev main_v89 : Ref sig .tc := ⟨.hbm, 114, rfl⟩
abbrev main_v90 : Ref sig .tc := ⟨.hbm, 115, rfl⟩
abbrev main_cst_13 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_14 : Ref sig .tc := ⟨.hbm, 123, rfl⟩
abbrev main_v97 : Ref sig .tc := ⟨.hbm, 124, rfl⟩
abbrev main_v98 : Ref sig .tc := ⟨.hbm, 125, rfl⟩
abbrev main_cst_15 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_16 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_cst_17 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_18 : Ref sig .tc := ⟨.hbm, 171, rfl⟩
abbrev main_v141 : Ref sig .tc := ⟨.hbm, 172, rfl⟩
abbrev main_v142 : Ref sig .tc := ⟨.hbm, 173, rfl⟩
abbrev main_cst_19 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_cst_20 : Ref sig .tc := ⟨.hbm, 181, rfl⟩
abbrev main_v149 : Ref sig .tc := ⟨.hbm, 182, rfl⟩
abbrev main_v150 : Ref sig .tc := ⟨.hbm, 183, rfl⟩
abbrev main_cst_21 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_cst_22 : Ref sig .tc := ⟨.hbm, 208, rfl⟩
abbrev main_v174 : Ref sig .tc := ⟨.hbm, 209, rfl⟩
abbrev main_cst_23 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_cst_24 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_cst_25 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_cst_26 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_cst_27 : Ref sig .tc := ⟨.hbm, 240, rfl⟩
abbrev main_v201 : Ref sig .tc := ⟨.hbm, 241, rfl⟩
abbrev main_v202 : Ref sig .tc := ⟨.hbm, 242, rfl⟩
abbrev main_cst_28 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_cst_29 : Ref sig .tc := ⟨.hbm, 250, rfl⟩
abbrev main_v209 : Ref sig .tc := ⟨.hbm, 251, rfl⟩
abbrev main_v210 : Ref sig .tc := ⟨.hbm, 252, rfl⟩
abbrev main_cst_30 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_cst_31 : Ref sig .tc := ⟨.hbm, 277, rfl⟩
abbrev main_call5_v0 : Ref sig .tc := ⟨.hbm, 278, rfl⟩
abbrev main_call5_v1 : Ref sig .tc := ⟨.hbm, 279, rfl⟩
abbrev main_call5_v2 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_cst_32 : Ref sig .tc := ⟨.hbm, 288, rfl⟩
abbrev main_v241 : Ref sig .tc := ⟨.hbm, 289, rfl⟩
abbrev main_cst_33 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_cst_34 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_cst_35 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_cst_36 : Ref sig .tc := ⟨.hbm, 306, rfl⟩
abbrev main_cst_37 : Ref sig .tc := ⟨.hbm, 307, rfl⟩
abbrev main_call6_v0 : Ref sig .tc := ⟨.hbm, 308, rfl⟩
abbrev main_call6_v1 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_v268 : Ref sig .tc := ⟨.hbm, 323, rfl⟩
abbrev main_v269 : Ref sig .tc := ⟨.hbm, 324, rfl⟩
abbrev main_v270 : Ref sig .tc := ⟨.hbm, 325, rfl⟩
abbrev main_v271 : Ref sig .tc := ⟨.hbm, 326, rfl⟩
abbrev main_v272 : Ref sig .tc := ⟨.hbm, 327, rfl⟩
abbrev main_v273 : Ref sig .tc := ⟨.hbm, 328, rfl⟩
abbrev main_v274 : Ref sig .tc := ⟨.hbm, 329, rfl⟩
abbrev main_v275 : Ref sig .tc := ⟨.hbm, 330, rfl⟩
abbrev main_v276 : Ref sig .tc := ⟨.hbm, 331, rfl⟩
abbrev main_v277 : Ref sig .tc := ⟨.hbm, 332, rfl⟩
abbrev main_v278 : Ref sig .tc := ⟨.hbm, 333, rfl⟩
abbrev main_v279 : Ref sig .tc := ⟨.hbm, 334, rfl⟩
abbrev main_v280 : Ref sig .tc := ⟨.hbm, 335, rfl⟩
abbrev main_v281 : Ref sig .tc := ⟨.hbm, 336, rfl⟩
abbrev main_v282 : Ref sig .tc := ⟨.hbm, 337, rfl⟩
abbrev main_v283 : Ref sig .tc := ⟨.hbm, 338, rfl⟩
abbrev main_v284 : Ref sig .tc := ⟨.hbm, 339, rfl⟩
abbrev main_v285 : Ref sig .tc := ⟨.hbm, 340, rfl⟩
abbrev main_v286 : Ref sig .tc := ⟨.hbm, 341, rfl⟩
abbrev main_v287 : Ref sig .tc := ⟨.hbm, 342, rfl⟩
abbrev main_cst_38 : Ref sig .tc := ⟨.hbm, 343, rfl⟩
abbrev main_v288 : Ref sig .tc := ⟨.hbm, 344, rfl⟩
abbrev main_v289 : Ref sig .tc := ⟨.hbm, 345, rfl⟩
abbrev main_v290 : Ref sig .tc := ⟨.hbm, 346, rfl⟩
abbrev main_v291 : Ref sig .tc := ⟨.hbm, 347, rfl⟩
abbrev main_cst_39 : Ref sig .tc := ⟨.hbm, 348, rfl⟩
abbrev main_v292 : Ref sig .tc := ⟨.hbm, 349, rfl⟩
abbrev main_v293 : Ref sig .tc := ⟨.hbm, 350, rfl⟩
abbrev main_v294 : Ref sig .tc := ⟨.hbm, 351, rfl⟩
abbrev main_v295 : Ref sig .tc := ⟨.hbm, 352, rfl⟩
abbrev main_cst_40 : Ref sig .tc := ⟨.hbm, 353, rfl⟩
abbrev main_v296 : Ref sig .tc := ⟨.hbm, 354, rfl⟩
abbrev main_v297 : Ref sig .tc := ⟨.hbm, 355, rfl⟩
abbrev main_cst_41 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_v301 : Ref sig .tc := ⟨.hbm, 360, rfl⟩
abbrev main_cst_42 : Ref sig .tc := ⟨.hbm, 361, rfl⟩
abbrev main_v302 : Ref sig .tc := ⟨.hbm, 362, rfl⟩
abbrev main_v303 : Ref sig .tc := ⟨.hbm, 363, rfl⟩
abbrev main_cst_43 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_v308 : Ref sig .tc := ⟨.hbm, 369, rfl⟩
abbrev main_v309 : Ref sig .tc := ⟨.hbm, 370, rfl⟩
abbrev main_v310 : Ref sig .tc := ⟨.hbm, 371, rfl⟩
abbrev main_v311 : Ref sig .tc := ⟨.hbm, 372, rfl⟩
abbrev main_v312 : Ref sig .tc := ⟨.hbm, 373, rfl⟩
abbrev main_v313 : Ref sig .tc := ⟨.hbm, 374, rfl⟩
abbrev main_v314 : Ref sig .tc := ⟨.hbm, 375, rfl⟩
abbrev main_v315 : Ref sig .tc := ⟨.hbm, 376, rfl⟩
abbrev main_v316 : Ref sig .tc := ⟨.hbm, 377, rfl⟩
abbrev main_v317 : Ref sig .tc := ⟨.hbm, 378, rfl⟩
abbrev main_v318 : Ref sig .tc := ⟨.hbm, 379, rfl⟩
abbrev main_v319 : Ref sig .tc := ⟨.hbm, 380, rfl⟩
abbrev main_v320 : Ref sig .tc := ⟨.hbm, 381, rfl⟩
abbrev main_v321 : Ref sig .tc := ⟨.hbm, 382, rfl⟩
abbrev main_v322 : Ref sig .tc := ⟨.hbm, 383, rfl⟩
abbrev main_v323 : Ref sig .tc := ⟨.hbm, 384, rfl⟩
abbrev main_v324 : Ref sig .tc := ⟨.hbm, 385, rfl⟩
abbrev main_v325 : Ref sig .tc := ⟨.hbm, 386, rfl⟩
abbrev main_v326 : Ref sig .tc := ⟨.hbm, 387, rfl⟩
abbrev main_v327 : Ref sig .tc := ⟨.hbm, 388, rfl⟩
abbrev main_v328 : Ref sig .tc := ⟨.hbm, 389, rfl⟩
abbrev main_v329 : Ref sig .tc := ⟨.hbm, 390, rfl⟩
abbrev main_cst_44 : Ref sig .tc := ⟨.hbm, 391, rfl⟩
abbrev main_v330 : Ref sig .tc := ⟨.hbm, 392, rfl⟩
abbrev main_v331 : Ref sig .tc := ⟨.hbm, 393, rfl⟩
abbrev main_v332 : Ref sig .tc := ⟨.hbm, 394, rfl⟩
abbrev main_v333 : Ref sig .tc := ⟨.hbm, 395, rfl⟩
abbrev main_v334 : Ref sig .tc := ⟨.hbm, 396, rfl⟩
abbrev main_v335 : Ref sig .tc := ⟨.hbm, 397, rfl⟩
abbrev main_v336 : Ref sig .tc := ⟨.hbm, 398, rfl⟩
abbrev main_v337 : Ref sig .tc := ⟨.hbm, 399, rfl⟩
abbrev main_v338 : Ref sig .tc := ⟨.hbm, 400, rfl⟩
abbrev main_cst_45 : Ref sig .tc := ⟨.hbm, 401, rfl⟩
abbrev main_v339 : Ref sig .tc := ⟨.hbm, 402, rfl⟩

abbrev nD : Nat := 1
abbrev τ : Topo := Topo.v7x

variable {F : FTy → Type} [FloatOps F]
-- ==== Proof.IdealVals.lean ====
module

public import proofs.«01_k».proof.Defs

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.ViewIndex
public import proofs.«01_k».proof.Proof.Gen.KernelIdeal
public import proofs.«01_k».proof.Proof.Gen.KernelIdeal.Skeleton
public import proofs.«01_k».proof.Proof.Gen.Pre_in_range

@[expose] public section

set_option format.width 240

noncomputable section

namespace Cert.Proof.IdealMatch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## Words -/

/-- The flat position `n`, wrapped into the array. -/
def pos (n : ℕ) : S5120.Idx := fun a => ⟨n % S5120.size a, Nat.mod_lt _ (by obtain rfl : a = 0 := Subsingleton.elim _ _; decide)⟩

/-- The flat position `n` of the nine tables side by side, wrapped. -/
def posT (n : ℕ) : S46080.Idx := fun a => ⟨n % S46080.size a, Nat.mod_lt _ (by obtain rfl : a = 0 := Subsingleton.elim _ _; decide)⟩

theorem pos_eq {n : ℕ} (x : S5120.Idx) (h : (x 0).val = n) : x = pos n := by
  funext a
  obtain rfl : a = 0 := Subsingleton.elim _ _
  exact Fin.ext (by rw [h]; exact (Nat.mod_eq_of_lt (h ▸ (x 0).isLt)).symm)

theorem posT_eq {n : ℕ} (x : S46080.Idx) (h : (x 0).val = n) : x = posT n := by
  funext a
  obtain rfl : a = 0 := Subsingleton.elim _ _
  exact Fin.ext (by rw [h]; exact (Nat.mod_eq_of_lt (h ▸ (x 0).isLt)).symm)

theorem clamp_lt (y : BitVec 32) : (IntOp.minsi 159#32 (IntOp.maxsi 0#32 y)).toNat < 160 := by
  have hy := y.isLt
  simp only [IntOp.minsi, IntOp.maxsi, BitVec.slt_eq_decide, BitVec.sle_eq_decide, BitVec.toInt_eq_toNat_cond, BitVec.toNat_ofNat, decide_eq_true_eq]
  split_ifs <;> simp_all <;> omega

theorem ofBool_one (b : Bool) : BitVec.ofBool b = 1 ↔ b = true := by cases b <;> decide

theorem window_iff {b : ℕ} (hb : b ≤ 4960) {w : BitVec 32} (hw : w.toNat < 5120) :
    (IntOp.cmpi .sge (IntOp.subi w (BitVec.ofNat 32 b)) 0#32 = 1 ∧ IntOp.cmpi .slt (IntOp.subi w (BitVec.ofNat 32 b)) 160#32 = 1)
      ↔ b ≤ w.toNat ∧ w.toNat < b + 160 := by
  simp only [IntOp.cmpi, IntOp.subi, ofBool_one, BitVec.slt_eq_decide, BitVec.sle_eq_decide, BitVec.toInt_eq_toNat_cond, BitVec.toNat_ofNat, BitVec.toNat_sub,
    decide_eq_true_eq]
  omega

theorem clamp_eq {b : ℕ} (hb : b ≤ 4960) {w : BitVec 32} (hw : w.toNat < 5120) (h1 : b ≤ w.toNat) (h2 : w.toNat < b + 160) :
    (IntOp.minsi 159#32 (IntOp.maxsi 0#32 (IntOp.subi w (BitVec.ofNat 32 b)))).toNat = w.toNat - b := by
  have e : (IntOp.subi w (BitVec.ofNat 32 b)).toNat = w.toNat - b := by
    simp only [IntOp.subi, BitVec.toNat_sub, BitVec.toNat_ofNat]; omega
  generalize IntOp.subi w (BitVec.ofNat 32 b) = y at e
  simp only [IntOp.minsi, IntOp.maxsi, BitVec.slt_eq_decide, BitVec.sle_eq_decide, BitVec.toInt_eq_toNat_cond, BitVec.toNat_ofNat, decide_eq_true_eq]
  split_ifs <;> simp_all <;> omega

/-! ## The scatter of one constant -/

/-- Storing one value at the lanes a mask names: an element takes it exactly if a named lane points at it. -/
theorem storeIdx_const {s : Shape} {e : EltTy} {d : Fin 1 → Nat} [FloatOps F] (f : Vec F s e) (idxs : Fin s.rank → IVec ⟨1, d⟩ 32) (c : Elt F e) (v : Vec F ⟨1, d⟩ e)
    (hv : ∀ x, v x = c) (mask : IVec ⟨1, d⟩ 1) (h : ∀ a x, (idxs a x).toNat < s.size a) (j : s.Idx) :
    storeIdx f idxs v mask false h j
      = if ∃ k : Fin (d 0), mask (Shape.ofLane k) = 1 ∧ ∀ a, (j a).val = (idxs a (Shape.ofLane k)).toNat then c else f j := by
  have key : ∀ (st : Vec F s e → Fin (d 0) → Vec F s e),
      (∀ g k, st g k j = if mask (Shape.ofLane k) = 1 ∧ ∀ a, (j a).val = (idxs a (Shape.ofLane k)).toNat then c else g j) →
      ∀ (l : List (Fin (d 0))) (g : Vec F s e),
        l.foldl st g j = if (∃ k ∈ l, mask (Shape.ofLane k) = 1 ∧ ∀ a, (j a).val = (idxs a (Shape.ofLane k)).toNat) then c else g j := by
    intro st hst l
    induction l with
    | nil => intro g; simp
    | cons k l ih =>
      intro g
      rw [List.foldl_cons, ih, hst]
      by_cases ht : ∃ k ∈ l, mask (Shape.ofLane k) = 1 ∧ ∀ a, (j a).val = (idxs a (Shape.ofLane k)).toNat
      · have ht' : ∃ k' ∈ k :: l, mask (Shape.ofLane k') = 1 ∧ ∀ a, (j a).val = (idxs a (Shape.ofLane k')).toNat := by
          obtain ⟨k', hk, hh⟩ := ht
          exact ⟨k', List.mem_cons_of_mem _ hk, hh⟩
        rw [if_pos ht, if_pos ht']
      · rw [if_neg ht]
        refine if_congr ⟨fun hk => ⟨k, List.mem_cons_self, hk⟩, ?_⟩ rfl rfl
        rintro ⟨k', hm, hh⟩
        rcases List.mem_cons.mp hm with e | hm
        · exact e ▸ hh
        · exact absurd ⟨k', hm, hh⟩ ht
  unfold storeIdx
  refine (key _ ?_ (List.finRange (d 0)) f).trans (if_congr (by simp only [List.mem_finRange, true_and]) rfl rfl)
  intro g k
  by_cases hk : mask (Shape.ofLane k) = 1
  · by_cases ha : ∀ a, (j a).val = (idxs a (Shape.ofLane k)).toNat
    · refine Eq.trans ?_ (if_pos ⟨hk, ha⟩).symm
      simp only [hk, if_true]
      exact (if_pos ha).trans (hv _)
    · refine Eq.trans ?_ (if_neg fun h => ha h.2).symm
      simp only [hk, if_true]
      exact if_neg ha
  · refine Eq.trans ?_ (if_neg fun h => hk h.1).symm
    simp only [hk, if_false]

/-! ## What a tile's arrays come to -/

/-- Box `m` is matched by row `n`: its best match is `n` and its IoU is positive. -/
def hits [FloatOps F] (fj : S5120.Idx → BitVec 32) (fi : S5120.Idx → F .f32) (m n : ℕ) : Prop :=
  FloatOps.cmpf .ogt (fi (pos m)) (Scalar.ofBits .f32 0x00000000#32) = 1 ∧ (fj (pos m)).toNat = n

open Classical in
/-- The marks of the rows from `b` on, after the first `n` boxes. -/
def marks [FloatOps F] (b : ℕ) (fj : S5120.Idx → BitVec 32) (fi : S5120.Idx → F .f32) (n : ℕ) : S160.Idx → F .f32 := fun x =>
  if ∃ m, m < n ∧ hits fj fi m (b + (x 0).val) then Scalar.ofBits .f32 0x3F800000#32 else Scalar.ofBits .f32 0x00000000#32

open Classical in
/-- The matched marks of all the rows. -/
def matched [FloatOps F] (fj : S5120.Idx → BitVec 32) (fi : S5120.Idx → F .f32) : S5120.Idx → F .f32 := fun x =>
  if ∃ m, m < 5120 ∧ hits fj fi m (x 0).val then Scalar.ofBits .f32 0x3F800000#32 else Scalar.ofBits .f32 0x00000000#32

/-- The gathered rows, the nine of them side by side: position `5120 * r + j` is table `r` at box `j`'s best match. -/
def gathered (fj : S5120.Idx → BitVec 32) (ft : S46080.Idx → F .f32) : S46080.Idx → F .f32 := fun x =>
  ft (posT (5120 * ((x 0).val / 5120) + (fj (pos ((x 0).val % 5120))).toNat))

open Classical in
/-- One trip's sixteen boxes added to the marks. -/
theorem marks_step [FloatOps F] {b : ℕ} (hb : b ≤ 4960) (fj : S5120.Idx → BitVec 32) (fi : S5120.Idx → F .f32) (hj : ∀ x, (fj x).toNat < 5120) (k : Fin 320)
    (w : IVec S16 32) (z : FVec F S16 .f32) (hw : ∀ x, w x = fj (pos (16 * k.val + (x 0).val))) (hz : ∀ x, z x = fi (pos (16 * k.val + (x 0).val)))
    (h : ∀ a x, ((![k0_pay10 (F := F) (BitVec.ofNat 32 b) w] : Fin 1 → IVec S16 32) a x).toNat < S160.size a) :
    storeIdx (F := F) (s := S160) (e := .f32) (marks b fj fi (16 * k.val)) ![k0_pay10 (F := F) (BitVec.ofNat 32 b) w] (k0_pay7 (F := F)) (k0_pay9 (BitVec.ofNat 32 b) w z) false h
      = marks b fj fi (16 * (k.val + 1)) := by
  funext x
  refine (storeIdx_const (F := F) (s := S160) (e := .f32) (d := ![16]) _ _ (Scalar.ofBits .f32 0x3F800000#32 : F .f32) (k0_pay7 (F := F)) (fun _ => rfl) _ _ _).trans ?_
  have lane : ∀ l : Fin 16, ((Shape.ofLane (d := ![16]) l) 0).val = l.val := fun l => rfl
  have hx : (x 0).val < 160 := (x 0).isLt
  have hit : ∀ l : Fin 16, (k0_pay9 (F := F) (BitVec.ofNat 32 b) w z (Shape.ofLane (d := ![16]) l) = 1
        ∧ ∀ a, (x a).val = ((![k0_pay10 (F := F) (BitVec.ofNat 32 b) w] : Fin 1 → IVec S16 32) a (Shape.ofLane (d := ![16]) l)).toNat)
      ↔ hits fj fi (16 * k.val + l.val) (b + (x 0).val) := by
    intro l
    have e1 : k0_pay9 (F := F) (BitVec.ofNat 32 b) w z (Shape.ofLane (d := ![16]) l)
        = IntOp.andi (IntOp.andi (FloatOps.cmpf .ogt (z (Shape.ofLane (d := ![16]) l)) (Scalar.ofBits .f32 0x00000000#32))
            (IntOp.cmpi .sge (IntOp.subi (w (Shape.ofLane (d := ![16]) l)) (BitVec.ofNat 32 b)) 0#32))
            (IntOp.cmpi .slt (IntOp.subi (w (Shape.ofLane (d := ![16]) l)) (BitVec.ofNat 32 b)) 160#32) := rfl
    have e2 : (∀ a, (x a).val = ((![k0_pay10 (F := F) (BitVec.ofNat 32 b) w] : Fin 1 → IVec S16 32) a (Shape.ofLane (d := ![16]) l)).toNat)
        ↔ (x 0).val = (IntOp.minsi 159#32 (IntOp.maxsi 0#32 (IntOp.subi (w (Shape.ofLane (d := ![16]) l)) (BitVec.ofNat 32 b)))).toNat := by
      constructor
      · exact fun h => h 0
      · intro h a
        obtain rfl : a = 0 := Subsingleton.elim _ _
        exact h
    rw [e2, e1, hw, hz, lane]
    have hJ := hj (pos (16 * k.val + l.val))
    generalize hJe : fj (pos (16 * k.val + l.val)) = J at hJ
    have hwin := window_iff hb hJ
    have and1 : ∀ p q : BitVec 1, IntOp.andi p q = 1 ↔ p = 1 ∧ q = 1 := by decide
    rw [and1, and1]
    unfold hits
    rw [hJe]
    constructor
    · rintro ⟨⟨⟨hc, hp⟩, hq⟩, he⟩
      have hb' := hwin.mp ⟨hp, hq⟩
      rw [clamp_eq hb hJ hb'.1 hb'.2] at he
      exact ⟨hc, by omega⟩
    · rintro ⟨hc, he⟩
      have hb' : b ≤ J.toNat ∧ J.toNat < b + 160 := by omega
      rw [clamp_eq hb hJ hb'.1 hb'.2]
      exact ⟨⟨⟨hc, (hwin.mpr hb').1⟩, (hwin.mpr hb').2⟩, by omega⟩
  have hall : (∃ l : Fin 16, k0_pay9 (F := F) (BitVec.ofNat 32 b) w z (Shape.ofLane (d := ![16]) l) = 1
        ∧ ∀ a, (x a).val = ((![k0_pay10 (F := F) (BitVec.ofNat 32 b) w] : Fin 1 → IVec S16 32) a (Shape.ofLane (d := ![16]) l)).toNat)
      ↔ ∃ l : Fin 16, hits fj fi (16 * k.val + l.val) (b + (x 0).val) := exists_congr hit
  refine (if_congr hall rfl rfl).trans ?_
  unfold marks
  have hsplit : (∃ m, m < 16 * (k.val + 1) ∧ hits fj fi m (b + (x 0).val))
      ↔ (∃ l : Fin 16, hits fj fi (16 * k.val + l.val) (b + (x 0).val)) ∨ ∃ m, m < 16 * k.val ∧ hits fj fi m (b + (x 0).val) := by
    constructor
    · rintro ⟨m, hm, hh⟩
      by_cases hlt : m < 16 * k.val
      · exact .inr ⟨m, hlt, hh⟩
      · exact .inl ⟨⟨m - 16 * k.val, by omega⟩, by
          rw [show 16 * k.val + (m - 16 * k.val) = m by omega]
          exact hh⟩
    · rintro (⟨l, hl⟩ | ⟨m, hm, hh⟩)
      · exact ⟨_, by have := l.isLt; omega, hl⟩
      · exact ⟨m, by omega, hh⟩
  by_cases hnew : ∃ l : Fin 16, hits fj fi (16 * k.val + l.val) (b + (x 0).val)
  · rw [if_pos hnew, if_pos (hsplit.mpr (.inl hnew))]
  · rw [if_neg hnew]
    exact if_congr ⟨fun h => hsplit.mpr (.inr h), fun h => (hsplit.mp h).resolve_left hnew⟩ rfl rfl

theorem marks_zero [FloatOps F] (b : ℕ) (fj : S5120.Idx → BitVec 32) (fi : S5120.Idx → F .f32) : marks b fj fi 0 = fun _ => Scalar.ofBits .f32 0x00000000#32 := by
  funext x
  exact if_neg (by rintro ⟨m, hm, -⟩; omega)

/-! ## Sixteen at a time -/

/-- A 160-element buffer written in ten runs of sixteen reads, at every element, the run that covers it. -/
theorem read_ten {κ : Kind} {sp : Space} {e : EltTy} (v : View sig κ sp S160 e) (f : v.ty.Contents (Elt F)) (G : S160.Idx → Elt F e)
    {o1 o2 o3 o4 o5 o6 o7 o8 o9 o10 : Fin 1 → ℕ}
    {h1 : ∀ a, o1 a + S16.size a ≤ S160.size a} {h2 : ∀ a, o2 a + S16.size a ≤ S160.size a} {h3 : ∀ a, o3 a + S16.size a ≤ S160.size a}
    {h4 : ∀ a, o4 a + S16.size a ≤ S160.size a} {h5 : ∀ a, o5 a + S16.size a ≤ S160.size a} {h6 : ∀ a, o6 a + S16.size a ≤ S160.size a}
    {h7 : ∀ a, o7 a + S16.size a ≤ S160.size a} {h8 : ∀ a, o8 a + S16.size a ≤ S160.size a} {h9 : ∀ a, o9 a + S16.size a ≤ S160.size a}
    {h10 : ∀ a, o10 a + S16.size a ≤ S160.size a}
    (e1 : o1 0 = 0) (e2 : o2 0 = 16) (e3 : o3 0 = 32) (e4 : o4 0 = 48) (e5 : o5 0 = 64) (e6 : o6 0 = 80) (e7 : o7 0 = 96) (e8 : o8 0 = 112) (e9 : o9 0 = 128)
    (e10 : o10 0 = 144) (p1 p2 p3 p4 p5 p6 p7 p8 p9 p10 : S16.Idx → Elt F e)
    (g1 : ∀ x : S16.Idx, p1 x = G ((Rect.unit (s := S160) o1 S16.size h1).emb x)) (g2 : ∀ x : S16.Idx, p2 x = G ((Rect.unit (s := S160) o2 S16.size h2).emb x))
    (g3 : ∀ x : S16.Idx, p3 x = G ((Rect.unit (s := S160) o3 S16.size h3).emb x)) (g4 : ∀ x : S16.Idx, p4 x = G ((Rect.unit (s := S160) o4 S16.size h4).emb x))
    (g5 : ∀ x : S16.Idx, p5 x = G ((Rect.unit (s := S160) o5 S16.size h5).emb x)) (g6 : ∀ x : S16.Idx, p6 x = G ((Rect.unit (s := S160) o6 S16.size h6).emb x))
    (g7 : ∀ x : S16.Idx, p7 x = G ((Rect.unit (s := S160) o7 S16.size h7).emb x)) (g8 : ∀ x : S16.Idx, p8 x = G ((Rect.unit (s := S160) o8 S16.size h8).emb x))
    (g9 : ∀ x : S16.Idx, p9 x = G ((Rect.unit (s := S160) o9 S16.size h9).emb x)) (g10 : ∀ x : S16.Idx, p10 x = G ((Rect.unit (s := S160) o10 S16.size h10).emb x)) :
    v.read (Elt F) (v.writes (Elt F) f [⟨Rect.unit o10 S16.size h10, p10⟩, ⟨Rect.unit o9 S16.size h9, p9⟩, ⟨Rect.unit o8 S16.size h8, p8⟩, ⟨Rect.unit o7 S16.size h7, p7⟩,
      ⟨Rect.unit o6 S16.size h6, p6⟩, ⟨Rect.unit o5 S16.size h5, p5⟩, ⟨Rect.unit o4 S16.size h4, p4⟩, ⟨Rect.unit o3 S16.size h3, p3⟩, ⟨Rect.unit o2 S16.size h2, p2⟩,
      ⟨Rect.unit o1 S16.size h1, p1⟩]) = G := by
  funext y
  refine v.read_writes_apply_of_pieces f G _ ?_ y ?_
  · intro p hp
    simp only [List.mem_cons, List.not_mem_nil, _root_.or_false] at hp
    rcases hp with rfl | rfl | rfl | rfl | rfl | rfl | rfl | rfl | rfl | rfl
    exacts [g10, g9, g8, g7, g6, g5, g4, g3, g2, g1]
  · have hy : (y 0).val < 160 := (y 0).isLt
    have mem : ∀ (o : Fin 1 → ℕ) (h : ∀ a, o a + S16.size a ≤ S160.size a) (n : ℕ), o 0 = n → n ≤ (y 0).val → (y 0).val < n + 16
        → y ∈ (Rect.unit (s := S160) o S16.size h).set := by
      intro o h n e l1 l2
      rw [Rect.mem_set_unit]
      intro a
      obtain rfl : a = 0 := Subsingleton.elim _ _
      exact ⟨by rw [e]; exact l1, by rw [e]; exact l2⟩
    simp only [List.mem_cons, List.not_mem_nil, _root_.or_false, exists_eq_or_imp, exists_eq_left]
    by_cases c1 : (y 0).val < 16
    · exact .inr <| .inr <| .inr <| .inr <| .inr <| .inr <| .inr <| .inr <| .inr <| mem _ h1 0 e1 (by omega) (by omega)
    by_cases c2 : (y 0).val < 32
    · exact .inr <| .inr <| .inr <| .inr <| .inr <| .inr <| .inr <| .inr <| .inl <| mem _ h2 16 e2 (by omega) (by omega)
    by_cases c3 : (y 0).val < 48
    · exact .inr <| .inr <| .inr <| .inr <| .inr <| .inr <| .inr <| .inl <| mem _ h3 32 e3 (by omega) (by omega)
    by_cases c4 : (y 0).val < 64
    · exact .inr <| .inr <| .inr <| .inr <| .inr <| .inr <| .inl <| mem _ h4 48 e4 (by omega) (by omega)
    by_cases c5 : (y 0).val < 80
    · exact .inr <| .inr <| .inr <| .inr <| .inr <| .inl <| mem _ h5 64 e5 (by omega) (by omega)
    by_cases c6 : (y 0).val < 96
    · exact .inr <| .inr <| .inr <| .inr <| .inl <| mem _ h6 80 e6 (by omega) (by omega)
    by_cases c7 : (y 0).val < 112
    · exact .inr <| .inr <| .inr <| .inl <| mem _ h7 96 e7 (by omega) (by omega)
    by_cases c8 : (y 0).val < 128
    · exact .inr <| .inr <| .inl <| mem _ h8 112 e8 (by omega) (by omega)
    by_cases c9 : (y 0).val < 144
    · exact .inr <| .inl <| mem _ h9 128 e9 (by omega) (by omega)
    · exact .inl <| mem _ h10 144 e10 (by omega) (by omega)

/-! ## One table's gathered run -/

/-- The first row a tile serves. -/
def base (L : grid0.Coords) : ℕ := 320 * (L 1).val + 160 * (L 0).val

theorem base_le (L : grid0.Coords) : base L ≤ 4960 := by
  have h0 : (L 0).val < 2 := (L 0).isLt
  have h1 : (L 1).val < 16 := (L 1).isLt
  unfold base
  omega

/-- A lane of a gather: the table at the row its index word names. -/
theorem gather_lane {A T : S5120.Idx → F .f32} {B : IVec S16 32} {w : S5120.Idx → BitVec 32} {n : ℕ} (hA : ∀ y, A y = T y)
    (hB : ∀ x : S16.Idx, B x = w (pos (n + (x 0).val))) (h : ∀ a x, ((![B] : Fin 1 → IVec S16 32) a x).toNat < S5120.size a) (x : S16.Idx) :
    loadIdx (F := F) (s := S5120) (e := .f32) A ![B] h x = T (pos (w (pos (n + (x 0).val))).toNat) := by
  refine (hA _).trans (congrArg T (pos_eq _ ?_))
  have e : B x = w (pos (n + (x 0).val)) := hB x
  rw [← e]
  rfl

/-- Ten gathers of sixteen lanes: a run of 160 rows of the table. -/
theorem gather_run {κ : Kind} {sp : Space} (v : View sig κ sp S160 .f32) (f : v.ty.Contents (Elt F)) (T : S5120.Idx → F .f32) (w : S5120.Idx → BitVec 32) (b : ℕ)
    (h1 : ∀ a, (![0] : Fin 1 → ℕ) a + S16.size a ≤ S160.size a) (h2 : ∀ a, (![16] : Fin 1 → ℕ) a + S16.size a ≤ S160.size a)
    (h3 : ∀ a, (![32] : Fin 1 → ℕ) a + S16.size a ≤ S160.size a) (h4 : ∀ a, (![48] : Fin 1 → ℕ) a + S16.size a ≤ S160.size a)
    (h5 : ∀ a, (![64] : Fin 1 → ℕ) a + S16.size a ≤ S160.size a) (h6 : ∀ a, (![80] : Fin 1 → ℕ) a + S16.size a ≤ S160.size a)
    (h7 : ∀ a, (![96] : Fin 1 → ℕ) a + S16.size a ≤ S160.size a) (h8 : ∀ a, (![112] : Fin 1 → ℕ) a + S16.size a ≤ S160.size a)
    (h9 : ∀ a, (![128] : Fin 1 → ℕ) a + S16.size a ≤ S160.size a) (h10 : ∀ a, (![144] : Fin 1 → ℕ) a + S16.size a ≤ S160.size a)
    (p1 p2 p3 p4 p5 p6 p7 p8 p9 p10 : S16.Idx → F .f32)
    (g1 : ∀ x : S16.Idx, p1 x = T (pos (w (pos (b + 0 + (x 0).val))).toNat)) (g2 : ∀ x : S16.Idx, p2 x = T (pos (w (pos (b + 16 + (x 0).val))).toNat))
    (g3 : ∀ x : S16.Idx, p3 x = T (pos (w (pos (b + 32 + (x 0).val))).toNat)) (g4 : ∀ x : S16.Idx, p4 x = T (pos (w (pos (b + 48 + (x 0).val))).toNat))
    (g5 : ∀ x : S16.Idx, p5 x = T (pos (w (pos (b + 64 + (x 0).val))).toNat)) (g6 : ∀ x : S16.Idx, p6 x = T (pos (w (pos (b + 80 + (x 0).val))).toNat))
    (g7 : ∀ x : S16.Idx, p7 x = T (pos (w (pos (b + 96 + (x 0).val))).toNat)) (g8 : ∀ x : S16.Idx, p8 x = T (pos (w (pos (b + 112 + (x 0).val))).toNat))
    (g9 : ∀ x : S16.Idx, p9 x = T (pos (w (pos (b + 128 + (x 0).val))).toNat)) (g10 : ∀ x : S16.Idx, p10 x = T (pos (w (pos (b + 144 + (x 0).val))).toNat)) :
    v.read (Elt F) (v.writes (Elt F) f [⟨Rect.unit ![144] S16.size h10, p10⟩, ⟨Rect.unit ![128] S16.size h9, p9⟩, ⟨Rect.unit ![112] S16.size h8, p8⟩,
      ⟨Rect.unit ![96] S16.size h7, p7⟩, ⟨Rect.unit ![80] S16.size h6, p6⟩, ⟨Rect.unit ![64] S16.size h5, p5⟩, ⟨Rect.unit ![48] S16.size h4, p4⟩,
      ⟨Rect.unit ![32] S16.size h3, p3⟩, ⟨Rect.unit ![16] S16.size h2, p2⟩, ⟨Rect.unit ![0] S16.size h1, p1⟩])
      = fun x : S160.Idx => T (pos (w (pos (b + (x 0).val))).toNat) := by
  have at' : ∀ (n : ℕ) (h : ∀ a, (![n] : Fin 1 → ℕ) a + S16.size a ≤ S160.size a) (x : S16.Idx), b + n + (x 0).val = b + ((Rect.unit (s := S160) ![n] S16.size h).emb x 0).val := by
    intro n h x
    have e : ((Rect.unit (s := S160) ![n] S16.size h).emb x 0).val = n + 1 * (x 0).val := rfl
    rw [e]; omega
  refine read_ten v f (fun x : S160.Idx => T (pos (w (pos (b + (x 0).val))).toNat)) rfl rfl rfl rfl rfl rfl rfl rfl rfl rfl _ _ _ _ _ _ _ _ _ _ ?_ ?_ ?_ ?_ ?_ ?_ ?_ ?_ ?_ ?_
  · exact fun x => (g1 x).trans (by rw [at' 0 h1 x])
  · exact fun x => (g2 x).trans (by rw [at' 16 h2 x])
  · exact fun x => (g3 x).trans (by rw [at' 32 h3 x])
  · exact fun x => (g4 x).trans (by rw [at' 48 h4 x])
  · exact fun x => (g5 x).trans (by rw [at' 64 h5 x])
  · exact fun x => (g6 x).trans (by rw [at' 80 h6 x])
  · exact fun x => (g7 x).trans (by rw [at' 96 h7 x])
  · exact fun x => (g8 x).trans (by rw [at' 112 h8 x])
  · exact fun x => (g9 x).trans (by rw [at' 128 h9 x])
  · exact fun x => (g10 x).trans (by rw [at' 144 h10 x])

/-- A view written whole holds the array its payload was read from. -/
theorem writes_whole {κ : Kind} {sp : Space} {s : Shape} {e : EltTy} (v : View sig κ sp s e) (f G : v.ty.Contents (Elt F)) (p : s.Idx → Elt F e)
    (h : ∀ x, p x = v.read (Elt F) G x) : ∀ i ∈ v.set, v.writes (Elt F) f [⟨Rect.whole s, p⟩] i = G i := by
  intro i hi
  obtain ⟨x, -, rfl⟩ := Finset.mem_map.mp hi
  refine View.eq_of_read_eq (Eq.trans ?_ (h x))
  refine v.read_writes_apply_of_pieces f p [⟨Rect.whole s, p⟩] (fun q hq y => ?_) x ⟨_, List.mem_singleton_self _, ?_⟩
  · obtain rfl := List.mem_singleton.mp hq
    exact congrArg p (Rect.emb_whole_apply s y).symm
  · rw [Rect.set_whole]
    exact Finset.mem_univ _

theorem gathered_at (fj : S5120.Idx → BitVec 32) (ft : S46080.Idx → F .f32) (hj : ∀ x, (fj x).toNat < 5120) {r n : ℕ} (hn : n < 5120) (i : S46080.Idx)
    (hi : (i 0).val = 5120 * r + n) : gathered fj ft i = ft (posT (5120 * r + (fj (pos n)).toNat)) := by
  unfold gathered
  rw [hi, show (5120 * r + n) / 5120 = r by omega, show (5120 * r + n) % 5120 = n by omega]

theorem matched_at [FloatOps F] (fj : S5120.Idx → BitVec 32) (fi : S5120.Idx → F .f32) (b : ℕ) (x : S160.Idx) (i : S5120.Idx) (hi : (i 0).val = b + (x 0).val) :
    matched fj fi i = marks b fj fi 5120 x := by
  unfold matched marks
  rw [hi]
  by_cases h : ∃ m, m < 5120 ∧ hits fj fi m (b + (x 0).val)
  · rw [if_pos h, if_pos h]
  · rw [if_neg h, if_neg h]

/-! ## The side conditions on the gathers' index vectors -/

theorem gathers_ok {w : IVec S16 32} (h : ∀ x, (w x).toNat < 5120) :
    (∀ a x, ((![w] : Fin 1 → IVec S16 32) a x).toNat < S5120.size a) ∧ (∀ a x, ((![w] : Fin 1 → IVec S16 32) a x).toNat < S5120.size a)
      ∧ (∀ a x, ((![w] : Fin 1 → IVec S16 32) a x).toNat < S5120.size a) ∧ (∀ a x, ((![w] : Fin 1 → IVec S16 32) a x).toNat < S5120.size a)
      ∧ (∀ a x, ((![w] : Fin 1 → IVec S16 32) a x).toNat < S5120.size a) ∧ (∀ a x, ((![w] : Fin 1 → IVec S16 32) a x).toNat < S5120.size a)
      ∧ (∀ a x, ((![w] : Fin 1 → IVec S16 32) a x).toNat < S5120.size a) ∧ (∀ a x, ((![w] : Fin 1 → IVec S16 32) a x).toNat < S5120.size a)
      ∧ (∀ a x, ((![w] : Fin 1 → IVec S16 32) a x).toNat < S5120.size a) := by
  have h1 : ∀ a x, ((![w] : Fin 1 → IVec S16 32) a x).toNat < S5120.size a := fun a x => by
    obtain rfl : a = 0 := Subsingleton.elim _ _
    exact h x
  exact ⟨h1, h1, h1, h1, h1, h1, h1, h1, h1⟩

theorem mark_ok (v : BitVec 32) (w : IVec S16 32) : k0_chk11 (k0_pay10 (F := F) v w) := fun a x => by
  obtain rfl : a = 0 := Subsingleton.elim _ _
  exact clamp_lt _

theorem gather_ok1 {w : IVec S16 32} (h : ∀ x, (w x).toNat < 5120) : k0_chk1 w := gathers_ok h
theorem gather_ok2 {w : IVec S16 32} (h : ∀ x, (w x).toNat < 5120) : k0_chk2 w := gathers_ok h
theorem gather_ok3 {w : IVec S16 32} (h : ∀ x, (w x).toNat < 5120) : k0_chk3 w := gathers_ok h
theorem gather_ok4 {w : IVec S16 32} (h : ∀ x, (w x).toNat < 5120) : k0_chk4 w := gathers_ok h
theorem gather_ok5 {w : IVec S16 32} (h : ∀ x, (w x).toNat < 5120) : k0_chk5 w := gathers_ok h
theorem gather_ok6 {w : IVec S16 32} (h : ∀ x, (w x).toNat < 5120) : k0_chk6 w := gathers_ok h
theorem gather_ok7 {w : IVec S16 32} (h : ∀ x, (w x).toNat < 5120) : k0_chk7 w := gathers_ok h
theorem gather_ok8 {w : IVec S16 32} (h : ∀ x, (w x).toNat < 5120) : k0_chk8 w := gathers_ok h
theorem gather_ok9 {w : IVec S16 32} (h : ∀ x, (w x).toNat < 5120) : k0_chk9 w := gathers_ok h
theorem gather_ok10 {w : IVec S16 32} (h : ∀ x, (w x).toNat < 5120) : k0_chk10 w := gathers_ok h

end Cert.Proof.IdealMatch
-- ==== Proof.IdealTile.lean ====
module

public import proofs.«01_k».proof.Defs
public import proofs.«01_k».proof.Proof.IdealVals
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.ViewIndex
public import proofs.«01_k».proof.Proof.Gen.KernelIdeal
public import proofs.«01_k».proof.Proof.Gen.KernelIdeal.Skeleton
public import proofs.«01_k».proof.Proof.Gen.Pre_in_range

@[expose] public section

set_option format.width 240

noncomputable section

namespace Cert.Proof.IdealMatch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the launch's handshake rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

section Tile
variable [FloatOps F] (d : Dev nD) (L : grid0.Coords)
/-- The tile at a grid point. -/
abbrev tV (d : Dev nD) (L : grid0.Coords) : Thread nD τ := V d ((L 0).castLE hcore0) ((L 1).castLE hsub0)

/-- An indexed load is a load of the whole array and a selection of its lanes. -/
theorem loadIdx_eq {c : Fin τ.nSC} {j : Fin τ.nSub} {s t : Shape} {e : EltTy} (base : Memref sig (Proc.scVector (τ := τ) c j).kind .vmem s e)
    (idxs : Fin s.rank → IVec t 32) (h : ∀ a x, (idxs a x).toNat < s.size a) (hl : base.view.Loads) :
    (SparseCore.vectorLoadIdx base idxs h hl : Prog (TpuEff nD τ sig (Elt F) Λ₀ (Proc.scVector c j)) (Vec F t e))
      = (Prog.lift (.load base (.whole s) (View.loadsAt_whole hl)) >>= fun f => pure (loadIdx f idxs h)) := rfl

/-- An indexed store is a load of the whole array and a store of it with the lanes put in. -/
theorem storeIdx_eq {c : Fin τ.nSC} {j : Fin τ.nSub} {s : Shape} {e : EltTy} {w : Fin 1 → Nat} (base : Memref sig (Proc.scVector (τ := τ) c j).kind .vmem s e)
    (idxs : Fin s.rank → IVec ⟨1, w⟩ 32) (v : Vec F ⟨1, w⟩ e) (mask : IVec ⟨1, w⟩ 1) (add : Bool) (h : ∀ a x, (idxs a x).toNat < s.size a)
    (hs : (base.access (.whole s)).Stores Finset.univ) :
    (SparseCore.vectorStoreIdx base idxs v mask add h hs : Prog (TpuEff nD τ sig (Elt F) Λ₀ (Proc.scVector c j)) PUnit)
      = (Prog.lift (.load base (.whole s) (View.loadsAt_rect hs.loads)) >>= fun f =>
          Prog.lift (.store base (.whole s) (storeIdx f idxs v mask add h) Finset.univ hs (.inl rfl))) := rfl
attribute [local sl_canon] loadIdx_eq storeIdx_eq

omit [FloatOps F] in
theorem load_lt (s g : Buf (Elt F) ((tV d L).loc cc0_scratch18)) (r : LoadRect S5120) (h : ∀ x : S5120.Idx, (g x).toNat < 5120) (x : r.shape.Idx) :
    (View.readAt (Elt F) (Memref.whole cc0_scratch18).view r (View.write (Elt F) (Memref.whole cc0_scratch18).view s g Finset.univ) x).toNat < 5120 := by
  rw [show View.write (Elt F) (Memref.whole cc0_scratch18).view s g Finset.univ = g from View.write_whole_univ _ _ _]
  exact h _

omit [FloatOps F] in
theorem load_ok1 (s g : Buf (Elt F) ((tV d L).loc cc0_scratch18)) (off : Fin 1 → ℕ) (hi : ∀ a, off a + S16.size a ≤ S5120.size a)
    (h : ∀ x : S5120.Idx, (g x).toNat < 5120) :
    k0_chk1 (View.readAt (Elt F) (Memref.whole cc0_scratch18).view (Rect.unit (s := S5120) off S16.size hi).toLoadRect
      (View.write (Elt F) (Memref.whole cc0_scratch18).view s g Finset.univ)) := by
  refine gather_ok1 ?_
  exact fun x => load_lt d L s g (Rect.unit (s := S5120) off S16.size hi).toLoadRect h x

omit [FloatOps F] in
theorem load_ok2 (s g : Buf (Elt F) ((tV d L).loc cc0_scratch18)) (off : Fin 1 → ℕ) (hi : ∀ a, off a + S16.size a ≤ S5120.size a)
    (h : ∀ x : S5120.Idx, (g x).toNat < 5120) :
    k0_chk2 (View.readAt (Elt F) (Memref.whole cc0_scratch18).view (Rect.unit (s := S5120) off S16.size hi).toLoadRect
      (View.write (Elt F) (Memref.whole cc0_scratch18).view s g Finset.univ)) := by
  refine gather_ok2 ?_
  exact fun x => load_lt d L s g (Rect.unit (s := S5120) off S16.size hi).toLoadRect h x

omit [FloatOps F] in
theorem load_ok3 (s g : Buf (Elt F) ((tV d L).loc cc0_scratch18)) (off : Fin 1 → ℕ) (hi : ∀ a, off a + S16.size a ≤ S5120.size a)
    (h : ∀ x : S5120.Idx, (g x).toNat < 5120) :
    k0_chk3 (View.readAt (Elt F) (Memref.whole cc0_scratch18).view (Rect.unit (s := S5120) off S16.size hi).toLoadRect
      (View.write (Elt F) (Memref.whole cc0_scratch18).view s g Finset.univ)) := by
  refine gather_ok3 ?_
  exact fun x => load_lt d L s g (Rect.unit (s := S5120) off S16.size hi).toLoadRect h x

omit [FloatOps F] in
theorem load_ok4 (s g : Buf (Elt F) ((tV d L).loc cc0_scratch18)) (off : Fin 1 → ℕ) (hi : ∀ a, off a + S16.size a ≤ S5120.size a)
    (h : ∀ x : S5120.Idx, (g x).toNat < 5120) :
    k0_chk4 (View.readAt (Elt F) (Memref.whole cc0_scratch18).view (Rect.unit (s := S5120) off S16.size hi).toLoadRect
      (View.write (Elt F) (Memref.whole cc0_scratch18).view s g Finset.univ)) := by
  refine gather_ok4 ?_
  exact fun x => load_lt d L s g (Rect.unit (s := S5120) off S16.size hi).toLoadRect h x

omit [FloatOps F] in
theorem load_ok5 (s g : Buf (Elt F) ((tV d L).loc cc0_scratch18)) (off : Fin 1 → ℕ) (hi : ∀ a, off a + S16.size a ≤ S5120.size a)
    (h : ∀ x : S5120.Idx, (g x).toNat < 5120) :
    k0_chk5 (View.readAt (Elt F) (Memref.whole cc0_scratch18).view (Rect.unit (s := S5120) off S16.size hi).toLoadRect
      (View.write (Elt F) (Memref.whole cc0_scratch18).view s g Finset.univ)) := by
  refine gather_ok5 ?_
  exact fun x => load_lt d L s g (Rect.unit (s := S5120) off S16.size hi).toLoadRect h x

omit [FloatOps F] in
theorem load_ok6 (s g : Buf (Elt F) ((tV d L).loc cc0_scratch18)) (off : Fin 1 → ℕ) (hi : ∀ a, off a + S16.size a ≤ S5120.size a)
    (h : ∀ x : S5120.Idx, (g x).toNat < 5120) :
    k0_chk6 (View.readAt (Elt F) (Memref.whole cc0_scratch18).view (Rect.unit (s := S5120) off S16.size hi).toLoadRect
      (View.write (Elt F) (Memref.whole cc0_scratch18).view s g Finset.univ)) := by
  refine gather_ok6 ?_
  exact fun x => load_lt d L s g (Rect.unit (s := S5120) off S16.size hi).toLoadRect h x

omit [FloatOps F] in
theorem load_ok7 (s g : Buf (Elt F) ((tV d L).loc cc0_scratch18)) (off : Fin 1 → ℕ) (hi : ∀ a, off a + S16.size a ≤ S5120.size a)
    (h : ∀ x : S5120.Idx, (g x).toNat < 5120) :
    k0_chk7 (View.readAt (Elt F) (Memref.whole cc0_scratch18).view (Rect.unit (s := S5120) off S16.size hi).toLoadRect
      (View.write (Elt F) (Memref.whole cc0_scratch18).view s g Finset.univ)) := by
  refine gather_ok7 ?_
  exact fun x => load_lt d L s g (Rect.unit (s := S5120) off S16.size hi).toLoadRect h x

omit [FloatOps F] in
theorem load_ok8 (s g : Buf (Elt F) ((tV d L).loc cc0_scratch18)) (off : Fin 1 → ℕ) (hi : ∀ a, off a + S16.size a ≤ S5120.size a)
    (h : ∀ x : S5120.Idx, (g x).toNat < 5120) :
    k0_chk8 (View.readAt (Elt F) (Memref.whole cc0_scratch18).view (Rect.unit (s := S5120) off S16.size hi).toLoadRect
      (View.write (Elt F) (Memref.whole cc0_scratch18).view s g Finset.univ)) := by
  refine gather_ok8 ?_
  exact fun x => load_lt d L s g (Rect.unit (s := S5120) off S16.size hi).toLoadRect h x

omit [FloatOps F] in
theorem load_ok9 (s g : Buf (Elt F) ((tV d L).loc cc0_scratch18)) (off : Fin 1 → ℕ) (hi : ∀ a, off a + S16.size a ≤ S5120.size a)
    (h : ∀ x : S5120.Idx, (g x).toNat < 5120) :
    k0_chk9 (View.readAt (Elt F) (Memref.whole cc0_scratch18).view (Rect.unit (s := S5120) off S16.size hi).toLoadRect
      (View.write (Elt F) (Memref.whole cc0_scratch18).view s g Finset.univ)) := by
  refine gather_ok9 ?_
  exact fun x => load_lt d L s g (Rect.unit (s := S5120) off S16.size hi).toLoadRect h x

omit [FloatOps F] in
theorem load_ok10 (s g : Buf (Elt F) ((tV d L).loc cc0_scratch18)) (off : Fin 1 → ℕ) (hi : ∀ a, off a + S16.size a ≤ S5120.size a)
    (h : ∀ x : S5120.Idx, (g x).toNat < 5120) :
    k0_chk10 (View.readAt (Elt F) (Memref.whole cc0_scratch18).view (Rect.unit (s := S5120) off S16.size hi).toLoadRect
      (View.write (Elt F) (Memref.whole cc0_scratch18).view s g Finset.univ)) := by
  refine gather_ok10 ?_
  exact fun x => load_lt d L s g (Rect.unit (s := S5120) off S16.size hi).toLoadRect h x

omit [FloatOps F] in
/-- A table copied in whole reads as it was sent. -/
theorem table_at (b : Ref sig .scVector) (s T : b.ty.Contents (Elt F)) (y : b.ty.shape.Idx) :
    View.readAt (Elt F) (Memref.whole b).view (LoadRect.whole b.ty.shape) (View.write (Elt F) (Memref.whole b).view s T Finset.univ) y = T y := by
  rw [show View.write (Elt F) (Memref.whole b).view s T Finset.univ = T from View.write_whole_univ _ _ _]
  exact congrArg T (LoadRect.idx_whole y)

omit [FloatOps F] in
theorem run_at (g : Buf (Elt F) ((tV d L).loc cc0_scratch18)) (off : Fin 1 → ℕ) (hi : ∀ a, off a + S16.size a ≤ S5120.size a) (n : ℕ)
    (hn : off 0 = n) (x : S16.Idx) :
    View.readAt (Elt F) (Memref.whole cc0_scratch18).view (Rect.unit (s := S5120) off S16.size hi).toLoadRect g x = g (pos (n + (x 0).val)) := by
  refine congrArg g (pos_eq _ ?_)
  rw [← hn]
  show off 0 + 1 * (x 0).val = off 0 + (x 0).val
  omega

omit [FloatOps F] in
theorem run_at' (g : Buf (Elt F) ((tV d L).loc cc0_scratch19)) (off : Fin 1 → ℕ) (hi : ∀ a, off a + S16.size a ≤ S5120.size a) (n : ℕ)
    (hn : off 0 = n) (x : S16.Idx) :
    View.readAt (Elt F) (Memref.whole cc0_scratch19).view (Rect.unit (s := S5120) off S16.size hi).toLoadRect g x = g (pos (n + (x 0).val)) := by
  refine congrArg g (pos_eq _ ?_)
  rw [← hn]
  show off 0 + 1 * (x 0).val = off 0 + (x 0).val
  omega

omit [FloatOps F] in
/-- A run of the copied best matches. -/
theorem match_at (s g : Buf (Elt F) ((tV d L).loc cc0_scratch18)) (off : Fin 1 → ℕ) (hi : ∀ a, off a + S16.size a ≤ S5120.size a) (n : ℕ)
    (hn : off 0 = n) (x : S16.Idx) :
    View.readAt (Elt F) (Memref.whole cc0_scratch18).view (Rect.unit (s := S5120) off S16.size hi).toLoadRect
      (View.write (Elt F) (Memref.whole cc0_scratch18).view s g Finset.univ) x = g (pos (n + (x 0).val)) := by
  rw [show View.write (Elt F) (Memref.whole cc0_scratch18).view s g Finset.univ = g from View.write_whole_univ _ _ _]
  exact run_at d L g off hi n hn x

omit [FloatOps F] in
/-- A row of a table is the gathered array's element. -/
theorem gathered_lane (fj : S5120.Idx → BitVec 32) (ft : S46080.Idx → F .f32) (hj : ∀ x, (fj x).toNat < 5120) (r n : ℕ) (hn : n < 5120) (i j : S46080.Idx)
    (hi : (i 0).val = 5120 * r + n) (hj' : (j 0).val = 5120 * r + (fj (pos n)).toNat) : ft j = gathered fj ft i :=
  (congrArg ft (posT_eq j hj')).trans (gathered_at fj ft hj hn i hi).symm

omit [FloatOps F] in
/-- The ten gathers of one table: its rows at a run of best matches. -/
theorem table_rows {κ : Kind} {sp : Space} (v : View sig κ sp S160 .f32) (f : v.ty.Contents (Elt F)) (A T : S5120.Idx → F .f32) (hA : ∀ y, A y = T y)
    (s18 fj : Buf (Elt F) ((tV d L).loc cc0_scratch18))
    (b1 : ∀ a, (![0] : Fin 1 → ℕ) a + S16.size a ≤ S160.size a) (b2 : ∀ a, (![16] : Fin 1 → ℕ) a + S16.size a ≤ S160.size a) (b3 : ∀ a, (![32] : Fin 1 → ℕ) a + S16.size a ≤ S160.size a) (b4 : ∀ a, (![48] : Fin 1 → ℕ) a + S16.size a ≤ S160.size a) (b5 : ∀ a, (![64] : Fin 1 → ℕ) a + S16.size a ≤ S160.size a) (b6 : ∀ a, (![80] : Fin 1 → ℕ) a + S16.size a ≤ S160.size a) (b7 : ∀ a, (![96] : Fin 1 → ℕ) a + S16.size a ≤ S160.size a) (b8 : ∀ a, (![112] : Fin 1 → ℕ) a + S16.size a ≤ S160.size a) (b9 : ∀ a, (![128] : Fin 1 → ℕ) a + S16.size a ≤ S160.size a) (b10 : ∀ a, (![144] : Fin 1 → ℕ) a + S16.size a ≤ S160.size a)
    (i1 : ∀ a, k0_off1 L a + S16.size a ≤ S5120.size a)
    (i2 : ∀ a, k0_off2 L a + S16.size a ≤ S5120.size a)
    (i3 : ∀ a, k0_off3 L a + S16.size a ≤ S5120.size a)
    (i4 : ∀ a, k0_off4 L a + S16.size a ≤ S5120.size a)
    (i5 : ∀ a, k0_off5 L a + S16.size a ≤ S5120.size a)
    (i6 : ∀ a, k0_off6 L a + S16.size a ≤ S5120.size a)
    (i7 : ∀ a, k0_off7 L a + S16.size a ≤ S5120.size a)
    (i8 : ∀ a, k0_off8 L a + S16.size a ≤ S5120.size a)
    (i9 : ∀ a, k0_off9 L a + S16.size a ≤ S5120.size a)
    (i10 : ∀ a, k0_off10 L a + S16.size a ≤ S5120.size a)
    (h1 : ∀ a x, ((![View.readAt (Elt F) (Memref.whole cc0_scratch18).view (Rect.unit (s := S5120) (k0_off1 L) S16.size i1).toLoadRect (View.write (Elt F) (Memref.whole cc0_scratch18).view s18 fj Finset.univ)] : Fin 1 → IVec S16 32) a x).toNat < S5120.size a)
    (h2 : ∀ a x, ((![View.readAt (Elt F) (Memref.whole cc0_scratch18).view (Rect.unit (s := S5120) (k0_off2 L) S16.size i2).toLoadRect (View.write (Elt F) (Memref.whole cc0_scratch18).view s18 fj Finset.univ)] : Fin 1 → IVec S16 32) a x).toNat < S5120.size a)
    (h3 : ∀ a x, ((![View.readAt (Elt F) (Memref.whole cc0_scratch18).view (Rect.unit (s := S5120) (k0_off3 L) S16.size i3).toLoadRect (View.write (Elt F) (Memref.whole cc0_scratch18).view s18 fj Finset.univ)] : Fin 1 → IVec S16 32) a x).toNat < S5120.size a)
    (h4 : ∀ a x, ((![View.readAt (Elt F) (Memref.whole cc0_scratch18).view (Rect.unit (s := S5120) (k0_off4 L) S16.size i4).toLoadRect (View.write (Elt F) (Memref.whole cc0_scratch18).view s18 fj Finset.univ)] : Fin 1 → IVec S16 32) a x).toNat < S5120.size a)
    (h5 : ∀ a x, ((![View.readAt (Elt F) (Memref.whole cc0_scratch18).view (Rect.unit (s := S5120) (k0_off5 L) S16.size i5).toLoadRect (View.write (Elt F) (Memref.whole cc0_scratch18).view s18 fj Finset.univ)] : Fin 1 → IVec S16 32) a x).toNat < S5120.size a)
    (h6 : ∀ a x, ((![View.readAt (Elt F) (Memref.whole cc0_scratch18).view (Rect.unit (s := S5120) (k0_off6 L) S16.size i6).toLoadRect (View.write (Elt F) (Memref.whole cc0_scratch18).view s18 fj Finset.univ)] : Fin 1 → IVec S16 32) a x).toNat < S5120.size a)
    (h7 : ∀ a x, ((![View.readAt (Elt F) (Memref.whole cc0_scratch18).view (Rect.unit (s := S5120) (k0_off7 L) S16.size i7).toLoadRect (View.write (Elt F) (Memref.whole cc0_scratch18).view s18 fj Finset.univ)] : Fin 1 → IVec S16 32) a x).toNat < S5120.size a)
    (h8 : ∀ a x, ((![View.readAt (Elt F) (Memref.whole cc0_scratch18).view (Rect.unit (s := S5120) (k0_off8 L) S16.size i8).toLoadRect (View.write (Elt F) (Memref.whole cc0_scratch18).view s18 fj Finset.univ)] : Fin 1 → IVec S16 32) a x).toNat < S5120.size a)
    (h9 : ∀ a x, ((![View.readAt (Elt F) (Memref.whole cc0_scratch18).view (Rect.unit (s := S5120) (k0_off9 L) S16.size i9).toLoadRect (View.write (Elt F) (Memref.whole cc0_scratch18).view s18 fj Finset.univ)] : Fin 1 → IVec S16 32) a x).toNat < S5120.size a)
    (h10 : ∀ a x, ((![View.readAt (Elt F) (Memref.whole cc0_scratch18).view (Rect.unit (s := S5120) (k0_off10 L) S16.size i10).toLoadRect (View.write (Elt F) (Memref.whole cc0_scratch18).view s18 fj Finset.univ)] : Fin 1 → IVec S16 32) a x).toNat < S5120.size a) :
    v.read (Elt F) (v.writes (Elt F) f
      [⟨Rect.unit ![144] S16.size b10, loadIdx (F := F) (s := S5120) (e := .f32) A ![View.readAt (Elt F) (Memref.whole cc0_scratch18).view (Rect.unit (s := S5120) (k0_off10 L) S16.size i10).toLoadRect (View.write (Elt F) (Memref.whole cc0_scratch18).view s18 fj Finset.univ)] h10⟩,
        ⟨Rect.unit ![128] S16.size b9, loadIdx (F := F) (s := S5120) (e := .f32) A ![View.readAt (Elt F) (Memref.whole cc0_scratch18).view (Rect.unit (s := S5120) (k0_off9 L) S16.size i9).toLoadRect (View.write (Elt F) (Memref.whole cc0_scratch18).view s18 fj Finset.univ)] h9⟩,
        ⟨Rect.unit ![112] S16.size b8, loadIdx (F := F) (s := S5120) (e := .f32) A ![View.readAt (Elt F) (Memref.whole cc0_scratch18).view (Rect.unit (s := S5120) (k0_off8 L) S16.size i8).toLoadRect (View.write (Elt F) (Memref.whole cc0_scratch18).view s18 fj Finset.univ)] h8⟩,
        ⟨Rect.unit ![96] S16.size b7, loadIdx (F := F) (s := S5120) (e := .f32) A ![View.readAt (Elt F) (Memref.whole cc0_scratch18).view (Rect.unit (s := S5120) (k0_off7 L) S16.size i7).toLoadRect (View.write (Elt F) (Memref.whole cc0_scratch18).view s18 fj Finset.univ)] h7⟩,
        ⟨Rect.unit ![80] S16.size b6, loadIdx (F := F) (s := S5120) (e := .f32) A ![View.readAt (Elt F) (Memref.whole cc0_scratch18).view (Rect.unit (s := S5120) (k0_off6 L) S16.size i6).toLoadRect (View.write (Elt F) (Memref.whole cc0_scratch18).view s18 fj Finset.univ)] h6⟩,
        ⟨Rect.unit ![64] S16.size b5, loadIdx (F := F) (s := S5120) (e := .f32) A ![View.readAt (Elt F) (Memref.whole cc0_scratch18).view (Rect.unit (s := S5120) (k0_off5 L) S16.size i5).toLoadRect (View.write (Elt F) (Memref.whole cc0_scratch18).view s18 fj Finset.univ)] h5⟩,
        ⟨Rect.unit ![48] S16.size b4, loadIdx (F := F) (s := S5120) (e := .f32) A ![View.readAt (Elt F) (Memref.whole cc0_scratch18).view (Rect.unit (s := S5120) (k0_off4 L) S16.size i4).toLoadRect (View.write (Elt F) (Memref.whole cc0_scratch18).view s18 fj Finset.univ)] h4⟩,
        ⟨Rect.unit ![32] S16.size b3, loadIdx (F := F) (s := S5120) (e := .f32) A ![View.readAt (Elt F) (Memref.whole cc0_scratch18).view (Rect.unit (s := S5120) (k0_off3 L) S16.size i3).toLoadRect (View.write (Elt F) (Memref.whole cc0_scratch18).view s18 fj Finset.univ)] h3⟩,
        ⟨Rect.unit ![16] S16.size b2, loadIdx (F := F) (s := S5120) (e := .f32) A ![View.readAt (Elt F) (Memref.whole cc0_scratch18).view (Rect.unit (s := S5120) (k0_off2 L) S16.size i2).toLoadRect (View.write (Elt F) (Memref.whole cc0_scratch18).view s18 fj Finset.univ)] h2⟩,
        ⟨Rect.unit ![0] S16.size b1, loadIdx (F := F) (s := S5120) (e := .f32) A ![View.readAt (Elt F) (Memref.whole cc0_scratch18).view (Rect.unit (s := S5120) (k0_off1 L) S16.size i1).toLoadRect (View.write (Elt F) (Memref.whole cc0_scratch18).view s18 fj Finset.univ)] h1⟩])
      = fun x : S160.Idx => T (pos (fj (pos (base L + (x 0).val))).toNat) :=
  gather_run (F := F) v f T fj (base L) _ _ _ _ _ _ _ _ _ _ _ _ _ _ _ _ _ _ _ _
    (gather_lane hA (match_at d L s18 fj _ _ _ (by rw [k0_off1_eq]; rfl)) _)
    (gather_lane hA (match_at d L s18 fj _ _ _ (by rw [k0_off2_eq]; rfl)) _)
    (gather_lane hA (match_at d L s18 fj _ _ _ (by rw [k0_off3_eq]; rfl)) _)
    (gather_lane hA (match_at d L s18 fj _ _ _ (by rw [k0_off4_eq]; rfl)) _)
    (gather_lane hA (match_at d L s18 fj _ _ _ (by rw [k0_off5_eq]; rfl)) _)
    (gather_lane hA (match_at d L s18 fj _ _ _ (by rw [k0_off6_eq]; rfl)) _)
    (gather_lane hA (match_at d L s18 fj _ _ _ (by rw [k0_off7_eq]; rfl)) _)
    (gather_lane hA (match_at d L s18 fj _ _ _ (by rw [k0_off8_eq]; rfl)) _)
    (gather_lane hA (match_at d L s18 fj _ _ _ (by rw [k0_off9_eq]; rfl)) _)
    (gather_lane hA (match_at d L s18 fj _ _ _ (by rw [k0_off10_eq]; rfl)) _)

omit [FloatOps F] in
/-- The rows of table `r` at a tile's best matches are the tile's piece of the gathered array. -/
theorem gathered_piece (fj : S5120.Idx → BitVec 32) (ft : Buf (Elt F) ((tV d L).loc main_v17_scv)) (hj : ∀ x, (fj x).toNat < 5120) (r : Fin 9) (o : ℕ)
    (ho : o = 5120 * r.val) (hb : ∀ a, (![o] : Fin 1 → ℕ) a + S5120.size a ≤ S46080.size a)
    (hi : ∀ a, k0_off11 L (BitVec.ofNat 32 (5120 * r.val)) a + S160.size a ≤ S46080.size a) (x : S160.Idx) :
    View.read (Elt F) ((Memref.whole main_v17_scv).slice (Rect.unit (s := S46080) ![o] S5120.size hb) (fun _ => rfl)).view ft
        (pos (fj (pos (base L + (x 0).val))).toNat)
      = View.read (Elt F) ((Memref.whole main_v18_0_scv).slice (Rect.unit (s := S46080) (k0_off11 L (BitVec.ofNat 32 (5120 * r.val))) S160.size hi) (fun _ => rfl)).view
          (gathered fj ft : S46080.Idx → F .f32) x := by
  have hx : base L + (x 0).val < 5120 := by
    have := base_le L
    have h : (x 0).val < 160 := (x 0).isLt
    omega
  refine gathered_lane fj ft hj r.val (base L + (x 0).val) hx _ _ ?_ ?_
  · have e : k0_off11 L (BitVec.ofNat 32 (5120 * r.val)) 0 = 5120 * r.val + 320 * (L 1).val + 160 * (L 0).val := congrFun (k0_off11_eq L r) 0
    show k0_off11 L (BitVec.ofNat 32 (5120 * r.val)) 0 + 1 * (x 0).val = 5120 * r.val + (base L + (x 0).val)
    rw [e]; unfold base; omega
  · have e := Nat.mod_eq_of_lt (hj (pos (base L + (x 0).val)))
    show o + 1 * ((fj (pos (base L + (x 0).val))).toNat % 5120) = 5120 * r.val + (fj (pos (base L + (x 0).val))).toNat
    rw [e]; omega

/-- One trip's store. -/
theorem trip_marks (fj : Buf (Elt F) ((tV d L).loc cc0_scratch18)) (fi : Buf (Elt F) ((tV d L).loc cc0_scratch19)) (hj : ∀ x : S5120.Idx, (fj x).toNat < 5120)
    (k : Fin k0_t1_loop.trips) (v : BitVec 32) (hv : v = BitVec.ofNat 32 (base L)) (h) :
    storeIdx (F := F) (s := S160) (e := .f32)
        (View.readAt (Elt F) (Memref.whole cc0_scratch20).view (LoadRect.whole S160) (marks (base L) fj fi (16 * k.val)))
        ![k0_pay10 (F := F) v (View.readAt (Elt F) (Memref.whole cc0_scratch18).view (Rect.unit (s := S5120) (k0_off12 k) S16.size (k0_off12_inb k)).toLoadRect fj)]
        (k0_pay7 (F := F))
        (k0_pay9 v (View.readAt (Elt F) (Memref.whole cc0_scratch18).view (Rect.unit (s := S5120) (k0_off12 k) S16.size (k0_off12_inb k)).toLoadRect fj)
          (View.readAt (Elt F) (Memref.whole cc0_scratch19).view (Rect.unit (s := S5120) (k0_off12 k) S16.size (k0_off12_inb k)).toLoadRect fi)) false h
      = (marks (base L) fj fi (16 * (k.val + 1)) : S160.Idx → F .f32) := by
  subst hv
  rw [show View.readAt (Elt F) (Memref.whole cc0_scratch20).view (LoadRect.whole S160) (marks (base L) fj fi (16 * k.val))
      = (marks (base L) fj fi (16 * k.val) : S160.Idx → F .f32) from funext fun y => congrArg (marks (base L) fj fi (16 * k.val)) (LoadRect.idx_whole y)]
  exact marks_step (base_le L) fj fi hj k _ _ (run_at d L fj _ _ _ (by rw [k0_off12_eq]; rfl)) (run_at' d L fi _ _ _ (by rw [k0_off12_eq]; rfl)) h

omit [FloatOps F] in
/-- A buffer stored whole holds what was stored. -/
theorem stored (f X : S160.Idx → F .f32) :
    (Memref.whole cc0_scratch20 : Memref sig .scVector _ _ _).view.writes (Elt F) f [⟨Rect.whole S160, X⟩] = X := by
  funext y
  exact writes_whole (F := F) (Memref.whole cc0_scratch20 : Memref sig .scVector _ _ _).view f X X (fun _ => rfl) y (by simp only [Memref.view_whole, View.set_whole]; exact Finset.mem_univ _)

/-- The loop's invariant: the copies of the best matches and the IoUs, and the marks of the boxes passed. -/
def inv (fj : Buf (Elt F) ((tV d L).loc cc0_scratch18)) (fi : Buf (Elt F) ((tV d L).loc cc0_scratch19)) (k : ℕ) (_ : PUnit) : sProp 𝕄 :=
  iprop(((Memref.whole cc0_scratch18).view.loc (tV d L) ↦{fullShare} fj) ∗ ((Memref.whole cc0_scratch19).view.loc (tV d L) ↦{fullShare} fi)
    ∗ ((Memref.whole cc0_scratch20).view.loc (tV d L) ↦{fullShare} (marks (base L) fj fi (16 * k) : S160.Idx → F .f32)))

/-- The loop's state when `n` boxes are passed. -/
theorem inv_at (fj : Buf (Elt F) ((tV d L).loc cc0_scratch18)) (fi : Buf (Elt F) ((tV d L).loc cc0_scratch19)) (k n : ℕ) (h : 16 * k = n) (u : PUnit) :
    inv d L fj fi k u = iprop(((Memref.whole cc0_scratch18).view.loc (tV d L) ↦{fullShare} fj) ∗ ((Memref.whole cc0_scratch19).view.loc (tV d L) ↦{fullShare} fi)
      ∗ ((Memref.whole cc0_scratch20).view.loc (tV d L) ↦{fullShare} (marks (base L) fj fi n : S160.Idx → F .f32))) := by
  subst h; rfl

/-- An array that agrees at one index with the scratch agrees with it there as the tile's piece. -/
theorem piece_read (M : S160.Idx → F .f32) (N : S5120.Idx → F .f32) (x : S160.Idx) (h : N (((Memref.whole main_v18_1_scv).slice (Rect.unit (s := S5120) (k0_off13 L) S160.size (k0_off13_inb L)) (fun _ => rfl)).view.emb x) = M x) :
    View.read (Elt F) (Memref.whole cc0_scratch20 : Memref sig .scVector _ _ _).view M x = View.read (Elt F) ((Memref.whole main_v18_1_scv).slice (Rect.unit (s := S5120) (k0_off13 L) S160.size (k0_off13_inb L)) (fun _ => rfl)).view N x :=
  h.symm

/-- The marks of all the boxes are the tile's piece of the marks' array. -/
theorem marks_piece (fj : S5120.Idx → BitVec 32) (fi : S5120.Idx → F .f32) (x : S160.Idx) :
    View.read (Elt F) (Memref.whole cc0_scratch20 : Memref sig .scVector _ _ _).view (marks (base L) fj fi 5120 : S160.Idx → F .f32) x
      = View.read (Elt F) ((Memref.whole main_v18_1_scv).slice (Rect.unit (s := S5120) (k0_off13 L) S160.size (k0_off13_inb L)) (fun _ => rfl)).view (matched fj fi : S5120.Idx → F .f32) x := by
  have e : k0_off13 L 0 = 320 * (L 1).val + 160 * (L 0).val := congrFun (k0_off13_eq L) 0
  have h := matched_at fj fi (base L) x (((Memref.whole main_v18_1_scv).slice (Rect.unit (s := S5120) (k0_off13 L) S160.size (k0_off13_inb L)) (fun _ => rfl)).view.emb x) (by
    show k0_off13 L 0 + 1 * (x 0).val = base L + (x 0).val
    rw [e]; unfold base; omega)
  exact piece_read L _ _ x h
set_option maxHeartbeats 4000000 in
/-- The task of one tile: its pieces of the two results end at the gathered rows and at the marks; the arrays it reads, its scratch and its semaphores are given back. -/
theorem tile_run (O : CellTallies nD τ sig (HIx 1)) (W : Waits sig (HIx 1)) (hO : ∀ g, O g none = 0)
    (q : PosShare TreeShare)
    (fj : Buf (Elt F) ((tV d L).loc main_arg0_scv)) (fi : Buf (Elt F) ((tV d L).loc main_arg1_scv)) (ft : Buf (Elt F) ((tV d L).loc main_v17_scv))
    (fg : Buf (Elt F) ((tV d L).loc main_v18_0_scv)) (fc : Buf (Elt F) ((tV d L).loc main_v18_1_scv))
    (s0 : Buf (Elt F) ((tV d L).loc cc0_scratch0))
    (s1 : Buf (Elt F) ((tV d L).loc cc0_scratch1))
    (s2 : Buf (Elt F) ((tV d L).loc cc0_scratch2))
    (s3 : Buf (Elt F) ((tV d L).loc cc0_scratch3))
    (s4 : Buf (Elt F) ((tV d L).loc cc0_scratch4))
    (s5 : Buf (Elt F) ((tV d L).loc cc0_scratch5))
    (s6 : Buf (Elt F) ((tV d L).loc cc0_scratch6))
    (s7 : Buf (Elt F) ((tV d L).loc cc0_scratch7))
    (s8 : Buf (Elt F) ((tV d L).loc cc0_scratch8))
    (s9 : Buf (Elt F) ((tV d L).loc cc0_scratch9))
    (s10 : Buf (Elt F) ((tV d L).loc cc0_scratch10))
    (s11 : Buf (Elt F) ((tV d L).loc cc0_scratch11))
    (s12 : Buf (Elt F) ((tV d L).loc cc0_scratch12))
    (s13 : Buf (Elt F) ((tV d L).loc cc0_scratch13))
    (s14 : Buf (Elt F) ((tV d L).loc cc0_scratch14))
    (s15 : Buf (Elt F) ((tV d L).loc cc0_scratch15))
    (s16 : Buf (Elt F) ((tV d L).loc cc0_scratch16))
    (s17 : Buf (Elt F) ((tV d L).loc cc0_scratch17))
    (s18 : Buf (Elt F) ((tV d L).loc cc0_scratch18))
    (s19 : Buf (Elt F) ((tV d L).loc cc0_scratch19))
    (s20 : Buf (Elt F) ((tV d L).loc cc0_scratch20))
    (hj : ∀ x : S5120.Idx, (fj x).toNat < 5120) :
    iprop(levAts (K (F := F)).L (K (F := F)).lev
      ∗ ((Memref.whole main_arg0_scv).view.loc (tV d L) ↦{q} fj)
      ∗ ((Memref.whole main_arg1_scv).view.loc (tV d L) ↦{q} fi)
      ∗ ((Memref.whole main_v17_scv).view.loc (tV d L) ↦{q} ft)
      ∗ (((Memref.whole main_v18_0_scv).slice (Rect.unit (s := S46080) (k0_off11 L 0#32) S160.size (k0_off11_inb L 0)) (fun _ => rfl)).view.loc (tV d L) ↦[((Memref.whole main_v18_0_scv).slice (Rect.unit (s := S46080) (k0_off11 L 0#32) S160.size (k0_off11_inb L 0)) (fun _ => rfl)).view.set]{fullShare} fg)
      ∗ (((Memref.whole main_v18_0_scv).slice (Rect.unit (s := S46080) (k0_off11 L 5120#32) S160.size (k0_off11_inb L 1)) (fun _ => rfl)).view.loc (tV d L) ↦[((Memref.whole main_v18_0_scv).slice (Rect.unit (s := S46080) (k0_off11 L 5120#32) S160.size (k0_off11_inb L 1)) (fun _ => rfl)).view.set]{fullShare} fg)
      ∗ (((Memref.whole main_v18_0_scv).slice (Rect.unit (s := S46080) (k0_off11 L 10240#32) S160.size (k0_off11_inb L 2)) (fun _ => rfl)).view.loc (tV d L) ↦[((Memref.whole main_v18_0_scv).slice (Rect.unit (s := S46080) (k0_off11 L 10240#32) S160.size (k0_off11_inb L 2)) (fun _ => rfl)).view.set]{fullShare} fg)
      ∗ (((Memref.whole main_v18_0_scv).slice (Rect.unit (s := S46080) (k0_off11 L 15360#32) S160.size (k0_off11_inb L 3)) (fun _ => rfl)).view.loc (tV d L) ↦[((Memref.whole main_v18_0_scv).slice (Rect.unit (s := S46080) (k0_off11 L 15360#32) S160.size (k0_off11_inb L 3)) (fun _ => rfl)).view.set]{fullShare} fg)
      ∗ (((Memref.whole main_v18_0_scv).slice (Rect.unit (s := S46080) (k0_off11 L 20480#32) S160.size (k0_off11_inb L 4)) (fun _ => rfl)).view.loc (tV d L) ↦[((Memref.whole main_v18_0_scv).slice (Rect.unit (s := S46080) (k0_off11 L 20480#32) S160.size (k0_off11_inb L 4)) (fun _ => rfl)).view.set]{fullShare} fg)
      ∗ (((Memref.whole main_v18_0_scv).slice (Rect.unit (s := S46080) (k0_off11 L 25600#32) S160.size (k0_off11_inb L 5)) (fun _ => rfl)).view.loc (tV d L) ↦[((Memref.whole main_v18_0_scv).slice (Rect.unit (s := S46080) (k0_off11 L 25600#32) S160.size (k0_off11_inb L 5)) (fun _ => rfl)).view.set]{fullShare} fg)
      ∗ (((Memref.whole main_v18_0_scv).slice (Rect.unit (s := S46080) (k0_off11 L 30720#32) S160.size (k0_off11_inb L 6)) (fun _ => rfl)).view.loc (tV d L) ↦[((Memref.whole main_v18_0_scv).slice (Rect.unit (s := S46080) (k0_off11 L 30720#32) S160.size (k0_off11_inb L 6)) (fun _ => rfl)).view.set]{fullShare} fg)
      ∗ (((Memref.whole main_v18_0_scv).slice (Rect.unit (s := S46080) (k0_off11 L 35840#32) S160.size (k0_off11_inb L 7)) (fun _ => rfl)).view.loc (tV d L) ↦[((Memref.whole main_v18_0_scv).slice (Rect.unit (s := S46080) (k0_off11 L 35840#32) S160.size (k0_off11_inb L 7)) (fun _ => rfl)).view.set]{fullShare} fg)
      ∗ (((Memref.whole main_v18_0_scv).slice (Rect.unit (s := S46080) (k0_off11 L 40960#32) S160.size (k0_off11_inb L 8)) (fun _ => rfl)).view.loc (tV d L) ↦[((Memref.whole main_v18_0_scv).slice (Rect.unit (s := S46080) (k0_off11 L 40960#32) S160.size (k0_off11_inb L 8)) (fun _ => rfl)).view.set]{fullShare} fg)
      ∗ (((Memref.whole main_v18_1_scv).slice (Rect.unit (s := S5120) (k0_off13 L) S160.size (k0_off13_inb L)) (fun _ => rfl)).view.loc (tV d L) ↦[((Memref.whole main_v18_1_scv).slice (Rect.unit (s := S5120) (k0_off13 L) S160.size (k0_off13_inb L)) (fun _ => rfl)).view.set]{fullShare} fc)
      ∗ ((Memref.whole cc0_scratch0).view.loc (tV d L) ↦{fullShare} s0)
      ∗ ((Memref.whole cc0_scratch1).view.loc (tV d L) ↦{fullShare} s1)
      ∗ ((Memref.whole cc0_scratch2).view.loc (tV d L) ↦{fullShare} s2)
      ∗ ((Memref.whole cc0_scratch3).view.loc (tV d L) ↦{fullShare} s3)
      ∗ ((Memref.whole cc0_scratch4).view.loc (tV d L) ↦{fullShare} s4)
      ∗ ((Memref.whole cc0_scratch5).view.loc (tV d L) ↦{fullShare} s5)
      ∗ ((Memref.whole cc0_scratch6).view.loc (tV d L) ↦{fullShare} s6)
      ∗ ((Memref.whole cc0_scratch7).view.loc (tV d L) ↦{fullShare} s7)
      ∗ ((Memref.whole cc0_scratch8).view.loc (tV d L) ↦{fullShare} s8)
      ∗ ((Memref.whole cc0_scratch9).view.loc (tV d L) ↦{fullShare} s9)
      ∗ ((Memref.whole cc0_scratch10).view.loc (tV d L) ↦{fullShare} s10)
      ∗ ((Memref.whole cc0_scratch11).view.loc (tV d L) ↦{fullShare} s11)
      ∗ ((Memref.whole cc0_scratch12).view.loc (tV d L) ↦{fullShare} s12)
      ∗ ((Memref.whole cc0_scratch13).view.loc (tV d L) ↦{fullShare} s13)
      ∗ ((Memref.whole cc0_scratch14).view.loc (tV d L) ↦{fullShare} s14)
      ∗ ((Memref.whole cc0_scratch15).view.loc (tV d L) ↦{fullShare} s15)
      ∗ ((Memref.whole cc0_scratch16).view.loc (tV d L) ↦{fullShare} s16)
      ∗ ((Memref.whole cc0_scratch17).view.loc (tV d L) ↦{fullShare} s17)
      ∗ ((Memref.whole cc0_scratch18).view.loc (tV d L) ↦{fullShare} s18)
      ∗ ((Memref.whole cc0_scratch19).view.loc (tV d L) ↦{fullShare} s19)
      ∗ ((Memref.whole cc0_scratch20).view.loc (tV d L) ↦{fullShare} s20)
      ∗ semVal (tV d L, SemLoc.dma cc0_scoped0.sem) 0
      ∗ semVal (tV d L, SemLoc.dma cc0_scoped1.sem) 0
      ∗ semVal (tV d L, SemLoc.dma cc0_scoped2.sem) 0
      ∗ semVal (tV d L, SemLoc.dma cc0_scoped3.sem) 0
      ∗ semVal (tV d L, SemLoc.dma cc0_scoped4.sem) 0
      ∗ semVal (tV d L, SemLoc.dma cc0_scoped5.sem) 0
      ∗ semVal (tV d L, SemLoc.dma cc0_scoped6.sem) 0
      ∗ semVal (tV d L, SemLoc.dma cc0_scoped7.sem) 0
      ∗ semVal (tV d L, SemLoc.dma cc0_scoped8.sem) 0
      ∗ semVal (tV d L, SemLoc.dma cc0_scoped9.sem) 0
      ∗ semVal (tV d L, SemLoc.dma cc0_scoped10.sem) 0
      ∗ semVal (tV d L, SemLoc.dma cc0_scoped11.sem) 0
      ∗ semVal (tV d L, SemLoc.dma cc0_scoped12.sem) 0
      ∗ semVal (tV d L, SemLoc.dma cc0_scoped13.sem) 0
      ∗ semVal (tV d L, SemLoc.dma cc0_scoped14.sem) 0
      ∗ semVal (tV d L, SemLoc.dma cc0_scoped15.sem) 0
      ∗ semVal (tV d L, SemLoc.dma cc0_scoped16.sem) 0
      ∗ semVal (tV d L, SemLoc.dma cc0_scoped17.sem) 0
      ∗ semVal (tV d L, SemLoc.dma cc0_scoped18.sem) 0
      ∗ semVal (tV d L, SemLoc.dma cc0_scoped19.sem) 0
      ∗ semVal (tV d L, SemLoc.dma cc0_scoped20.sem) 0
      ∗ owes (tV d L) O W)
      ⊢ (wp frame (wpE (defs₀ (F := F)) 𝒱₀ (tV d L) none) Set.univ
          (cc0__sc_body L (Memref.whole main_arg0_scv) (Memref.isWhole_whole _) (Memref.whole main_arg1_scv) (Memref.isWhole_whole _) (Memref.whole main_v17_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20)
          fun _ => iprop(((Memref.whole main_arg0_scv).view.loc (tV d L) ↦{q} fj)
      ∗ ((Memref.whole main_arg1_scv).view.loc (tV d L) ↦{q} fi)
      ∗ ((Memref.whole main_v17_scv).view.loc (tV d L) ↦{q} ft)
      ∗ (((Memref.whole main_v18_0_scv).slice (Rect.unit (s := S46080) (k0_off11 L 0#32) S160.size (k0_off11_inb L 0)) (fun _ => rfl)).view.loc (tV d L) ↦[((Memref.whole main_v18_0_scv).slice (Rect.unit (s := S46080) (k0_off11 L 0#32) S160.size (k0_off11_inb L 0)) (fun _ => rfl)).view.set]{fullShare} (gathered fj ft : S46080.Idx → F .f32))
      ∗ (((Memref.whole main_v18_0_scv).slice (Rect.unit (s := S46080) (k0_off11 L 5120#32) S160.size (k0_off11_inb L 1)) (fun _ => rfl)).view.loc (tV d L) ↦[((Memref.whole main_v18_0_scv).slice (Rect.unit (s := S46080) (k0_off11 L 5120#32) S160.size (k0_off11_inb L 1)) (fun _ => rfl)).view.set]{fullShare} (gathered fj ft : S46080.Idx → F .f32))
      ∗ (((Memref.whole main_v18_0_scv).slice (Rect.unit (s := S46080) (k0_off11 L 10240#32) S160.size (k0_off11_inb L 2)) (fun _ => rfl)).view.loc (tV d L) ↦[((Memref.whole main_v18_0_scv).slice (Rect.unit (s := S46080) (k0_off11 L 10240#32) S160.size (k0_off11_inb L 2)) (fun _ => rfl)).view.set]{fullShare} (gathered fj ft : S46080.Idx → F .f32))
      ∗ (((Memref.whole main_v18_0_scv).slice (Rect.unit (s := S46080) (k0_off11 L 15360#32) S160.size (k0_off11_inb L 3)) (fun _ => rfl)).view.loc (tV d L) ↦[((Memref.whole main_v18_0_scv).slice (Rect.unit (s := S46080) (k0_off11 L 15360#32) S160.size (k0_off11_inb L 3)) (fun _ => rfl)).view.set]{fullShare} (gathered fj ft : S46080.Idx → F .f32))
      ∗ (((Memref.whole main_v18_0_scv).slice (Rect.unit (s := S46080) (k0_off11 L 20480#32) S160.size (k0_off11_inb L 4)) (fun _ => rfl)).view.loc (tV d L) ↦[((Memref.whole main_v18_0_scv).slice (Rect.unit (s := S46080) (k0_off11 L 20480#32) S160.size (k0_off11_inb L 4)) (fun _ => rfl)).view.set]{fullShare} (gathered fj ft : S46080.Idx → F .f32))
      ∗ (((Memref.whole main_v18_0_scv).slice (Rect.unit (s := S46080) (k0_off11 L 25600#32) S160.size (k0_off11_inb L 5)) (fun _ => rfl)).view.loc (tV d L) ↦[((Memref.whole main_v18_0_scv).slice (Rect.unit (s := S46080) (k0_off11 L 25600#32) S160.size (k0_off11_inb L 5)) (fun _ => rfl)).view.set]{fullShare} (gathered fj ft : S46080.Idx → F .f32))
      ∗ (((Memref.whole main_v18_0_scv).slice (Rect.unit (s := S46080) (k0_off11 L 30720#32) S160.size (k0_off11_inb L 6)) (fun _ => rfl)).view.loc (tV d L) ↦[((Memref.whole main_v18_0_scv).slice (Rect.unit (s := S46080) (k0_off11 L 30720#32) S160.size (k0_off11_inb L 6)) (fun _ => rfl)).view.set]{fullShare} (gathered fj ft : S46080.Idx → F .f32))
      ∗ (((Memref.whole main_v18_0_scv).slice (Rect.unit (s := S46080) (k0_off11 L 35840#32) S160.size (k0_off11_inb L 7)) (fun _ => rfl)).view.loc (tV d L) ↦[((Memref.whole main_v18_0_scv).slice (Rect.unit (s := S46080) (k0_off11 L 35840#32) S160.size (k0_off11_inb L 7)) (fun _ => rfl)).view.set]{fullShare} (gathered fj ft : S46080.Idx → F .f32))
      ∗ (((Memref.whole main_v18_0_scv).slice (Rect.unit (s := S46080) (k0_off11 L 40960#32) S160.size (k0_off11_inb L 8)) (fun _ => rfl)).view.loc (tV d L) ↦[((Memref.whole main_v18_0_scv).slice (Rect.unit (s := S46080) (k0_off11 L 40960#32) S160.size (k0_off11_inb L 8)) (fun _ => rfl)).view.set]{fullShare} (gathered fj ft : S46080.Idx → F .f32))
      ∗ (((Memref.whole main_v18_1_scv).slice (Rect.unit (s := S5120) (k0_off13 L) S160.size (k0_off13_inb L)) (fun _ => rfl)).view.loc (tV d L) ↦[((Memref.whole main_v18_1_scv).slice (Rect.unit (s := S5120) (k0_off13 L) S160.size (k0_off13_inb L)) (fun _ => rfl)).view.set]{fullShare} (matched fj fi : S5120.Idx → F .f32))
      ∗ (∃ f, (Memref.whole cc0_scratch0).view.loc (tV d L) ↦{fullShare} f)
      ∗ (∃ f, (Memref.whole cc0_scratch1).view.loc (tV d L) ↦{fullShare} f)
      ∗ (∃ f, (Memref.whole cc0_scratch2).view.loc (tV d L) ↦{fullShare} f)
      ∗ (∃ f, (Memref.whole cc0_scratch3).view.loc (tV d L) ↦{fullShare} f)
      ∗ (∃ f, (Memref.whole cc0_scratch4).view.loc (tV d L) ↦{fullShare} f)
      ∗ (∃ f, (Memref.whole cc0_scratch5).view.loc (tV d L) ↦{fullShare} f)
      ∗ (∃ f, (Memref.whole cc0_scratch6).view.loc (tV d L) ↦{fullShare} f)
      ∗ (∃ f, (Memref.whole cc0_scratch7).view.loc (tV d L) ↦{fullShare} f)
      ∗ (∃ f, (Memref.whole cc0_scratch8).view.loc (tV d L) ↦{fullShare} f)
      ∗ (∃ f, (Memref.whole cc0_scratch9).view.loc (tV d L) ↦{fullShare} f)
      ∗ (∃ f, (Memref.whole cc0_scratch10).view.loc (tV d L) ↦{fullShare} f)
      ∗ (∃ f, (Memref.whole cc0_scratch11).view.loc (tV d L) ↦{fullShare} f)
      ∗ (∃ f, (Memref.whole cc0_scratch12).view.loc (tV d L) ↦{fullShare} f)
      ∗ (∃ f, (Memref.whole cc0_scratch13).view.loc (tV d L) ↦{fullShare} f)
      ∗ (∃ f, (Memref.whole cc0_scratch14).view.loc (tV d L) ↦{fullShare} f)
      ∗ (∃ f, (Memref.whole cc0_scratch15).view.loc (tV d L) ↦{fullShare} f)
      ∗ (∃ f, (Memref.whole cc0_scratch16).view.loc (tV d L) ↦{fullShare} f)
      ∗ (∃ f, (Memref.whole cc0_scratch17).view.loc (tV d L) ↦{fullShare} f)
      ∗ (∃ f, (Memref.whole cc0_scratch18).view.loc (tV d L) ↦{fullShare} f)
      ∗ (∃ f, (Memref.whole cc0_scratch19).view.loc (tV d L) ↦{fullShare} f)
      ∗ (∃ f, (Memref.whole cc0_scratch20).view.loc (tV d L) ↦{fullShare} f)
      ∗ semVal (tV d L, SemLoc.dma cc0_scoped0.sem) 0
      ∗ semVal (tV d L, SemLoc.dma cc0_scoped1.sem) 0
      ∗ semVal (tV d L, SemLoc.dma cc0_scoped2.sem) 0
      ∗ semVal (tV d L, SemLoc.dma cc0_scoped3.sem) 0
      ∗ semVal (tV d L, SemLoc.dma cc0_scoped4.sem) 0
      ∗ semVal (tV d L, SemLoc.dma cc0_scoped5.sem) 0
      ∗ semVal (tV d L, SemLoc.dma cc0_scoped6.sem) 0
      ∗ semVal (tV d L, SemLoc.dma cc0_scoped7.sem) 0
      ∗ semVal (tV d L, SemLoc.dma cc0_scoped8.sem) 0
      ∗ semVal (tV d L, SemLoc.dma cc0_scoped9.sem) 0
      ∗ semVal (tV d L, SemLoc.dma cc0_scoped10.sem) 0
      ∗ semVal (tV d L, SemLoc.dma cc0_scoped11.sem) 0
      ∗ semVal (tV d L, SemLoc.dma cc0_scoped12.sem) 0
      ∗ semVal (tV d L, SemLoc.dma cc0_scoped13.sem) 0
      ∗ semVal (tV d L, SemLoc.dma cc0_scoped14.sem) 0
      ∗ semVal (tV d L, SemLoc.dma cc0_scoped15.sem) 0
      ∗ semVal (tV d L, SemLoc.dma cc0_scoped16.sem) 0
      ∗ semVal (tV d L, SemLoc.dma cc0_scoped17.sem) 0
      ∗ semVal (tV d L, SemLoc.dma cc0_scoped18.sem) 0
      ∗ semVal (tV d L, SemLoc.dma cc0_scoped19.sem) 0
      ∗ semVal (tV d L, SemLoc.dma cc0_scoped20.sem) 0
      ∗ ∃ W', ⌜∀ p ∈ W', p ∈ W ∨ p.2 = none⌝ ∗ owes (tV d L) O W') : sProp 𝕄) := by
  rw [cc0__sc_body_eq_skeleton]
  iintro ⟨#Hlv, Hj, Hi, Ht, Hg0, Hg1, Hg2, Hg3, Hg4, Hg5, Hg6, Hg7, Hg8, Hc, Hs0, Hs1, Hs2, Hs3, Hs4, Hs5, Hs6, Hs7, Hs8, Hs9, Hs10, Hs11, Hs12, Hs13, Hs14, Hs15, Hs16, Hs17, Hs18, Hs19, Hs20, Hm0, Hm1, Hm2, Hm3, Hm4, Hm5, Hm6, Hm7, Hm8, Hm9, Hm10, Hm11, Hm12, Hm13, Hm14, Hm15, Hm16, Hm17, Hm18, Hm19, Hm20, HO⟩
  ihave Hmw := ((K (F := F)).mayWaits_none (thr := tV d L) hO) $$ Hlv
  sl_exec (disch := (first | with_reducible refine load_ok1 d L _ _ _ _ ?_ | with_reducible refine load_ok2 d L _ _ _ _ ?_ | with_reducible refine load_ok3 d L _ _ _ _ ?_ | with_reducible refine load_ok4 d L _ _ _ _ ?_ | with_reducible refine load_ok5 d L _ _ _ _ ?_ | with_reducible refine load_ok6 d L _ _ _ _ ?_ | with_reducible refine load_ok7 d L _ _ _ _ ?_ | with_reducible refine load_ok8 d L _ _ _ _ ?_ | with_reducible refine load_ok9 d L _ _ _ _ ?_ | with_reducible refine load_ok10 d L _ _ _ _ ?_) <;> exact hj)
  have e18 : View.write (Elt F) (Memref.whole cc0_scratch18).view s18 (tile_run.sl.dma0 d L fj) Finset.univ = fj := View.write_whole_univ _ _ _
  have e19 : View.write (Elt F) (Memref.whole cc0_scratch19).view s19 (tile_run.sl.dma0_1 d L fi) Finset.univ = fi := View.write_whole_univ _ _ _
  have e20 : (Memref.whole cc0_scratch20).view.writes (Elt F) (Memref.whole cc0_scratch20).view.junk (tile_run.sl.Hs20_10 (F := F)) = (marks (base L) fj fi (16 * 0) : S160.Idx → F .f32) := by
    refine Eq.trans ?_ (marks_zero _ _ _).symm
    exact read_ten (F := F) (Memref.whole cc0_scratch20).view _ (fun _ => Scalar.ofBits .f32 0x00000000#32) rfl rfl rfl rfl rfl rfl rfl rfl rfl rfl _ _ _ _ _ _ _ _ _ _
      (fun _ => rfl) (fun _ => rfl) (fun _ => rfl) (fun _ => rfl) (fun _ => rfl) (fun _ => rfl) (fun _ => rfl) (fun _ => rfl) (fun _ => rfl) (fun _ => rfl)
  have ev : ∀ L : grid0.Coords, tile_run.sl.v2 L = BitVec.ofNat 32 (base L) := by decide +kernel
  have g0 : ∀ x : S160.Idx, tile_run.sl.dma280 d L fj ft s0 s9 s18 hj x = View.read (Elt F) ((Memref.whole main_v18_0_scv).slice (Rect.unit (s := S46080) (k0_off11 L 0#32) S160.size (k0_off11_inb L 0)) (fun _ => rfl)).view (gathered fj ft : S46080.Idx → F .f32) x :=
    fun x => (congrFun (table_rows d L (Memref.whole cc0_scratch9).view _ _ _ (table_at cc0_scratch0 _ _) s18 fj _ _ _ _ _ _ _ _ _ _ _ _ _ _ _ _ _ _ _ _ _ _ _ _ _ _ _ _ _ _) x).trans
      (gathered_piece d L fj ft hj ⟨0, by decide⟩ 0 rfl _ _ x)
  have g1 : ∀ x : S160.Idx, tile_run.sl.dma280_1 d L fj ft s1 s10 s18 hj x = View.read (Elt F) ((Memref.whole main_v18_0_scv).slice (Rect.unit (s := S46080) (k0_off11 L 5120#32) S160.size (k0_off11_inb L 1)) (fun _ => rfl)).view (gathered fj ft : S46080.Idx → F .f32) x :=
    fun x => (congrFun (table_rows d L (Memref.whole cc0_scratch10).view _ _ _ (table_at cc0_scratch1 _ _) s18 fj _ _ _ _ _ _ _ _ _ _ _ _ _ _ _ _ _ _ _ _ _ _ _ _ _ _ _ _ _ _) x).trans
      (gathered_piece d L fj ft hj ⟨1, by decide⟩ 5120 rfl _ _ x)
  have g2 : ∀ x : S160.Idx, tile_run.sl.dma280_2 d L fj ft s2 s11 s18 hj x = View.read (Elt F) ((Memref.whole main_v18_0_scv).slice (Rect.unit (s := S46080) (k0_off11 L 10240#32) S160.size (k0_off11_inb L 2)) (fun _ => rfl)).view (gathered fj ft : S46080.Idx → F .f32) x :=
    fun x => (congrFun (table_rows d L (Memref.whole cc0_scratch11).view _ _ _ (table_at cc0_scratch2 _ _) s18 fj _ _ _ _ _ _ _ _ _ _ _ _ _ _ _ _ _ _ _ _ _ _ _ _ _ _ _ _ _ _) x).trans
      (gathered_piece d L fj ft hj ⟨2, by decide⟩ 10240 rfl _ _ x)
  have g3 : ∀ x : S160.Idx, tile_run.sl.dma280_3 d L fj ft s3 s12 s18 hj x = View.read (Elt F) ((Memref.whole main_v18_0_scv).slice (Rect.unit (s := S46080) (k0_off11 L 15360#32) S160.size (k0_off11_inb L 3)) (fun _ => rfl)).view (gathered fj ft : S46080.Idx → F .f32) x :=
    fun x => (congrFun (table_rows d L (Memref.whole cc0_scratch12).view _ _ _ (table_at cc0_scratch3 _ _) s18 fj _ _ _ _ _ _ _ _ _ _ _ _ _ _ _ _ _ _ _ _ _ _ _ _ _ _ _ _ _ _) x).trans
      (gathered_piece d L fj ft hj ⟨3, by decide⟩ 15360 rfl _ _ x)
  have g4 : ∀ x : S160.Idx, tile_run.sl.dma280_4 d L fj ft s4 s13 s18 hj x = View.read (Elt F) ((Memref.whole main_v18_0_scv).slice (Rect.unit (s := S46080) (k0_off11 L 20480#32) S160.size (k0_off11_inb L 4)) (fun _ => rfl)).view (gathered fj ft : S46080.Idx → F .f32) x :=
    fun x => (congrFun (table_rows d L (Memref.whole cc0_scratch13).view _ _ _ (table_at cc0_scratch4 _ _) s18 fj _ _ _ _ _ _ _ _ _ _ _ _ _ _ _ _ _ _ _ _ _ _ _ _ _ _ _ _ _ _) x).trans
      (gathered_piece d L fj ft hj ⟨4, by decide⟩ 20480 rfl _ _ x)
  have g5 : ∀ x : S160.Idx, tile_run.sl.dma280_5 d L fj ft s5 s14 s18 hj x = View.read (Elt F) ((Memref.whole main_v18_0_scv).slice (Rect.unit (s := S46080) (k0_off11 L 25600#32) S160.size (k0_off11_inb L 5)) (fun _ => rfl)).view (gathered fj ft : S46080.Idx → F .f32) x :=
    fun x => (congrFun (table_rows d L (Memref.whole cc0_scratch14).view _ _ _ (table_at cc0_scratch5 _ _) s18 fj _ _ _ _ _ _ _ _ _ _ _ _ _ _ _ _ _ _ _ _ _ _ _ _ _ _ _ _ _ _) x).trans
      (gathered_piece d L fj ft hj ⟨5, by decide⟩ 25600 rfl _ _ x)
  have g6 : ∀ x : S160.Idx, tile_run.sl.dma280_6 d L fj ft s6 s15 s18 hj x = View.read (Elt F) ((Memref.whole main_v18_0_scv).slice (Rect.unit (s := S46080) (k0_off11 L 30720#32) S160.size (k0_off11_inb L 6)) (fun _ => rfl)).view (gathered fj ft : S46080.Idx → F .f32) x :=
    fun x => (congrFun (table_rows d L (Memref.whole cc0_scratch15).view _ _ _ (table_at cc0_scratch6 _ _) s18 fj _ _ _ _ _ _ _ _ _ _ _ _ _ _ _ _ _ _ _ _ _ _ _ _ _ _ _ _ _ _) x).trans
      (gathered_piece d L fj ft hj ⟨6, by decide⟩ 30720 rfl _ _ x)
  have g7 : ∀ x : S160.Idx, tile_run.sl.dma280_7 d L fj ft s7 s16 s18 hj x = View.read (Elt F) ((Memref.whole main_v18_0_scv).slice (Rect.unit (s := S46080) (k0_off11 L 35840#32) S160.size (k0_off11_inb L 7)) (fun _ => rfl)).view (gathered fj ft : S46080.Idx → F .f32) x :=
    fun x => (congrFun (table_rows d L (Memref.whole cc0_scratch16).view _ _ _ (table_at cc0_scratch7 _ _) s18 fj _ _ _ _ _ _ _ _ _ _ _ _ _ _ _ _ _ _ _ _ _ _ _ _ _ _ _ _ _ _) x).trans
      (gathered_piece d L fj ft hj ⟨7, by decide⟩ 35840 rfl _ _ x)
  have g8 : ∀ x : S160.Idx, tile_run.sl.dma280_8 d L fj ft s8 s17 s18 hj x = View.read (Elt F) ((Memref.whole main_v18_0_scv).slice (Rect.unit (s := S46080) (k0_off11 L 40960#32) S160.size (k0_off11_inb L 8)) (fun _ => rfl)).view (gathered fj ft : S46080.Idx → F .f32) x :=
    fun x => (congrFun (table_rows d L (Memref.whole cc0_scratch17).view _ _ _ (table_at cc0_scratch8 _ _) s18 fj _ _ _ _ _ _ _ _ _ _ _ _ _ _ _ _ _ _ _ _ _ _ _ _ _ _ _ _ _ _) x).trans
      (gathered_piece d L fj ft hj ⟨8, by decide⟩ 40960 rfl _ _ x)
  rw [e18, e19, e20]
  clear e18 e19 e20
  sl_for (inv d L fj fi) $$ [Hs18 Hs19 Hs20]
  case region =>
    intro k _
    unfold inv
    iintro ⟨Hs18, Hs19, Hs20⟩
    sl_exec (disch := exact mark_ok _ _)
    sl_step
    rw [stored]
    unfold tile_run.sl.v263
    rw [trip_marks d L fj fi hj k _ (ev L)]
    isplitl [Hs18]; · iexact Hs18
    isplitl [Hs19]; · iexact Hs19
    iexact Hs20
  · unfold inv
    isplitl [Hs18]; · iexact Hs18
    isplitl [Hs19]; · iexact Hs19
    iexact Hs20
  iintro %acc HI0
  ihave HI := (Entails.of_eq (inv_at d L fj fi k0_t1_loop.trips 5120 (by decide) acc)) $$ HI0
  icases HI with ⟨Hs18, Hs19, Hs20⟩
  sl_exec
  sl_step
  isplitl [Hj]; · iexact Hj
  isplitl [Hi]; · iexact Hi
  isplitl [Ht]; · iexact Ht
  isplitl [Hg0]; · iapply (Entails.of_eq (pointsTo_congr (writes_whole (F := F) _ _ _ _ g0))) $$ Hg0
  isplitl [Hg1]; · iapply (Entails.of_eq (pointsTo_congr (writes_whole (F := F) _ _ _ _ g1))) $$ Hg1
  isplitl [Hg2]; · iapply (Entails.of_eq (pointsTo_congr (writes_whole (F := F) _ _ _ _ g2))) $$ Hg2
  isplitl [Hg3]; · iapply (Entails.of_eq (pointsTo_congr (writes_whole (F := F) _ _ _ _ g3))) $$ Hg3
  isplitl [Hg4]; · iapply (Entails.of_eq (pointsTo_congr (writes_whole (F := F) _ _ _ _ g4))) $$ Hg4
  isplitl [Hg5]; · iapply (Entails.of_eq (pointsTo_congr (writes_whole (F := F) _ _ _ _ g5))) $$ Hg5
  isplitl [Hg6]; · iapply (Entails.of_eq (pointsTo_congr (writes_whole (F := F) _ _ _ _ g6))) $$ Hg6
  isplitl [Hg7]; · iapply (Entails.of_eq (pointsTo_congr (writes_whole (F := F) _ _ _ _ g7))) $$ Hg7
  isplitl [Hg8]; · iapply (Entails.of_eq (pointsTo_congr (writes_whole (F := F) _ _ _ _ g8))) $$ Hg8
  isplitl [Hc]
  · have gc : ∀ x : S160.Idx, tile_run.sl.dma0_11 d L fj fi x = View.read (Elt F) ((Memref.whole main_v18_1_scv).slice (Rect.unit (s := S5120) (k0_off13 L) S160.size (k0_off13_inb L)) (fun _ => rfl)).view (matched fj fi : S5120.Idx → F .f32) x :=
      marks_piece L fj fi
    iapply (Entails.of_eq (pointsTo_congr (writes_whole (F := F) _ _ _ _ gc))) $$ Hc
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hs5]; · iexists _; iexact Hs5
  isplitl [Hs6]; · iexists _; iexact Hs6
  isplitl [Hs7]; · iexists _; iexact Hs7
  isplitl [Hs8]; · iexists _; iexact Hs8
  isplitl [Hs9]; · iexists _; iexact Hs9
  isplitl [Hs10]; · iexists _; iexact Hs10
  isplitl [Hs11]; · iexists _; iexact Hs11
  isplitl [Hs12]; · iexists _; iexact Hs12
  isplitl [Hs13]; · iexists _; iexact Hs13
  isplitl [Hs14]; · iexists _; iexact Hs14
  isplitl [Hs15]; · iexists _; iexact Hs15
  isplitl [Hs16]; · iexists _; iexact Hs16
  isplitl [Hs17]; · iexists _; iexact Hs17
  isplitl [Hs18]; · iexists _; iexact Hs18
  isplitl [Hs19]; · iexists _; iexact Hs19
  isplitl [Hs20]; · iexists _; iexact Hs20
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hm8]; · iexact Hm8
  isplitl [Hm9]; · iexact Hm9
  isplitl [Hm10]; · iexact Hm10
  isplitl [Hm11]; · iexact Hm11
  isplitl [Hm12]; · iexact Hm12
  isplitl [Hm13]; · iexact Hm13
  isplitl [Hm14]; · iexact Hm14
  isplitl [Hm15]; · iexact Hm15
  isplitl [Hm16]; · iexact Hm16
  isplitl [Hm17]; · iexact Hm17
  isplitl [Hm18]; · iexact Hm18
  isplitl [Hm19]; · iexact Hm19
  isplitl [Hm20]; · iexact Hm20
  iexists _; isplitr [HO]; swap
  · iexact HO
  · ipureintro; intro p hp
    iterate 21
      rcases Finset.mem_insert.mp hp with hp | hp
      · exact .inr (by rw [hp]; rfl)
    exact .inl hp

end Tile

end Cert.Proof.IdealMatch
-- ==== Proof.IdealBody.lean ====
module

public import proofs.«01_k».proof.Defs
public import proofs.«01_k».proof.Proof.IdealTile
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.ViewIndex
public import proofs.«01_k».proof.Proof.Gen.KernelIdeal
public import proofs.«01_k».proof.Proof.Gen.KernelIdeal.Skeleton
public import proofs.«01_k».proof.Proof.Gen.Pre_in_range

@[expose] public section

set_option format.width 240

noncomputable section

namespace Cert.Proof.IdealMatch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## A tile's scratch and its semaphores, listed -/

/-- A star over a set is the star of some of its members, listed, and of the rest. -/
theorem bigSep_listed {I : Type} [DecidableEq I] (Φ : I → sProp 𝕄) : ∀ (l : List I) (s : Finset I), l.Nodup → (∀ x ∈ l, x ∈ s) →
    bigSep s Φ = l.foldr (fun x R => iprop(Φ x ∗ R)) (bigSep (l.foldl Finset.erase s) Φ)
  | [], _, _, _ => rfl
  | x :: l, s, hn, hm => by
    rw [SparseCore.bigSep_erase' (hm x List.mem_cons_self), bigSep_listed Φ l (s.erase x) (List.nodup_cons.mp hn).2
      (fun y hy => Finset.mem_erase.mpr ⟨fun e => (List.nodup_cons.mp hn).1 (e ▸ hy), hm y (List.mem_cons_of_mem _ hy)⟩)]
    rfl

theorem nine (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The tile's scratch buffers. -/
def scratches : List (Ref sig .scVector) :=
  [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_scratch16, cc0_scratch17, cc0_scratch18, cc0_scratch19, cc0_scratch20]

/-- The semaphores its copies wait on, one per copy. -/
def sems : List (SemLoc sig) :=
  [.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem, .dma cc0_scoped11.sem, .dma cc0_scoped12.sem, .dma cc0_scoped13.sem, .dma cc0_scoped14.sem, .dma cc0_scoped15.sem, .dma cc0_scoped16.sem, .dma cc0_scoped17.sem, .dma cc0_scoped18.sem, .dma cc0_scoped19.sem, .dma cc0_scoped20.sem]

section Body
variable [FloatOps F] (d : Dev nD) (L : grid0.Coords)

omit [FloatOps F] in
theorem sems_listed :
    (ownSems0 (tV d L) : sProp 𝕄) = (sems.map fun s => ((tV d L, s) : GSem nD τ sig)).foldr (fun g R => iprop(semVal g 0 ∗ R))
      (bigSep ((sems.map fun s => ((tV d L, s) : GSem nD τ sig)).foldl Finset.erase (ownCells (tV d L))) fun g => semVal g 0) := by
  unfold SparseCore.Cfg.ownSems0
  refine bigSep_listed (fun g => semVal g 0) _ _ ((show sems.Nodup by decide).map fun a b e => (Prod.mk.inj e).2) ?_
  intro g hg
  obtain ⟨s, hs, rfl⟩ := List.mem_map.mp hg
  exact mem_ownCells.mpr ⟨rfl, (show ∀ s ∈ sems, s.isScoped .scVector = true by decide) s hs⟩

omit [FloatOps F] in
theorem scratches_listed :
    (ownBufs (tV d L) : sProp 𝕄) = (scratches.map (Proc.devRef (tV d L).2)).foldr (fun b R => iprop((∃ f, ((d, b) : Loc nD τ sig) ↦{fullShare} f) ∗ R))
      (bigSep ((scratches.map (Proc.devRef (tV d L).2)).foldl Finset.erase (ownRefs (tV d L).2)) fun b => iprop(∃ f, ((d, b) : Loc nD τ sig) ↦{fullShare} f)) := by
  unfold SparseCore.Cfg.ownBufs
  refine bigSep_listed (fun b => iprop(∃ f, ((d, b) : Loc nD τ sig) ↦{fullShare} f)) _ _
    ((show scratches.Nodup by decide).map (Proc.devRef_injective _)) ?_
  intro b hb
  obtain ⟨r, hr, rfl⟩ := List.mem_map.mp hb
  refine SparseCore.Cfg.mem_ownRefs_of_owner (p := (tV d L).2) ?_
  exact List.forall_iff_forall_mem.1 (show scratches.Forall fun r : Ref sig .scVector => (DevRef.owner (Proc.devRef (τ := τ) (.scVector ((L 0).castLE hcore0) ((L 1).castLE hsub0)) r)) = .proc (.scVector ((L 0).castLE hcore0) ((L 1).castLE hsub0)) by
    unfold scratches; simp only [List.Forall]; and_intros <;> rfl) r hr

/-! ## What a tile is handed and hands back -/

abbrev jLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_v17
abbrev gLoc (d : Dev nD) : Loc nD τ sig := (SparseCore.T d).loc main_v18_0
abbrev cLoc (d : Dev nD) : Loc nD τ sig := (SparseCore.T d).loc main_v18_1

/-- The tile's piece of the gathered array for table `r`, and its piece of the marks. -/
def gset (L : grid0.Coords) (r : Fin 9) : Finset S46080.Idx :=
  ((Memref.whole main_v18_0_scv).slice (Rect.unit (s := S46080) (k0_off11 L (BitVec.ofNat 32 (5120 * r.val))) S160.size (k0_off11_inb L r)) (fun _ => rfl)).view.set
def cset (L : grid0.Coords) : Finset S5120.Idx :=
  ((Memref.whole main_v18_1_scv).slice (Rect.unit (s := S5120) (k0_off13 L) S160.size (k0_off13_inb L)) (fun _ => rfl)).view.set

/-- A share of the three arrays it reads, and its pieces of the two it writes. -/
def given (q : PosShare TreeShare) (fj : Buf (Elt F) (jLoc d)) (fi : Buf (Elt F) (iLoc d)) (ft : Buf (Elt F) (tLoc d))
    (fg : Buf (Elt F) (gLoc d)) (fc : Buf (Elt F) (cLoc d)) : sProp 𝕄 :=
  iprop((jLoc d ↦{q} fj) ∗ (iLoc d ↦{q} fi) ∗ (tLoc d ↦{q} ft)
    ∗ (bigSep Finset.univ fun r : Fin 9 => gLoc d ↦[gset L r]{fullShare} fg) ∗ (cLoc d ↦[cset L]{fullShare} fc))

set_option maxHeartbeats 4000000 in
/-- The task of one tile: from what it is handed to the same with its pieces of the two results filled. -/
theorem tile_body (hF : (K (F := F)).Facts) (O : CellTallies nD τ sig (HIx 1)) (W : Waits sig (HIx 1)) (hO : ∀ g, O g none = 0)
    (q : PosShare TreeShare) (fj : Buf (Elt F) (jLoc d)) (fi : Buf (Elt F) (iLoc d)) (ft : Buf (Elt F) (tLoc d))
    (fg : Buf (Elt F) (gLoc d)) (fc : Buf (Elt F) (cLoc d)) (hj : ∀ x : S5120.Idx, (fj x).toNat < 5120) :
    iprop(levAts (K (F := F)).L (K (F := F)).lev ∗ emp ∗ given d L q fj fi ft fg fc
        ∗ scopedBufs (tV d L) ∗ scopedSems0 (tV d L) ∗ owes (tV d L) O W)
      ⊢ wp frame (wpE (defs₀ (F := F)) 𝒱₀ (tV d L) none) Set.univ
          (cc0__sc_body L (Memref.whole main_arg0_scv) (Memref.isWhole_whole _) (Memref.whole main_arg1_scv) (Memref.isWhole_whole _) (Memref.whole main_v17_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20)
          fun _ => iprop(given d L q fj fi ft (gathered fj ft : S46080.Idx → F .f32) (matched fj fi : S5120.Idx → F .f32)
            ∗ scopedBufs (tV d L) ∗ scopedSems0 (tV d L) ∗ ∃ W', ⌜∀ p ∈ W', p ∈ W ∨ p.2 = none⌝ ∗ owes (tV d L) O W') := by
  rw [(K (F := F)).scopedBufs_V hF d ((L 0).castLE hcore0) ((L 1).castLE hsub0), SparseCore.Cfg.scopedSems0_V (Val := Elt F) d ((L 0).castLE hcore0) ((L 1).castLE hsub0),
    sems_listed, scratches_listed]
  unfold given
  rw [nine, nine]
  simp only [sems, scratches, List.map_cons, List.map_nil, List.foldr_cons, List.foldr_nil]
  iintro ⟨#Hlv, -, ⟨Hj, Hi, Ht, ⟨Hg0, Hg1, Hg2, Hg3, Hg4, Hg5, Hg6, Hg7, Hg8⟩, Hc⟩, ⟨⟨%s0, Hs0⟩, ⟨%s1, Hs1⟩, ⟨%s2, Hs2⟩, ⟨%s3, Hs3⟩, ⟨%s4, Hs4⟩, ⟨%s5, Hs5⟩, ⟨%s6, Hs6⟩, ⟨%s7, Hs7⟩, ⟨%s8, Hs8⟩, ⟨%s9, Hs9⟩, ⟨%s10, Hs10⟩, ⟨%s11, Hs11⟩, ⟨%s12, Hs12⟩, ⟨%s13, Hs13⟩, ⟨%s14, Hs14⟩, ⟨%s15, Hs15⟩, ⟨%s16, Hs16⟩, ⟨%s17, Hs17⟩, ⟨%s18, Hs18⟩, ⟨%s19, Hs19⟩, ⟨%s20, Hs20⟩, Hbufs⟩, ⟨Hm0, Hm1, Hm2, Hm3, Hm4, Hm5, Hm6, Hm7, Hm8, Hm9, Hm10, Hm11, Hm12, Hm13, Hm14, Hm15, Hm16, Hm17, Hm18, Hm19, Hm20, Hsems⟩, HO⟩
  ihave Hw := (tile_run d L O W hO q fj fi ft fg fc s0 s1 s2 s3 s4 s5 s6 s7 s8 s9 s10 s11 s12 s13 s14 s15 s16 s17 s18 s19 s20 hj) $$ [Hj Hi Ht Hg0 Hg1 Hg2 Hg3 Hg4 Hg5 Hg6 Hg7 Hg8 Hc Hs0 Hs1 Hs2 Hs3 Hs4 Hs5 Hs6 Hs7 Hs8 Hs9 Hs10 Hs11 Hs12 Hs13 Hs14 Hs15 Hs16 Hs17 Hs18 Hs19 Hs20 Hm0 Hm1 Hm2 Hm3 Hm4 Hm5 Hm6 Hm7 Hm8 Hm9 Hm10 Hm11 Hm12 Hm13 Hm14 Hm15 Hm16 Hm17 Hm18 Hm19 Hm20 HO]
  · isplitr; · iexact Hlv
    isplitl [Hj]; · iexact Hj
    isplitl [Hi]; · iexact Hi
    isplitl [Ht]; · iexact Ht
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hg8]; · iexact Hg8
    isplitl [Hc]; · iexact Hc
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    isplitl [Hm18]; · iexact Hm18
    isplitl [Hm19]; · iexact Hm19
    isplitl [Hm20]; · iexact Hm20
    iexact HO
  iapply (wp_wand_r frame (wpE (defs₀ (F := F)) 𝒱₀ (tV d L) none) Set.univ)
  isplitl [Hw]; · iexact Hw
  iintro %_ ⟨Hj, Hi, Ht, Hg0, Hg1, Hg2, Hg3, Hg4, Hg5, Hg6, Hg7, Hg8, Hc, Hs0, Hs1, Hs2, Hs3, Hs4, Hs5, Hs6, Hs7, Hs8, Hs9, Hs10, Hs11, Hs12, Hs13, Hs14, Hs15, Hs16, Hs17, Hs18, Hs19, Hs20, Hm0, Hm1, Hm2, Hm3, Hm4, Hm5, Hm6, Hm7, Hm8, Hm9, Hm10, Hm11, Hm12, Hm13, Hm14, Hm15, Hm16, Hm17, Hm18, Hm19, Hm20, HO⟩
  isplitl [Hj Hi Ht Hg0 Hg1 Hg2 Hg3 Hg4 Hg5 Hg6 Hg7 Hg8 Hc]
  · isplitl [Hj]; · iexact Hj
    isplitl [Hi]; · iexact Hi
    isplitl [Ht]; · iexact Ht
    isplitr [Hc]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hg7]; · iexact Hg7
      iexact Hg8
    · iexact Hc
  isplitl [Hs0 Hs1 Hs2 Hs3 Hs4 Hs5 Hs6 Hs7 Hs8 Hs9 Hs10 Hs11 Hs12 Hs13 Hs14 Hs15 Hs16 Hs17 Hs18 Hs19 Hs20 Hbufs]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    iexact Hbufs
  isplitl [Hm0 Hm1 Hm2 Hm3 Hm4 Hm5 Hm6 Hm7 Hm8 Hm9 Hm10 Hm11 Hm12 Hm13 Hm14 Hm15 Hm16 Hm17 Hm18 Hm19 Hm20 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    isplitl [Hm18]; · iexact Hm18
    isplitl [Hm19]; · iexact Hm19
    isplitl [Hm20]; · iexact Hm20
    iexact Hsems
  iexact HO

end Body

end Cert.Proof.IdealMatch
-- ==== Proof.IdealLaunch.lean ====
module

public import proofs.«01_k».proof.Defs
public import proofs.«01_k».proof.Proof.IdealBody
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.ViewIndex
public import proofs.«01_k».proof.Proof.Gen.KernelIdeal
public import proofs.«01_k».proof.Proof.Gen.KernelIdeal.Skeleton
public import proofs.«01_k».proof.Proof.Gen.Pre_in_range

@[expose] public section

set_option format.width 240

noncomputable section

namespace Cert.Proof.IdealMatch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The arrays dealt to the tiles -/

def coordsV (c : Fin (grid0.bound 0)) (s : Fin (grid0.bound 1)) : grid0.Coords :=
  fun | 0 => c | 1 => s | ⟨_ + 2, h⟩ => absurd h (Nat.not_lt.2 (Nat.le_add_left _ _))

/-- A tile is a SparseCore and a subcore of it. -/
abbrev tile (c : Fin 2) (i : Fin 16) : grid0.Coords := coordsV c i

theorem mem_gset (c : Fin 2) (i : Fin 16) (r : Fin 9) (x : S46080.Idx) :
    x ∈ gset (tile c i) r ↔ 5120 * r.val + 320 * i.val + 160 * c.val ≤ (x 0).val ∧ (x 0).val < 5120 * r.val + 320 * i.val + 160 * c.val + 160 := by
  have e : k0_off11 (tile c i) (BitVec.ofNat 32 (5120 * r.val)) 0 = 5120 * r.val + 320 * i.val + 160 * c.val := congrFun (k0_off11_eq (tile c i) r) 0
  show x ∈ ((View.whole main_v18_0_scv).slice (Rect.unit (s := S46080) (k0_off11 (tile c i) (BitVec.ofNat 32 (5120 * r.val))) S160.size (k0_off11_inb (tile c i) r))).set ↔ _
  rw [View.set_slice_whole, Rect.mem_set_unit]
  constructor
  · intro h; have := h 0; rw [e] at this; exact this
  · intro h a; obtain rfl : a = (0 : Fin 1) := Subsingleton.elim (α := Fin 1) _ _; rw [e]; exact h

theorem mem_cset (c : Fin 2) (i : Fin 16) (x : S5120.Idx) :
    x ∈ cset (tile c i) ↔ 320 * i.val + 160 * c.val ≤ (x 0).val ∧ (x 0).val < 320 * i.val + 160 * c.val + 160 := by
  have e : k0_off13 (tile c i) 0 = 320 * i.val + 160 * c.val := congrFun (k0_off13_eq (tile c i)) 0
  show x ∈ ((View.whole main_v18_1_scv).slice (Rect.unit (s := S5120) (k0_off13 (tile c i)) S160.size (k0_off13_inb (tile c i)))).set ↔ _
  rw [View.set_slice_whole, Rect.mem_set_unit]
  constructor
  · intro h; have := h 0; rw [e] at this; exact this
  · intro h a; obtain rfl : a = (0 : Fin 1) := Subsingleton.elim (α := Fin 1) _ _; rw [e]; exact h

/-- The part of an array every tile reads that a tile is handed. -/
def share (c : Fin 2) (i : Fin 16) : PosShare TreeShare := ShareLeaves.leaf 4 (ShareLeaves.leaf 1 fullShare c) i

theorem read_dealt (ℓ : Loc nD τ sig) (f : Buf (Elt F) ℓ) :
    (ℓ ↦{fullShare} f : sProp 𝕄) = bigSep Finset.univ fun c : Fin 2 => bigSep Finset.univ fun i : Fin 16 => ℓ ↦{share c i} f := by
  rw [ShareLeaves.pointsTo_leaves Finset.univ f 1 fullShare]
  exact bigSep_congr fun c _ => ShareLeaves.pointsTo_leaves Finset.univ f 4 _

theorem g_dealt (d : Dev nD) (f : Buf (Elt F) (gLoc d)) :
    (gLoc d ↦{fullShare} f : sProp 𝕄)
      = bigSep Finset.univ fun c : Fin 2 => bigSep Finset.univ fun i : Fin 16 => bigSep Finset.univ fun r : Fin 9 => gLoc d ↦[gset (tile c i) r]{fullShare} f := by
  have hc : (Finset.univ : Finset (Fin 2 × Fin 16 × Fin 9)).biUnion (fun t => gset (tile t.1 t.2.1) t.2.2) = Finset.univ := by
    refine Finset.eq_univ_iff_forall.mpr fun x => ?_
    have hx : (x 0).val < 46080 := (x 0).isLt
    refine Finset.mem_biUnion.mpr ⟨(⟨(x 0).val % 320 / 160, by omega⟩, ⟨(x 0).val % 5120 / 320, by omega⟩, ⟨(x 0).val / 5120, by omega⟩), Finset.mem_univ _, ?_⟩
    exact (mem_gset _ _ _ x).mpr (by dsimp only; omega)
  have hd : ∀ t ∈ (Finset.univ : Finset (Fin 2 × Fin 16 × Fin 9)), ∀ t' ∈ (Finset.univ : Finset (Fin 2 × Fin 16 × Fin 9)), t ≠ t' →
      Disjoint (gset (tile t.1 t.2.1) t.2.2) (gset (tile t'.1 t'.2.1) t'.2.2) := by
    rintro ⟨c, i, r⟩ _ ⟨c', i', r'⟩ _ hne
    refine Finset.disjoint_left.mpr fun x h h' => hne ?_
    have h := (mem_gset _ _ _ x).mp h
    have h' := (mem_gset _ _ _ x).mp h'
    dsimp only at h h'
    have := c.isLt; have := c'.isLt; have := i.isLt; have := i'.isLt; have := r.isLt; have := r'.isLt
    have hr : r.val = r'.val := by omega
    have hi : i.val = i'.val := by omega
    have hc : c.val = c'.val := by omega
    exact Prod.ext (Fin.ext hc) (Prod.ext (Fin.ext hi) (Fin.ext hr))
  rw [← hc, pointsTo_biUnion Finset.univ (ℓ := gLoc d) _ hd, bigSep_univ_prod]
  exact bigSep_congr fun c _ => bigSep_univ_prod _

theorem c_dealt (d : Dev nD) (f : Buf (Elt F) (cLoc d)) :
    (cLoc d ↦{fullShare} f : sProp 𝕄) = bigSep Finset.univ fun c : Fin 2 => bigSep Finset.univ fun i : Fin 16 => cLoc d ↦[cset (tile c i)]{fullShare} f := by
  have hc : (Finset.univ : Finset (Fin 2 × Fin 16)).biUnion (fun t => cset (tile t.1 t.2)) = Finset.univ := by
    refine Finset.eq_univ_iff_forall.mpr fun x => ?_
    have hx : (x 0).val < 5120 := (x 0).isLt
    refine Finset.mem_biUnion.mpr ⟨(⟨(x 0).val % 320 / 160, by omega⟩, ⟨(x 0).val / 320, by omega⟩), Finset.mem_univ _, ?_⟩
    exact (mem_cset _ _ x).mpr (by dsimp only; omega)
  have hd : ∀ t ∈ (Finset.univ : Finset (Fin 2 × Fin 16)), ∀ t' ∈ (Finset.univ : Finset (Fin 2 × Fin 16)), t ≠ t' →
      Disjoint (cset (tile t.1 t.2)) (cset (tile t'.1 t'.2)) := by
    rintro ⟨c, i⟩ _ ⟨c', i'⟩ _ hne
    refine Finset.disjoint_left.mpr fun x h h' => hne ?_
    have h := (mem_cset _ _ x).mp h
    have h' := (mem_cset _ _ x).mp h'
    dsimp only at h h'
    have := c.isLt; have := c'.isLt
    have hi : i.val = i'.val := by omega
    have hc : c.val = c'.val := by omega
    exact Prod.ext (Fin.ext hc) (Fin.ext hi)
  rw [← hc, pointsTo_biUnion Finset.univ (ℓ := cLoc d) _ hd]
  exact bigSep_univ_prod _

/-- The five arrays, whole, are what all the tiles are handed. -/
theorem dealt (d : Dev nD) (fj : Buf (Elt F) (jLoc d)) (fi : Buf (Elt F) (iLoc d)) (ft : Buf (Elt F) (tLoc d)) (fg : Buf (Elt F) (gLoc d)) (fc : Buf (Elt F) (cLoc d)) :
    (bigSep Finset.univ fun c : Fin 2 => bigSep Finset.univ fun i : Fin 16 => given d (tile c i) (share c i) fj fi ft fg fc)
      = (iprop((jLoc d ↦{fullShare} fj) ∗ (iLoc d ↦{fullShare} fi) ∗ (tLoc d ↦{fullShare} ft) ∗ (gLoc d ↦{fullShare} fg) ∗ (cLoc d ↦{fullShare} fc)) : sProp 𝕄) := by
  unfold given
  rw [read_dealt (jLoc d), read_dealt (iLoc d), read_dealt (tLoc d), g_dealt, c_dealt]
  simp only [bigSep_sep']

/-! ## The host's operations before the call -/

section Host
variable [FloatOps F]

/-- The operations that lay the nine tables side by side. -/
def hostOps : List (HloOp τ sig (Elt F)) :=
  [StableHlo.nullary main_cst (fun i => FloatOps.ofBits .f32 (lit0 (S1x4.rowMajor i))),
   StableHlo.nullary main_cst_0 (fun i => FloatOps.ofBits .f32 (lit1 (S1x4.rowMajor i))),
   StableHlo.nullary main_cst_1 (constant S_ .f32 0x40000000#32),
   StableHlo.unary main_cst_1 main_v0 (broadcastInDim S5000x4 ![] bcast_S_S5000x4 : (⟨S_, .f32⟩ : BufTy).Contents (Elt F) → (⟨S5000x4, .f32⟩ : BufTy).Contents (Elt F)),
   StableHlo.binary main_arg2 main_v0 main_v1 (Host.divf : (⟨S5000x4, .f32⟩ : BufTy).Contents (Elt F) → (⟨S5000x4, .f32⟩ : BufTy).Contents (Elt F) → (⟨S5000x4, .f32⟩ : BufTy).Contents (Elt F)),
   StableHlo.unary main_v1 main_v2 (Host.floor : (⟨S5000x4, .f32⟩ : BufTy).Contents (Elt F) → (⟨S5000x4, .f32⟩ : BufTy).Contents (Elt F)),
   StableHlo.reshape main_cst main_v3 (rfl : (.f32 : EltTy) = .f32) shapeCasts_S1x4_S1x1x1x4,
   StableHlo.unary main_v3 main_v4 (broadcastInDim S120x1x1x4 ![0, 1, 2, 3] bcast_S1x1x1x4_S120x1x1x4_0_1_2_3 : (⟨S1x1x1x4, .f32⟩ : BufTy).Contents (Elt F) → (⟨S120x1x1x4, .f32⟩ : BufTy).Contents (Elt F)),
   StableHlo.reshape main_v4 main_v5 (rfl : (.f32 : EltTy) = .f32) shapeCasts_S120x1x1x4_S120x4,
   StableHlo.binary main_v2 main_v5 main_v6 ((fun a b => concatenate S5120x4 0 [⟨S5000x4, a⟩, ⟨S120x4, b⟩] concatenates_S5000x4_S120x4_S5120x4_d0) : (⟨S5000x4, .f32⟩ : BufTy).Contents (Elt F) → (⟨S120x4, .f32⟩ : BufTy).Contents (Elt F) → (⟨S5120x4, .f32⟩ : BufTy).Contents (Elt F)),
   StableHlo.reshape main_cst_0 main_v7 (rfl : (.f32 : EltTy) = .f32) shapeCasts_S1x4_S1x1x1x4,
   StableHlo.unary main_v7 main_v8 (broadcastInDim S120x1x1x4 ![0, 1, 2, 3] bcast_S1x1x1x4_S120x1x1x4_0_1_2_3 : (⟨S1x1x1x4, .f32⟩ : BufTy).Contents (Elt F) → (⟨S120x1x1x4, .f32⟩ : BufTy).Contents (Elt F)),
   StableHlo.reshape main_v8 main_v9 (rfl : (.f32 : EltTy) = .f32) shapeCasts_S120x1x1x4_S120x4,
   StableHlo.binary main_arg2 main_v9 main_v10 ((fun a b => concatenate S5120x4 0 [⟨S5000x4, a⟩, ⟨S120x4, b⟩] concatenates_S5000x4_S120x4_S5120x4_d0) : (⟨S5000x4, .f32⟩ : BufTy).Contents (Elt F) → (⟨S120x4, .f32⟩ : BufTy).Contents (Elt F) → (⟨S5120x4, .f32⟩ : BufTy).Contents (Elt F)),
   StableHlo.nullary main_cst_2 (constant S_ .f32 0x00000000#32),
   StableHlo.unary main_cst_2 main_v11 (broadcastInDim S120 ![] bcast_S_S120 : (⟨S_, .f32⟩ : BufTy).Contents (Elt F) → (⟨S120, .f32⟩ : BufTy).Contents (Elt F)),
   StableHlo.binary main_arg3 main_v11 main_v12 ((fun a b => concatenate S5120 0 [⟨S5000, a⟩, ⟨S120, b⟩] concatenates_S5000_S120_S5120_d0) : (⟨S5000, .f32⟩ : BufTy).Contents (Elt F) → (⟨S120, .f32⟩ : BufTy).Contents (Elt F) → (⟨S5120, .f32⟩ : BufTy).Contents (Elt F)),
   StableHlo.unary main_v6 main_v13 ((transpose S4x5120 [1, 0] · transposes_S5120x4_S4x5120_1_0) : (⟨S5120x4, .f32⟩ : BufTy).Contents (Elt F) → (⟨S4x5120, .f32⟩ : BufTy).Contents (Elt F)),
   StableHlo.unary main_v10 main_v14 ((transpose S4x5120 [1, 0] · transposes_S5120x4_S4x5120_1_0) : (⟨S5120x4, .f32⟩ : BufTy).Contents (Elt F) → (⟨S4x5120, .f32⟩ : BufTy).Contents (Elt F)),
   StableHlo.unary main_v12 main_v15 (broadcastInDim S1x5120 ![1] bcast_S5120_S1x5120_1 : (⟨S5120, .f32⟩ : BufTy).Contents (Elt F) → (⟨S1x5120, .f32⟩ : BufTy).Contents (Elt F)),
   StableHlo.nary ![main_v13, main_v14, main_v15] main_v16 (fun u => (concatenate S9x5120 0 [⟨S4x5120, (u 0 : (⟨S4x5120, .f32⟩ : BufTy).Contents (Elt F))⟩, ⟨S4x5120, (u 1 : (⟨S4x5120, .f32⟩ : BufTy).Contents (Elt F))⟩, ⟨S1x5120, (u 2 : (⟨S1x5120, .f32⟩ : BufTy).Contents (Elt F))⟩] concatenates_S4x5120_S4x5120_S1x5120_S9x5120_d0 : (⟨S9x5120, .f32⟩ : BufTy).Contents (Elt F))),
   StableHlo.reshape main_v16 main_v17 (rfl : (.f32 : EltTy) = .f32) shapeCasts_S9x5120_S46080]

theorem hostOps_sub : ∀ op ∈ hostOps (F := F), op.bufs ⊆ StableHlo.tcRefs τ sig :=
  List.forall_iff_forall_mem.1 (show (hostOps (F := F)).Forall fun op => op.bufs ⊆ StableHlo.tcRefs τ sig from
    ⟨StableHlo.nullary_bufs_sub .., StableHlo.nullary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nary_bufs_sub .., StableHlo.reshape_bufs_sub ..⟩)

theorem hostOps_fresh : ∀ op ∈ hostOps (F := F), op.fresh = ∅ := List.forall_iff_forall_mem.1 (StableHlo.forall_fresh_of_map rfl)

theorem main_eq (d : Dev nD) :
    main (F := F) d = StableHlo.seq hostOps >>= fun _ => (sc.run d 0 >>= fun _ => pure ⟨⟩) := rfl

end Host

/-! ## What the call takes and hands back -/

variable (m : (ℓ : Loc nD τ sig) → Buf (Elt F) ℓ) (ρ : Dev nD → PrngReg) [FloatOps F]

/-- The buffers after the host's operations. -/
def atCall (d : Dev nD) : Valuation τ sig (Elt F) := StableHlo.after hostOps fun b => m (d, b)

/-- The nine tables as the call finds them. -/
def tab (d : Dev nD) : Buf (Elt F) (tLoc d) := atCall m d (Proc.devRef .tc main_v17)

/-- What the tile `(c, i)` is handed, and what it hands back. -/
def goes (d : Dev nD) (c : Fin 2) (i : Fin 16) : sProp 𝕄 :=
  given d (tile c i) (share c i) (m (jLoc d)) (m (iLoc d)) (tab m d) (m (gLoc d)) (m (cLoc d))
def comes (d : Dev nD) (c : Fin 2) (i : Fin 16) : sProp 𝕄 :=
  given d (tile c i) (share c i) (m (jLoc d)) (m (iLoc d)) (tab m d)
    (gathered (m (jLoc d)) (tab m d) : S46080.Idx → F .f32) (matched (m (jLoc d)) (m (iLoc d)) : S5120.Idx → F .f32)

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with | 0 => bigSep Finset.univ fun i : Fin ((K (F := F)).nSub 0) => goes m d (Fin.cast nCore_zero c) (Fin.cast nSub_zero i)
  dn := fun q d c => match q with | 0 => bigSep Finset.univ fun i : Fin ((K (F := F)).nSub 0) => comes m d (Fin.cast nCore_zero c) (Fin.cast nSub_zero i)
  go := fun q d c i => match q with | 0 => goes m d (Fin.cast nCore_zero c) (Fin.cast nSub_zero i)
  td := fun q d c i => match q with | 0 => comes m d (Fin.cast nCore_zero c) (Fin.cast nSub_zero i)
  x := fun _ _ => iprop(emp)

omit [FloatOps F] in
instance given_storable (d : Dev nD) (L : grid0.Coords) (q : PosShare TreeShare) (fj : Buf (Elt F) (jLoc d)) (fi : Buf (Elt F) (iLoc d)) (ft : Buf (Elt F) (tLoc d))
    (fg : Buf (Elt F) (gLoc d)) (fc : Buf (Elt F) (cLoc d)) : BI.Storable (upEmb : UEmb _ 𝕄) (given d L q fj fi ft fg fc) := by
  unfold given; infer_instance
instance goes_storable (d : Dev nD) (c : Fin 2) (i : Fin 16) : BI.Storable (upEmb : UEmb _ 𝕄) (goes m d c i) := by unfold goes; infer_instance
instance comes_storable (d : Dev nD) (c : Fin 2) (i : Fin 16) : BI.Storable (upEmb : UEmb _ 𝕄) (comes m d c i) := by unfold comes; infer_instance

instance P_storable : (P (F := F) m).IsStorable where
  st q d c := match q with
    | 0 => (inferInstance : BI.Storable (upEmb : UEmb _ 𝕄) (bigSep Finset.univ fun i : Fin ((K (F := F)).nSub 0) => goes m d (Fin.cast nCore_zero c) (Fin.cast nSub_zero i)))
  dn q d c := match q with
    | 0 => (inferInstance : BI.Storable (upEmb : UEmb _ 𝕄) (bigSep Finset.univ fun i : Fin ((K (F := F)).nSub 0) => comes m d (Fin.cast nCore_zero c) (Fin.cast nSub_zero i)))
  go q d c i := match q with | 0 => goes_storable m d _ _
  td q d c i := match q with | 0 => comes_storable m d _ _

/-! ## The launch theorem's obligations -/

theorem defs₀_vector (c : Fin τ.nSC) (s : Fin τ.nSub) :
    defs₀ (F := F) (.scVector c s) 0 ()
      = SparseCore.onTile hcore0 hsub0 (fun c s => cc0__sc_body (coordsV c s) (Memref.whole main_arg0_scv) (Memref.isWhole_whole _) (Memref.whole main_arg1_scv) (Memref.isWhole_whole _) (Memref.whole main_v17_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of one tile, its waits bounded as the launch asks. -/
theorem tile_task (d : Dev nD) (L : grid0.Coords) (hF : (K (F := F)).Facts) (O : CellTallies nD τ sig (HIx 1)) (W : Waits sig (HIx 1)) (hO : ∀ g, O g none = 0)
    (q : PosShare TreeShare) (fj : Buf (Elt F) (jLoc d)) (fi : Buf (Elt F) (iLoc d)) (ft : Buf (Elt F) (tLoc d))
    (fg : Buf (Elt F) (gLoc d)) (fc : Buf (Elt F) (cLoc d)) (hj : ∀ x : S5120.Idx, (fj x).toNat < 5120) :
    iprop(levAts (K (F := F)).L (K (F := F)).lev ∗ emp ∗ given d L q fj fi ft fg fc
        ∗ scopedBufs (tV d L) ∗ scopedSems0 (tV d L) ∗ owes (tV d L) O W)
      ⊢ wp frame (wpE (defs₀ (F := F)) 𝒱₀ (tV d L) none) Set.univ
          (cc0__sc_body L (Memref.whole main_arg0_scv) (Memref.isWhole_whole _) (Memref.whole main_arg1_scv) (Memref.isWhole_whole _) (Memref.whole main_v17_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20)
          fun _ => iprop(given d L q fj fi ft (gathered fj ft : S46080.Idx → F .f32) (matched fj fi : S5120.Idx → F .f32)
            ∗ scopedBufs (tV d L) ∗ scopedSems0 (tV d L) ∗ ∃ W', ⌜∀ p ∈ W', p ∈ W ∨ p.2 = none ∨ p.2 = some (0 : Fin 1)⌝ ∗ owes (tV d L) O W') :=
  (tile_body d L hF O W hO q fj fi ft fg fc hj).trans (wp_mono frame _ _ fun _ => obl_post)

/-- What the proof asks of the launch memory: every best match is the number of a previous box. -/
def PreOK : Prop := ∀ (d : Dev nD) (x : S5120.Idx), ((m (jLoc d) : S5120.Idx → BitVec 32) x).toNat < 5000

theorem PreOK.lt (hpre : PreOK m) (d : Dev nD) (x : S5120.Idx) : ((m (jLoc d) : S5120.Idx → BitVec 32) x).toNat < 5120 :=
  Nat.lt_of_lt_of_le (hpre d x) (Nat.le_of_ble_eq_true rfl)

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BI.Entails.trans (tile_task d (coordsV ⟨_, hc.1⟩ ⟨_, hc.2⟩) hF O W hO (share (Fin.cast nCore_zero c) (Fin.cast nSub_zero i)) (m (jLoc d)) (m (iLoc d)) (tab m d) (m (gLoc d)) (m (cLoc d))
    (PreOK.lt m hpre d)) ?_
  refine Entails.of_eq (?_ : (_ : sProp 𝕄) = _)
  congr 1

theorem vecSplit : (K (F := F)).VecSplit' (P m) 0 := by
  intro d c
  show (bigSep Finset.univ fun i : Fin ((K (F := F)).nSub 0) => goes m d (Fin.cast nCore_zero c) (Fin.cast nSub_zero i)) ⊢ |={Set.univ}=> iprop(
      (bigSep Finset.univ fun i : Fin ((K (F := F)).nSub 0) => goes m d (Fin.cast nCore_zero c) (Fin.cast nSub_zero i))
      ∗ ((bigSep Finset.univ fun i : Fin ((K (F := F)).nSub 0) => comes m d (Fin.cast nCore_zero c) (Fin.cast nSub_zero i))
          -∗ bigSep Finset.univ fun i : Fin ((K (F := F)).nSub 0) => comes m d (Fin.cast nCore_zero c) (Fin.cast nSub_zero i)))
  iintro H; imodintro
  isplitl [H]; · iexact H
  iintro H; iexact H

/-! ## The launch element: the handshakes' rounds alone -/

def u₀ : UU := (initOf (K (F := F)).hsCells (K (F := F)).hsToks, 1)

theorem nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [nothing]; iempintro
  unfold P; dsimp only
  rw [show (bigSep Finset.univ fun _ : Thread nD τ => bigSep Finset.univ fun _ : Fin 1 => (iprop(emp) : sProp 𝕄)) = iprop(emp) from by
    rw [bigSep_congr fun _ _ => nothing _, nothing]]
  iempintro

/-! ## The host's program -/

abbrev bLoc (d : Dev nD) : Loc nD τ sig := (SparseCore.T d).loc main_arg2
abbrev sLoc (d : Dev nD) : Loc nD τ sig := (SparseCore.T d).loc main_arg3

/-- The arrays the call and the claim are about. -/
def kept : List (DevRef τ sig) :=
  [Proc.devRef .tc main_arg0, Proc.devRef .tc main_arg1, Proc.devRef .tc main_v17, Proc.devRef .tc main_v18_0, Proc.devRef .tc main_v18_1, Proc.devRef .tc main_arg2, Proc.devRef .tc main_arg3]

theorem unscoped_held (d : Dev nD) : (unscopedBufs d (fun b => m ((SparseCore.T d).loc b)) : sProp 𝕄) = held (T d) (StableHlo.tcRefs τ sig) fun b => m (d, b) := by
  unfold unscopedBufs held StableHlo.tcRefs
  rw [show (Finset.univ.filter fun b : Ref sig .tc => ¬ b.isScoped) = Finset.univ by decide, bigSep_map]
  rfl

theorem atCall_kept (d : Dev nD) :
    atCall m d (Proc.devRef .tc main_arg0) = m (jLoc d) ∧ atCall m d (Proc.devRef .tc main_arg1) = m (iLoc d)
      ∧ atCall m d (Proc.devRef .tc main_v18_0) = m (gLoc d) ∧ atCall m d (Proc.devRef .tc main_v18_1) = m (cLoc d)
      ∧ atCall m d (Proc.devRef .tc main_arg2) = m (bLoc d) ∧ atCall m d (Proc.devRef .tc main_arg3) = m (sLoc d) := by
  refine ⟨?_, ?_, ?_, ?_, ?_, ?_⟩ <;>
  · unfold atCall hostOps
    after_results

theorem held_kept (d : Dev nD) : (held (d.tc : Thread nD τ) (StableHlo.tcRefs τ sig) (StableHlo.after hostOps fun b => m (d, b)) : sProp 𝕄)
    ⊢ iprop((jLoc d ↦{fullShare} m (jLoc d)) ∗ (iLoc d ↦{fullShare} m (iLoc d)) ∗ (tLoc d ↦{fullShare} tab m d) ∗ (gLoc d ↦{fullShare} m (gLoc d)) ∗ (cLoc d ↦{fullShare} m (cLoc d))
        ∗ (bLoc d ↦{fullShare} m (bLoc d)) ∗ (sLoc d ↦{fullShare} m (sLoc d))) := by
  obtain ⟨e0, e1, e2, e3, e4, e5⟩ := atCall_kept m d
  change (held (T d) (StableHlo.tcRefs τ sig) (atCall m d) : sProp 𝕄) ⊢ _
  unfold held
  rw [bigSep_listed _ kept (StableHlo.tcRefs τ sig) (by decide) (by decide)]
  unfold kept
  simp only [List.foldr_cons, List.foldr_nil]
  rw [e0, e1, e2, e3, e4, e5]
  iintro ⟨Hj, Hi, Ht, Hg, Hc, Hb, Hs, -⟩
  isplitl [Hj]; · iexact Hj
  isplitl [Hi]; · iexact Hi
  isplitl [Ht]; · iexact Ht
  isplitl [Hg]; · iexact Hg
  isplitl [Hc]; · iexact Hc
  isplitl [Hb]; · iexact Hb
  iexact Hs

theorem st0_eq (d : Dev nD) : (bigSep Finset.univ fun c : Fin ((K (F := F)).nCore 0) => (P m).st 0 d c)
    = iprop((jLoc d ↦{fullShare} m (jLoc d)) ∗ (iLoc d ↦{fullShare} m (iLoc d)) ∗ (tLoc d ↦{fullShare} tab m d) ∗ (gLoc d ↦{fullShare} m (gLoc d)) ∗ (cLoc d ↦{fullShare} m (cLoc d))) :=
  dealt d _ _ _ _ _

theorem dn0_eq (d : Dev nD) : (bigSep Finset.univ fun c : Fin ((K (F := F)).nCore 0) => (P m).dn 0 d c)
    = iprop((jLoc d ↦{fullShare} m (jLoc d)) ∗ (iLoc d ↦{fullShare} m (iLoc d)) ∗ (tLoc d ↦{fullShare} tab m d)
        ∗ (gLoc d ↦{fullShare} (gathered (m (jLoc d)) (tab m d) : S46080.Idx → F .f32)) ∗ (cLoc d ↦{fullShare} (matched (m (jLoc d)) (m (iLoc d)) : S5120.Idx → F .f32))) :=
  dealt d _ _ _ _ _

/-- What the host's program leaves: its arguments, and its two results at the gathered rows and the marks. -/
abbrev FIN (d : Dev nD) : sProp 𝕄 :=
  iprop((jLoc d ↦{fullShare} m (jLoc d)) ∗ (iLoc d ↦{fullShare} m (iLoc d)) ∗ (bLoc d ↦{fullShare} m (bLoc d)) ∗ (sLoc d ↦{fullShare} m (sLoc d))
    ∗ (gLoc d ↦{fullShare} (gathered (m (jLoc d)) (tab m d) : S46080.Idx → F .f32)) ∗ (cLoc d ↦{fullShare} (matched (m (jLoc d)) (m (iLoc d)) : S5120.Idx → F .f32)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d (StableHlo.tcRefs τ sig) _ hostOps hostOps_sub hostOps_fresh _) $$ [Hb Hheld]
  · isplitl [Hb]; · iexact Hb
    iexact Hheld
  iintro ⟨Hb, Hheld⟩
  ihave Hh := (held_kept m d) $$ Hheld
  icases Hh with ⟨Hj, Hi, Ht, Hg, Hc, Hx, Hs⟩
  simp only [wp_bind, wp_pure]
  iapply ((K (F := F)).wp_run (D (F := F)) 𝒱 (EH := EH) (P := P m) κ d 0) $$ [Hst Hj Hi Ht Hg Hc Hx Hs Hb Hts]
  isplitr; · iexact Hctx
  isplitl [Hst]; · iexact Hst
  isplitl [Hj Hi Ht Hg Hc]
  · rw [st0_eq]
    isplitl [Hj]; · iexact Hj
    isplitl [Hi]; · iexact Hi
    isplitl [Ht]; · iexact Ht
    isplitl [Hg]; · iexact Hg
    iexact Hc
  iintro ⟨Hst, Hdn⟩
  ihave Hdn' := (Entails.of_eq (dn0_eq m d)) $$ Hdn
  icases Hdn' with ⟨Hj, Hi, -, Hg, Hc⟩
  imodintro
  isplitl [Hst]; · iexact Hst
  isplitr [Hb Hts]
  · isplitl [Hj]; · iexact Hj
    isplitl [Hi]; · iexact Hi
    isplitl [Hx]; · iexact Hx
    isplitl [Hs]; · iexact Hs
    isplitl [Hg]; · iexact Hg
    iexact Hc
  isplitl [Hb] <;> iassumption

/-! ## The run -/

/-- What a final state holds on device `d`. -/
def fq (d : Dev nD) (s' : Phys nD τ sig (Elt F)) : Prop :=
  s'.mem.mem (jLoc d) = m (jLoc d) ∧ s'.mem.mem (iLoc d) = m (iLoc d) ∧ s'.mem.mem (bLoc d) = m (bLoc d) ∧ s'.mem.mem (sLoc d) = m (sLoc d)
    ∧ s'.mem.mem (gLoc d) = (gathered (m (jLoc d)) (tab m d) : S46080.Idx → F .f32) ∧ s'.mem.mem (cLoc d) = (matched (m (jLoc d)) (m (iLoc d)) : S5120.Idx → F .f32)

theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Hj, Hi, Hx, Hs, Hg, Hc⟩, HSI⟩
  ihave H := (agree s' _ _) $$ [Hj HSI]; · isplitl [Hj] <;> iassumption
  icases H with ⟨%h0, HSI⟩
  ihave H := (agree s' _ _) $$ [Hi HSI]; · isplitl [Hi] <;> iassumption
  icases H with ⟨%h1, HSI⟩
  ihave H := (agree s' _ _) $$ [Hx HSI]; · isplitl [Hx] <;> iassumption
  icases H with ⟨%h2, HSI⟩
  ihave H := (agree s' _ _) $$ [Hs HSI]; · isplitl [Hs] <;> iassumption
  icases H with ⟨%h3, HSI⟩
  ihave H := (agree s' _ _) $$ [Hg HSI]; · isplitl [Hg] <;> iassumption
  icases H with ⟨%h4, HSI⟩
  ihave H := (agree s' _ _) $$ [Hc HSI]; · isplitl [Hc] <;> iassumption
  icases H with ⟨%h5, -⟩
  ipureintro; exact ⟨h0, h1, h2, h3, h4, h5⟩

def QC : PUnit × MemSt nD τ sig (Elt F) → Prop := fun r =>
  (∀ d : Dev nD, r.2.mem (jLoc d) = m (jLoc d) ∧ r.2.mem (iLoc d) = m (iLoc d) ∧ r.2.mem (bLoc d) = m (bLoc d) ∧ r.2.mem (sLoc d) = m (sLoc d)
    ∧ r.2.mem (gLoc d) = (gathered (m (jLoc d)) (tab m d) : S46080.Idx → F .f32) ∧ r.2.mem (cLoc d) = (matched (m (jLoc d)) (m (iLoc d)) : S5120.Idx → F .f32))
  ∧ r.2.sem = fun _ => 0

theorem run_main [∀ e, Nonempty (Elt F e)] (hpre : PreOK m) :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.IdealMatch
-- ==== Proof.Value.lean ====
module

public import proofs.«01_k».proof.Proof.IdealVals
public import proofs.«01_k».proof.Proof.Gen.ReferenceIdeal
public import Idealize.ShloMosaic.Lib.ValueIdxCore
public import Idealize.ShloMosaic.Lib.Pipeline.Value
public import Idealize.ShloMosaic.Lib.StableHlo.Predicate
public import Idealize.ShloMosaic.Lib.IdealHost
public import Idealize.ShloMosaic.PureOps.Ideal.Laws

/-! The two results of the kernel, as its runs leave them, are the two results of the reference. -/

@[expose] public section

noncomputable section

namespace Cert.Proof.Value

open Cert.ReferenceIdeal Cert.ReferenceIdeal.Gen
open Idealize.ShloMosaic Idealize.ShloMosaic.ValueIdx
open Cert.Proof.IdealMatch (pos posT pos_eq posT_eq hits matched gathered)

variable {α : Type}

/-! ## The gathered rows -/

/-- An index that is in range is not negative, so the reference does not wrap it. -/
theorem wrap_id {v : BitVec 32} (h : v.toNat < 5000) : Scalar.select (IntOp.cmpi .slt v 0#32) (IntOp.addi v 5000#32) v = v := by
  have e : IntOp.cmpi .slt v 0#32 = 0#1 := by
    simp only [IntOp.cmpi, BitVec.slt_eq_decide, BitVec.toInt_eq_toNat_cond, BitVec.toNat_ofNat]
    rw [decide_eq_false (by split_ifs <;> omega)]
    rfl
  rw [e, select_zero]

/-- The reference's start indices: the best matches as a column, wrapped. -/
def starts (fj : IVec S5120 32) : IVec S5120x1 32 :=
  broadcastInDim S5120x1 ![0] bcast_S5120_S5120x1_0 (select (cmpi .slt fj (broadcastInDim S5120 ![] bcast_S_S5120 (constantI S_ 32 0#32)))
    (addi fj (broadcastInDim S5120 ![] bcast_S_S5120 (constantI S_ 32 5000#32))) fj)

theorem starts_at (fj : IVec S5120 32) (hj : ∀ x, (fj x).toNat < 5000) (j : Fin 5120) : starts fj (ix2 j 0) = fj (ix1 j) := by
  unfold starts
  rw [broadcastInDim_apply ![0] _ _ (ix2 j 0) (ix1 j) (fun a => by obtain rfl : a = 0 := Subsingleton.elim _ _; rfl)]
  exact wrap_id (hj _)

/-- A start index in range read signed and clamped is itself. -/
theorem clamp_id {v : BitVec 32} {n : ℕ} (hn : n < 5000) (h : v.toNat = n) : min v.toInt.toNat 4999 = n := by
  rw [BitVec.toInt_eq_toNat_cond, if_pos (by omega), h, Int.toNat_natCast]
  omega

/-- A gather of rows at a start index in range. -/
theorem take_row (x : S5000x4.Idx → α) (idx : IVec S5120x1 32) (j : Fin 5120) (k : Fin 4) (n : Fin 5000) (h : (idx (ix2 j 0)).toNat = n.val) :
    Host.gather gather_S5000x4_S5120x1_S5120x4_1_0_n_n_0_1_14 x idx (ix2 j k) = x (ix2 n k) := by
  refine congrArg x (funext fun a => Fin.ext ?_)
  show GatherDims.start _ _ idx a + GatherDims.batchCoord _ _ a + GatherDims.offCoord _ _ a = _
  rw [GatherDims.batchCoord_eq_zero _ _ _ (show a ∉ ([] : List (Fin 2)) from List.not_mem_nil), Nat.add_zero]
  rcases (show a = 0 ∨ a = 1 by match a with | ⟨0, _⟩ => exact Or.inl rfl | ⟨1, _⟩ => exact Or.inr rfl) with rfl | rfl
  · rw [GatherDims.offCoord_eq_zero _ _ _ (fun m => ((GatherDims.mem_sKept _ _).1 m).1 (List.mem_singleton.2 rfl)), Nat.add_zero]
    unfold GatherDims.start
    rw [dif_pos (show (0 : Fin 2) ∈ gather_S5000x4_S5120x1_S5120x4_1_0_n_n_0_1_14.startIndexMap from List.mem_singleton.2 rfl)]
    refine (congrArg (fun i => min (idx i).toInt.toNat 4999) (?_ : _ = ix2 j 0)).trans (clamp_id n.isLt h)
    funext b
    match b with
    | ⟨0, _⟩ => rfl
    | ⟨1, _⟩ => rfl
  · unfold GatherDims.start
    rw [dif_neg (show (1 : Fin 2) ∉ gather_S5000x4_S5120x1_S5120x4_1_0_n_n_0_1_14.startIndexMap from (show (1 : Fin 2) ∉ ([0] : List (Fin 2)) by decide)),
      Nat.zero_add]
    rfl

/-- A gather of single entries at a start index in range. -/
theorem take_one (x : S5000.Idx → α) (idx : IVec S5120x1 32) (j : Fin 5120) (n : Fin 5000) (h : (idx (ix2 j 0)).toNat = n.val) :
    Host.gather gather_S5000_S5120x1_S5120_n_0_n_n_0_1_1 x idx (ix1 j) = x (ix1 n) := by
  refine congrArg x (funext fun a => Fin.ext ?_)
  obtain rfl : a = 0 := Subsingleton.elim _ _
  show GatherDims.start _ _ idx 0 + GatherDims.batchCoord _ _ 0 + GatherDims.offCoord _ _ 0 = _
  rw [GatherDims.batchCoord_eq_zero _ _ _ (show (0 : Fin 1) ∉ ([] : List (Fin 1)) from List.not_mem_nil), Nat.add_zero,
    GatherDims.offCoord_eq_zero _ _ _ (fun m => ((GatherDims.mem_sKept _ _).1 m).1 (List.mem_singleton.2 rfl)), Nat.add_zero]
  unfold GatherDims.start
  rw [dif_pos (show (0 : Fin 1) ∈ gather_S5000_S5120x1_S5120_n_0_n_n_0_1_1.startIndexMap from List.mem_singleton.2 rfl)]
  refine (congrArg (fun i => min (idx i).toInt.toNat 4999) (?_ : _ = ix2 j 0)).trans (clamp_id n.isLt h)
  funext b
  match b with
  | ⟨0, _⟩ => rfl
  | ⟨1, _⟩ => rfl

/-- Four rows, four rows and one row laid below each other. -/
def stack (A B : S4x5120.Idx → α) (C : S1x5120.Idx → α) : S9x5120.Idx → α :=
  concatenate S9x5120 0 [⟨S4x5120, A⟩, ⟨S4x5120, B⟩, ⟨S1x5120, C⟩] concatenates_S4x5120_S4x5120_S1x5120_S9x5120_d0

theorem stack_first (A B : S4x5120.Idx → α) (C : S1x5120.Idx → α) (r : Fin 9) (j : Fin 5120) (k : Fin 4) (h : r.val = k.val) :
    stack A B C (ix2 r j) = A (ix2 k j) :=
  concatenate_apply_piece (t := S9x5120) 0 [⟨S4x5120, A⟩, ⟨S4x5120, B⟩, ⟨S1x5120, C⟩] _ (ix2 r j) 0 (by simp) S4x5120 A rfl rfl 0 rfl (ix2 k j)
    (fun b hb => by match b with | ⟨0, _⟩ => exact absurd rfl hb | ⟨1, _⟩ => rfl)
    (show 0 + k.val = r.val by omega)

theorem stack_second (A B : S4x5120.Idx → α) (C : S1x5120.Idx → α) (r : Fin 9) (j : Fin 5120) (k : Fin 4) (h : r.val = 4 + k.val) :
    stack A B C (ix2 r j) = B (ix2 k j) :=
  concatenate_apply_piece (t := S9x5120) 0 [⟨S4x5120, A⟩, ⟨S4x5120, B⟩, ⟨S1x5120, C⟩] _ (ix2 r j) 1 (by simp) S4x5120 B rfl rfl 4 rfl (ix2 k j)
    (fun b hb => by match b with | ⟨0, _⟩ => exact absurd rfl hb | ⟨1, _⟩ => rfl)
    (show 4 + k.val = r.val by omega)

theorem stack_last (A B : S4x5120.Idx → α) (C : S1x5120.Idx → α) (r : Fin 9) (j : Fin 5120) (h : r.val = 8) :
    stack A B C (ix2 r j) = C (ix2 0 j) :=
  concatenate_apply_piece (t := S9x5120) 0 [⟨S4x5120, A⟩, ⟨S4x5120, B⟩, ⟨S1x5120, C⟩] _ (ix2 r j) 2 (by simp) S1x5120 C rfl rfl 8 rfl (ix2 0 j)
    (fun b hb => by match b with | ⟨0, _⟩ => exact absurd rfl hb | ⟨1, _⟩ => rfl)
    (show 8 + 0 = r.val by omega)

/-- Two stacks agree, one at column `j` and one at column `n`, when their pieces do. -/
theorem stack_agree {A B A' B' : S4x5120.Idx → α} {C C' : S1x5120.Idx → α} {j n : Fin 5120} (hA : ∀ k, A (ix2 k n) = A' (ix2 k j))
    (hB : ∀ k, B (ix2 k n) = B' (ix2 k j)) (hC : C (ix2 0 n) = C' (ix2 0 j)) (r : Fin 9) :
    stack A B C (ix2 r n) = stack A' B' C' (ix2 r j) := by
  rcases lt_or_ge r.val 4 with h | h
  · rw [stack_first A B C r n ⟨r.val, h⟩ rfl, stack_first A' B' C' r j ⟨r.val, h⟩ rfl, hA]
  rcases lt_or_ge r.val 8 with h' | h'
  · rw [stack_second A B C r n ⟨r.val - 4, by omega⟩ (show r.val = 4 + (r.val - 4) by omega),
      stack_second A' B' C' r j ⟨r.val - 4, by omega⟩ (show r.val = 4 + (r.val - 4) by omega), hB]
  · have := r.isLt
    rw [stack_last A B C r n (by omega), stack_last A' B' C' r j (by omega), hC]

/-- The rows of an array with padding below, as columns. -/
def columns (p : S5000x4.Idx → α) (z : Cert.KernelIdeal.S120x4.Idx → α) : S4x5120.Idx → α :=
  transpose S4x5120 [1, 0] (concatenate S5120x4 0 [⟨S5000x4, p⟩, ⟨Cert.KernelIdeal.S120x4, z⟩] Cert.KernelIdeal.Gen.facts.concatenates_S5000x4_S120x4_S5120x4_d0)
    transposes_S5120x4_S4x5120_1_0

/-- A vector with padding behind, as one row. -/
def row (s : S5000.Idx → α) (z : Cert.KernelIdeal.S120.Idx → α) : S1x5120.Idx → α :=
  broadcastInDim S1x5120 ![1] bcast_S5120_S1x5120_1
    (concatenate S5120 0 [⟨S5000, s⟩, ⟨Cert.KernelIdeal.S120, z⟩] Cert.KernelIdeal.Gen.facts.concatenates_S5000_S120_S5120_d0)

theorem transpose_at (x : S5120x4.Idx → α) (k : Fin 4) (j : Fin 5120) :
    transpose S4x5120 [1, 0] x transposes_S5120x4_S4x5120_1_0 (ix2 k j) = x (ix2 j k) :=
  transpose_apply _ _ _ _ _ fun b => by match b with | ⟨0, _⟩ => rfl | ⟨1, _⟩ => rfl

theorem one_row_at (x : S5120.Idx → α) (j : Fin 5120) :
    broadcastInDim S1x5120 ![1] bcast_S5120_S1x5120_1 x (ix2 0 j) = x (ix1 j) :=
  broadcastInDim_apply _ _ _ _ _ fun a => by obtain rfl : a = 0 := Subsingleton.elim _ _; rfl

theorem columns_at (p : S5000x4.Idx → α) (z : Cert.KernelIdeal.S120x4.Idx → α) (k : Fin 4) (n : Fin 5000) (m : Fin 5120) (h : m.val = n.val) :
    columns p z (ix2 k m) = p (ix2 n k) := by
  unfold columns
  rw [transpose_at]
  exact concatenate_pair_apply_left (t := S5120x4) 0 p z _ (ix2 m k) rfl (ix2 n k) fun b => by match b with | ⟨0, _⟩ => exact h.symm | ⟨1, _⟩ => rfl

theorem row_at (s : S5000.Idx → α) (z : Cert.KernelIdeal.S120.Idx → α) (n : Fin 5000) (m : Fin 5120) (h : m.val = n.val) :
    row s z (ix2 0 m) = s (ix1 n) := by
  unfold row
  rw [one_row_at]
  exact concatenate_pair_apply_left (t := S5120) 0 s z _ (ix1 m) rfl (ix1 n) fun b => by obtain rfl : b = 0 := Subsingleton.elim _ _; exact h.symm

/-- A flat position is a row and a column of the stack. -/
theorem flat_at (x : S9x5120.Idx → α) (i : S46080.Idx) (r : Fin 9) (j : Fin 5120) (h : (i 0).val = 5120 * r.val + j.val) :
    shapeCast S46080 x shapeCasts_S9x5120_S46080 i = x (ix2 r j) :=
  shapeCast_apply _ _ _ _ (by
    rw [Shape.rowMajor_val_two, Shape.rowMajor_val_one]
    show r.val * 5120 + j.val = (i 0).val
    omega)

/-- The kernel's first result over the padded tables is the reference's over the tables: the padding is never read. -/
theorem gathered_eq {F : FTy → Type} (fj : IVec S5120 32) (hj : ∀ x, (fj x).toNat < 5000) (p q : S5000x4.Idx → F .f32) (s : S5000.Idx → F .f32)
    (z z' : Cert.KernelIdeal.S120x4.Idx → F .f32) (z'' : Cert.KernelIdeal.S120.Idx → F .f32) :
    gathered (F := F) fj (shapeCast S46080 (stack (columns p z) (columns q z') (row s z'')) shapeCasts_S9x5120_S46080)
      = shapeCast S46080 (stack
          (transpose S4x5120 [1, 0] (Host.gather gather_S5000x4_S5120x1_S5120x4_1_0_n_n_0_1_14 p (starts fj)) transposes_S5120x4_S4x5120_1_0)
          (transpose S4x5120 [1, 0] (Host.gather gather_S5000x4_S5120x1_S5120x4_1_0_n_n_0_1_14 q (starts fj)) transposes_S5120x4_S4x5120_1_0)
          (broadcastInDim S1x5120 ![1] bcast_S5120_S1x5120_1 (Host.gather gather_S5000_S5120x1_S5120_n_0_n_n_0_1_1 s (starts fj))))
        shapeCasts_S9x5120_S46080 := by
  funext i
  have hi : (i 0).val < 46080 := (i 0).isLt
  let r : Fin 9 := ⟨(i 0).val / 5120, by omega⟩
  let j : Fin 5120 := ⟨(i 0).val % 5120, Nat.mod_lt _ (by omega)⟩
  have hp : pos ((i 0).val % 5120) = ix1 j := (pos_eq (ix1 j) rfl).symm
  let n : Fin 5000 := ⟨(fj (ix1 j)).toNat, hj _⟩
  let m : Fin 5120 := ⟨n.val, by have := n.isLt; omega⟩
  have hs : (starts fj (ix2 j 0)).toNat = n.val := by rw [starts_at fj hj]
  rw [flat_at _ i r j (by show _ = 5120 * ((i 0).val / 5120) + (i 0).val % 5120; omega)]
  unfold gathered
  rw [hp, flat_at _ (posT _) r m (by
    show (5120 * ((i 0).val / 5120) + (fj (ix1 j)).toNat) % 46080 = 5120 * ((i 0).val / 5120) + (fj (ix1 j)).toNat
    have := hj (ix1 j)
    omega)]
  refine stack_agree (fun k => ?_) (fun k => ?_) ?_ r
  · rw [columns_at p z k n m rfl, transpose_at, take_row p _ j k n hs]
  · rw [columns_at q z' k n m rfl, transpose_at, take_row q _ j k n hs]
  · rw [row_at s z'' n m rfl, one_row_at, take_one s _ j n hs]

/-! ## The matched marks -/

/-- A column of zeros and ones has for its maximum a one if a one is among them, else a zero. -/
theorem foldl_max_marks {ι : Type} (l : List ι) (g : ι → EReal) (hg : ∀ i, g i = 0 ∨ g i = 1) (a : EReal) (ha : a = ⊥ ∨ a = 0 ∨ a = 1) (hne : a ≠ ⊥ ∨ l ≠ []) :
    l.foldl (fun r i => max r (g i)) a = (open Classical in if a = 1 ∨ ∃ i ∈ l, g i = 1 then 1 else 0) := by
  have b1 : (⊥ : EReal) ≠ 1 := (EReal.bot_lt_coe 1).ne
  have b0 : (⊥ : EReal) ≠ 0 := (EReal.bot_lt_coe 0).ne
  induction l generalizing a with
  | nil =>
    rcases hne with h | h
    · rcases ha with rfl | rfl | rfl
      · exact absurd rfl h
      · simp
      · simp
    · exact absurd rfl h
  | cons x l ih =>
    have hx : max a (g x) = 0 ∨ max a (g x) = 1 := by
      rcases ha with rfl | rfl | rfl <;> rcases hg x with e | e <;> rw [e] <;> simp
    have h1 : (max a (g x) = 1) ↔ (a = 1 ∨ g x = 1) := by
      rcases ha with rfl | rfl | rfl <;> rcases hg x with e | e <;> rw [e] <;> simp [b1]
    rw [List.foldl_cons, ih _ (Or.inr hx) (Or.inl (by rcases hx with e | e <;> rw [e] <;> first | exact b0.symm | exact b1.symm))]
    congr 1
    rw [h1]
    simp only [List.mem_cons, exists_eq_or_imp, or_assoc]

/-- The reference's square of marks: box `p`'s best match is `q`, and `p` has a positive best IoU. -/
def square (fj : IVec S5120 32) (fi : FVec Ideal S5120 .f32) : FVec Ideal S5120x5120 .f32 :=
  uitofp .f32 (andi
    (cmpi .eq (broadcastInDim S5120x5120 ![0, 1] bcast_S5120x1_S5120x5120_0_1 (broadcastInDim S5120x1 ![0] bcast_S5120_S5120x1_0 fj))
      (broadcastInDim S5120x5120 ![0, 1] bcast_S1x5120_S5120x5120_0_1 (broadcastInDim S1x5120 ![1] bcast_S5120_S1x5120_1 (iotaInDim S5120 32 0))))
    (broadcastInDim S5120x5120 ![0, 1] bcast_S5120x1_S5120x5120_0_1 (broadcastInDim S5120x1 ![0] bcast_S5120_S5120x1_0
      (cmpf .ogt fi (broadcastInDim S5120 ![] bcast_S_S5120 (constant S_ .f32 0x00000000#32))))))

theorem down_at (x : S5120.Idx → α) (p q : Fin 5120) :
    broadcastInDim S5120x5120 ![0, 1] bcast_S5120x1_S5120x5120_0_1 (broadcastInDim S5120x1 ![0] bcast_S5120_S5120x1_0 x) (ix2 p q) = x (ix1 p) := by
  rw [broadcastInDim_apply _ _ _ (ix2 p q) (ix2 p 0) (fun a => by match a with | ⟨0, _⟩ => rfl | ⟨1, _⟩ => rfl)]
  exact broadcastInDim_apply _ _ _ _ _ fun a => by obtain rfl : a = 0 := Subsingleton.elim _ _; rfl

theorem across_at (x : S5120.Idx → α) (p q : Fin 5120) :
    broadcastInDim S5120x5120 ![0, 1] bcast_S1x5120_S5120x5120_0_1 (broadcastInDim S1x5120 ![1] bcast_S5120_S1x5120_1 x) (ix2 p q) = x (ix1 q) := by
  rw [broadcastInDim_apply _ _ _ (ix2 p q) (ix2 0 q) (fun a => by match a with | ⟨0, _⟩ => rfl | ⟨1, _⟩ => rfl)]
  exact one_row_at x q

theorem bit_float (b : BitVec 1) : (FloatOps.uitofp .f32 b : Ideal .f32) = (0 : EReal) ∨ (FloatOps.uitofp .f32 b : Ideal .f32) = (1 : EReal) := by
  rcases (by decide : ∀ b : BitVec 1, b = 0#1 ∨ b = 1#1) b with rfl | rfl
  · left; show (((0#1 : BitVec 1).toNat : ℝ) : EReal) = 0; simp
  · right; show (((1#1 : BitVec 1).toNat : ℝ) : EReal) = 1; simp

theorem bit_float_one (b : BitVec 1) : (FloatOps.uitofp .f32 b : Ideal .f32) = (1 : EReal) ↔ b = 1#1 := by
  rcases (by decide : ∀ b : BitVec 1, b = 0#1 ∨ b = 1#1) b with rfl | rfl
  · show (((0#1 : BitVec 1).toNat : ℝ) : EReal) = 1 ↔ _; simp
  · show (((1#1 : BitVec 1).toNat : ℝ) : EReal) = 1 ↔ _; simp

theorem and_one (a b : BitVec 1) : IntOp.andi a b = 1#1 ↔ a = 1#1 ∧ b = 1#1 := by revert a b; decide

theorem square_marks (fj : IVec S5120 32) (fi : FVec Ideal S5120 .f32) (i : S5120x5120.Idx) :
    square fj fi i = (0 : EReal) ∨ square fj fi i = (1 : EReal) := bit_float _

theorem square_at (fj : IVec S5120 32) (fi : FVec Ideal S5120 .f32) (p q : Fin 5120) :
    square fj fi (ix2 p q) = (1 : EReal) ↔ hits (F := Ideal) fj fi p.val q.val := by
  have hp : pos p.val = ix1 p := (pos_eq (ix1 p) rfl).symm
  unfold hits
  rw [hp]
  refine (bit_float_one _).trans ((and_one _ _).trans ?_)
  rw [and_comm]
  refine and_congr ?_ ?_
  · rw [down_at]; exact Iff.rfl
  · refine (StableHlo.Predicate.cmpi_eq_iff).trans ?_
    rw [down_at, across_at]
    show fj (ix1 p) = BitVec.ofNat 32 q.val ↔ _
    have hq := q.isLt
    constructor
    · intro e; rw [e, BitVec.toNat_ofNat]; omega
    · intro e; apply BitVec.eq_of_toNat_eq; rw [e, BitVec.toNat_ofNat]; omega

/-- The kernel's second result is the reference's column maximum of the square. -/
theorem matched_eq (fj : IVec S5120 32) (fi : FVec Ideal S5120 .f32) :
    matched (F := Ideal) fj fi
      = Host.reduce FloatOps.maximumf (square fj fi) (constant S_ .f32 0xFF800000#32) reducesTo_S5120x5120_S5120_d0 h_S_ := by
  funext x
  rw [Host.reduce_eq_foldl]
  have hmem : ∀ i : S5120x5120.Idx, i ∈ (((List.finRange S5120x5120.numel).map S5120x5120.rowMajor.symm).filter
      fun i => reducesTo_S5120x5120_S5120_d0.drop i = x) ↔ (i 1).val = (x 0).val := by
    intro i
    rw [List.mem_filter, decide_eq_true_eq]
    constructor
    · rintro ⟨_, e⟩
      rw [← e]
      exact (Shape.ReducesTo.drop_apply_val_of_eq _ i 0 1).symm
    · intro e
      refine ⟨List.mem_map.2 ⟨S5120x5120.rowMajor i, List.mem_finRange _, Equiv.symm_apply_apply _ _⟩, funext fun a => ?_⟩
      obtain rfl : a = 0 := Subsingleton.elim _ _
      exact Fin.ext ((Shape.ReducesTo.drop_apply_val_of_eq _ i 0 1).trans e)
  have hx : (x 0).val < 5120 := (x 0).isLt
  have hbot : (constant (F := Ideal) S_ .f32 0xFF800000#32) (Shape.Idx.first h_S_) = (⊥ : EReal) := by
    show Ideal.ofBits .f32 0xFF800000#32 = _
    simp [Ideal.ofBits, Ideal.ieee]
  rw [hbot]
  refine Eq.trans ?_ (foldl_max_marks _ (fun i => square fj fi i) (square_marks fj fi) ⊥ (Or.inl rfl) (Or.inr
    (List.ne_nil_of_mem ((hmem (ix2 ⟨0, by omega⟩ ⟨(x 0).val, hx⟩)).2 rfl)))).symm
  unfold matched
  have hone : (Scalar.ofBits .f32 0x3F800000#32 : Ideal .f32) = (1 : EReal) := Ideal.ofBits_one_f32
  have hzero : (Scalar.ofBits .f32 0x00000000#32 : Ideal .f32) = (0 : EReal) := Ideal.ofBits_zero_f32
  rw [hone, hzero]
  by_cases hh : ∃ n, n < 5120 ∧ hits (F := Ideal) fj fi n (x 0).val
  · rw [if_pos hh]
    obtain ⟨n, hn, h⟩ := hh
    exact (if_pos (Or.inr ⟨ix2 ⟨n, hn⟩ ⟨(x 0).val, hx⟩, (hmem _).2 rfl, (square_at fj fi _ _).2 h⟩)).symm
  · rw [if_neg hh]
    refine (if_neg ?_).symm
    rintro (h | ⟨i, hi, h⟩)
    · exact (EReal.bot_lt_coe 1).ne h
    · rw [eq_ix2 i] at h
      refine hh ⟨(i 0).val, (i 0).isLt, ?_⟩
      rw [← (hmem i).1 hi]
      exact (square_at fj fi _ _).1 h

end Cert.Proof.Value

end
-- ==== Proof.Results.lean ====
module

public import proofs.«01_k».proof.Proof.IdealLaunch
public import proofs.«01_k».proof.Proof.Value
public import proofs.«01_k».proof.Proof.Gen.ReferenceIdeal.Run

/-! The kernel's two results from the launch's arguments, and the reference's, which are the same. -/

@[expose] public section

noncomputable section

namespace Cert.Proof.Value

open Idealize.ShloMosaic Idealize.ShloMosaic.TcCoe Idealize.SL.Sem
open Cert.Proof.IdealMatch (matched gathered tab atCall hostOps jLoc iLoc bLoc sLoc gLoc cLoc PreOK)

/-- Half a box, rounded down. -/
def halves {F : FTy → Type} [FloatOps F] (b : FVec F Cert.ReferenceIdeal.S5000x4 .f32) : FVec F Cert.ReferenceIdeal.S5000x4 .f32 :=
  Host.floor (Host.divf b (broadcastInDim Cert.ReferenceIdeal.S5000x4 ![] Cert.ReferenceIdeal.Gen.facts.bcast_S_S5000x4 (constant Cert.ReferenceIdeal.S_ .f32 0x40000000#32)))

/-- The first result: the halved boxes, the boxes and the scores at each box's best match. -/
def rows (fj : IVec Cert.ReferenceIdeal.S5120 32) (b : FVec Ideal Cert.ReferenceIdeal.S5000x4 .f32) (s : FVec Ideal Cert.ReferenceIdeal.S5000 .f32) :
    FVec Ideal Cert.ReferenceIdeal.S46080 .f32 :=
  shapeCast Cert.ReferenceIdeal.S46080 (stack
      (transpose Cert.ReferenceIdeal.S4x5120 [1, 0] (Host.gather Cert.ReferenceIdeal.gather_S5000x4_S5120x1_S5120x4_1_0_n_n_0_1_14 (halves b) (starts fj))
        Cert.ReferenceIdeal.Gen.facts.transposes_S5120x4_S4x5120_1_0)
      (transpose Cert.ReferenceIdeal.S4x5120 [1, 0] (Host.gather Cert.ReferenceIdeal.gather_S5000x4_S5120x1_S5120x4_1_0_n_n_0_1_14 b (starts fj))
        Cert.ReferenceIdeal.Gen.facts.transposes_S5120x4_S4x5120_1_0)
      (broadcastInDim Cert.ReferenceIdeal.S1x5120 ![1] Cert.ReferenceIdeal.Gen.facts.bcast_S5120_S1x5120_1
        (Host.gather Cert.ReferenceIdeal.gather_S5000_S5120x1_S5120_n_0_n_n_0_1_1 s (starts fj))))
    Cert.ReferenceIdeal.Gen.facts.shapeCasts_S9x5120_S46080

/-- The table the kernel's host code builds: the halved boxes, the boxes and the scores, each padded to 5120. -/
theorem tab_eq (m : (ℓ : Loc Cert.KernelIdeal.nD Cert.KernelIdeal.τ Cert.KernelIdeal.sig) → Buf (Elt Ideal) ℓ) (d : Dev Cert.KernelIdeal.nD) :
    ∃ z z' z'', tab m d = (shapeCast Cert.ReferenceIdeal.S46080 (stack (columns (halves (F := Ideal) (m (bLoc d))) z) (columns (m (bLoc d)) z') (row (m (sLoc d)) z''))
      Cert.ReferenceIdeal.Gen.facts.shapeCasts_S9x5120_S46080 : FVec Ideal Cert.ReferenceIdeal.S46080 .f32) := by
  refine ⟨atCall m d (Proc.devRef .tc Cert.KernelIdeal.main_v5), atCall m d (Proc.devRef .tc Cert.KernelIdeal.main_v9),
    atCall m d (Proc.devRef .tc Cert.KernelIdeal.main_v11), ?_⟩
  unfold tab atCall hostOps
  after_results
  rfl

/-- The second result: a one for every previous box that is the best match of a box with a positive IoU. -/
def marks (fj : IVec Cert.ReferenceIdeal.S5120 32) (fi : FVec Ideal Cert.ReferenceIdeal.S5120 .f32) : FVec Ideal Cert.ReferenceIdeal.S5120 .f32 :=
  Host.reduce FloatOps.maximumf (square fj fi) (constant Cert.ReferenceIdeal.S_ .f32 0xFF800000#32) Cert.ReferenceIdeal.Gen.facts.reducesTo_S5120x5120_S5120_d0
    Cert.ReferenceIdeal.Gen.facts.h_S_

/-- A word that is at least zero and below 5000 as a signed number is below 5000. -/
theorem in_range_lt {v : BitVec 32} (e : IntOp.andi (IntOp.cmpi .sge v 0#32) (IntOp.cmpi .slt v 5000#32) = 1#1) : v.toNat < 5000 := by
  obtain ⟨h0, h1⟩ := (and_one _ _).1 e
  simp only [IntOp.cmpi, StableHlo.Predicate.ofBool_eq_one_iff, BitVec.sle_eq_decide, BitVec.slt_eq_decide, decide_eq_true_eq, BitVec.toInt_eq_toNat_cond,
    BitVec.toNat_ofNat, Nat.reducePow, Nat.reduceMod] at h0 h1
  omega

theorem pre_lt {F : FTy → Type} [FloatOps F] {fj : IVec Cert.ReferenceIdeal.S5120 32} {fi : FVec F Cert.ReferenceIdeal.S5120 .f32}
    {b : FVec F Cert.ReferenceIdeal.S5000x4 .f32} {s : FVec F Cert.ReferenceIdeal.S5000 .f32}
    (h : Cert.Pre_in_range.fn (F := F) fj fi b s = fun _ => 1#1) (x : Cert.ReferenceIdeal.S5120.Idx) : (fj x).toNat < 5000 := by
  have e := congrFun h x
  simp only [Cert.Pre_in_range.fn, andi, cmpi, broadcastInDim, constantI] at e
  exact in_range_lt e

/-- The kernel's run, its results named as the reference's. -/
theorem kernel_run (m : (ℓ : Loc Cert.KernelIdeal.nD Cert.KernelIdeal.τ Cert.KernelIdeal.sig) → Buf (Elt Ideal) ℓ) (ρ : Dev Cert.KernelIdeal.nD → PrngReg)
    (hpre : PreOK m) :
    θ_run (Cert.KernelIdeal.defs (F := Ideal)) (Cert.KernelIdeal.threads (F := Ideal)) ⟨m, fun _ => 0, ρ⟩ fun r => ∀ d : Dev Cert.KernelIdeal.nD,
      r.2.mem (gLoc d) = rows (m (jLoc d)) (m (bLoc d)) (m (sLoc d)) ∧ r.2.mem (cLoc d) = marks (m (jLoc d)) (m (iLoc d))
        ∧ r.2.mem (jLoc d) = m (jLoc d) ∧ r.2.mem (iLoc d) = m (iLoc d) ∧ r.2.mem (bLoc d) = m (bLoc d) ∧ r.2.mem (sLoc d) = m (sLoc d) := by
  refine (θ_run _ _ _).mono (fun r h d => ?_) (Cert.Proof.IdealMatch.run_main (F := Ideal) m ρ hpre)
  obtain ⟨hj, hi, hb, hs, hg, hc⟩ := h.1 d
  obtain ⟨z, z', z'', e⟩ := tab_eq m d
  refine ⟨hg.trans ?_, hc.trans (matched_eq _ _), hj, hi, hb, hs⟩
  rw [e]
  exact gathered_eq (F := Ideal) _ (hpre d) _ _ _ z z' z''

end Cert.Proof.Value

end
-- ==== Proof.MatchFrame.lean ====
/-
  The frame of the best-match call (`BestMatch`), a TensorCore pipeline over a grid of twenty points. Each point reads the sub
  boxes (fetched once) and one block of 256 previous boxes, and writes the first row of each result block: the first point writes
  it, every later point reads it and writes it again. The other rows of a result block are never written, so nothing is said of
  the result blocks here: the body owns them at some contents before and after.
-/
module

public import proofs.«01_k».proof.Proof.Gen.BestMatch.Frame
public import proofs.«01_k».proof.Proof.Gen.BestMatch.Skeleton
public import Idealize.ShloMosaic.Lib.Pipeline.Frame
public import Idealize.ShloMosaic.Lib.Tactic

@[expose] public section

noncomputable section

namespace Cert.BestMatch.Hand

open Cert.BestMatch Cert.BestMatch.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- One run of the body at grid point `i`, for any continuation: the two input blocks are left as they were, the two result
    blocks at some contents. -/
theorem kernelRun (c : Dev nD) (i : grid0.Coords) (arg1 : Memref sig .tc .vmem S8x5120 .f32) (harg1 : arg1.IsWhole)
    (arg2 : Memref sig .tc .vmem S256x128 .f32) (harg2 : arg2.IsWhole) (arg3 : Memref sig .tc .vmem S8x5120 .f32) (harg3 : arg3.IsWhole)
    (arg4 : Memref sig .tc .vmem S8x5120 .i32) (harg4 : arg4.IsWhole) (X1 : S8x5120.Idx → Elt F .f32) (X2 : S256x128.Idx → Elt F .f32)
    (K : PUnit → sProp 𝕄) :
    iprop(owns (c : Thread nD τ) arg1 fullShare X1 ∗ owns (c : Thread nD τ) arg2 fullShare X2
        ∗ (∃ d, owns (c : Thread nD τ) arg3 fullShare d) ∗ (∃ d, owns (c : Thread nD τ) arg4 fullShare d)
        ∗ (iprop(owns (c : Thread nD τ) arg1 fullShare X1 ∗ owns (c : Thread nD τ) arg2 fullShare X2
              ∗ (∃ d, owns (c : Thread nD τ) arg3 fullShare d) ∗ (∃ d, owns (c : Thread nD τ) arg4 fullShare d)) -∗ K ⟨⟩))
      ⊢ wp frame (wpE (defs₀ (F := F)) Variants.none c none) Set.univ
          (cc0__iou_body i arg1 harg1 arg2 harg2 arg3 harg3 arg4 harg4) K := by
  simp only [cc0__iou_body_eq_skeleton]; unfold cc0__iou_body_skel
  simp only [k0_part1_eq_skeleton]; unfold k0_part1_skel
  unfold owns
  by_cases h1 : k0_cond1 i = 1#1 <;> by_cases h2 : k0_cond2 i = 1#1
  all_goals
    iintro ⟨⟨%f1, %e1, H1⟩, ⟨%f2, %e2, H2⟩, ⟨%d3, %f3, -, H3⟩, ⟨%d4, %f4, -, H4⟩, Hk⟩
    sl_exec
    sl_step
    iapply Hk
    isplitl [H1]
    · iexists _; isplitr; swap; · iexact H1
      ipureintro; exact e1
    isplitl [H2]
    · iexists _; isplitr; swap; · iexact H2
      ipureintro; exact e2
    isplitl [H3]
    · iexists _, _; isplitr; swap; · iexact H3
      ipureintro; rfl
    iexists _, _; isplitr; swap; · iexact H4
    ipureintro; rfl

/-- The two result windows are forgotten. -/
def forgets : Fin 4 → Bool := fun | 0 => false | 1 => false | 2 => true | 3 => true

/-- The proof data on core `c`: each array as the region finds it, each input's block left in place, nothing owed. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => Dat.unnamed (cfg := cfg0) 2 t
    | 3 => fun t => Dat.unnamed (cfg := cfg0) 3 t
  Φ _ := Pipeline.ΦA spec0 c
  q _ := fullShare
  owed _ := 0

theorem A_eq (c : Dev nD) (w : Fin cfg0.W) : (dats m 0 c).A w = V m c (Pipeline.arrRef spec0 w) := by dsimp only [dats]

/-- The body table's row at point `t` is the body as `bodyAt0` spells it. -/
theorem defs₀_row (t : Fin cfg0.N) : defs₀ (F := F) .tc cfg0.body (cfg0.bodyArgs t (cfg0.slots t)) = bodyAt0 t := by
  unfold defs₀; rw [Defs.onTc_tc]

/-- What the body is handed at point `t` and what it hands back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d) ∗ (∃ d, owns (c : Thread nD τ) (st0_3 t) fullShare d))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t) ∗ owns (c : Thread nD τ) (st0_1 t) fullShare (iblk m c 1 t)
    ∗ (∃ d, owns (c : Thread nD τ) (st0_2 t) fullShare d) ∗ (∃ d, owns (c : Thread nD τ) (st0_3 t) fullShare d))

/-- The body at point `t`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, HO, ⟨%d0, H0⟩, ⟨%d1, H1⟩, H2, H3⟩
  rw [before0_0_of m (dats m 0 c) (A_eq m c 0) (fun _ => rfl), before0_1_of m (dats m 0 c) (A_eq m c 1) (fun _ => rfl)]
  iapply (kernelRun c (grid0.coords t) (st0_0 t) _ (st0_1 t) _ (st0_2 t) _ (st0_3 t) _ (iblk m c 0 t) (iblk m c 1 t) _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

/-- The pipeline's body obligation with the two result windows forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- Every execution ends, the arrays that no window writes as they were and every semaphore at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m}

/-- After the run the two arguments hold what they held. -/
theorem kept {r : PUnit × MemSt nD τ sig (Elt F)}
    (h : Pipeline.RDat.FramePost (cfgs 0) (fun c => (dats (F := F) m 0 c).toRForget forgets) (V m) r) (c : Dev nD) :
    r.2.mem ((c : Thread nD τ).loc main_arg0) = m ((c : Thread nD τ).loc main_arg0)
      ∧ r.2.mem ((c : Thread nD τ).loc main_arg1) = m ((c : Thread nD τ).loc main_arg1) :=
  ⟨(h.arr_in c 0 rfl).trans (A_eq m c 0), (h.arr_in c 1 rfl).trans (A_eq m c 1)⟩

end Cert.BestMatch.Hand

end
-- ==== Proof.MatchBest.lean ====
/-
  The largest value of a function of the numbers of an interval and the least number that has it, the number as a 32-bit word.
-/
module

public import proofs.«01_k».proof.Proof.Gen.BestMatchReferenceIdeal
public import Idealize.ShloMosaic.PureOps.Ideal.Laws

@[expose] public section

noncomputable section

namespace Cert.Proof.BestMatch

open Idealize.ShloMosaic

/-- `v` is the largest value of `o` on `[a, b)` and `i` is the word of the least number that has it. -/
def IsBest (o : ℕ → EReal) (a b : ℕ) (v : EReal) (i : BitVec 32) : Prop :=
  ∃ p, a ≤ p ∧ p < b ∧ i = BitVec.ofNat 32 p ∧ o p = v ∧ (∀ q, a ≤ q → q < b → o q ≤ v) ∧ ∀ q, a ≤ q → q < p → o q < v

theorem IsBest.unique {o : ℕ → EReal} {a b : ℕ} {v w : EReal} {i j : BitVec 32} (h : IsBest o a b v i) (h' : IsBest o a b w j) :
    v = w ∧ i = j := by
  obtain ⟨p, ha, hb, rfl, rfl, hle, hlt⟩ := h
  obtain ⟨q, ha', hb', rfl, rfl, hle', hlt'⟩ := h'
  rcases lt_trichotomy p q with e | rfl | e
  · exact absurd (hlt' p ha e) (not_lt.2 (hle q ha' hb'))
  · exact ⟨rfl, rfl⟩
  · exact absurd (hlt q ha' e) (not_lt.2 (hle' p ha hb))

/-- A nonempty interval has such a number. -/
theorem exists_best (o : ℕ → EReal) {a b : ℕ} (h : a < b) :
    ∃ p, a ≤ p ∧ p < b ∧ (∀ q, a ≤ q → q < b → o q ≤ o p) ∧ ∀ q, a ≤ q → q < p → o q < o p := by
  classical
  obtain ⟨x, hx, hmax⟩ := Finset.exists_max_image (Finset.Ico a b) o ⟨a, Finset.mem_Ico.2 ⟨le_refl _, h⟩⟩
  have hex : ∃ p, a ≤ p ∧ p < b ∧ ∀ q, a ≤ q → q < b → o q ≤ o p :=
    ⟨x, (Finset.mem_Ico.1 hx).1, (Finset.mem_Ico.1 hx).2, fun q h1 h2 => hmax q (Finset.mem_Ico.2 ⟨h1, h2⟩)⟩
  obtain ⟨h1, h2, h3⟩ := Nat.find_spec hex
  refine ⟨Nat.find hex, h1, h2, h3, fun q hq hlt => lt_of_le_of_ne (h3 q hq (hlt.trans h2)) fun e => ?_⟩
  exact Nat.find_min hex hlt ⟨hq, hlt.trans h2, fun r hr hr' => e ▸ h3 r hr hr'⟩

/-- Two neighbouring intervals: the second one's best counts where it is larger. -/
theorem IsBest.merge {o : ℕ → EReal} {a b c : ℕ} {v w : EReal} {i j : BitVec 32} (h : IsBest o a b v i) (h' : IsBest o b c w j) :
    IsBest o a c (if v < w then w else v) (if v < w then j else i) := by
  obtain ⟨p, ha, hb, rfl, rfl, hle, hlt⟩ := h
  obtain ⟨q, ha', hb', rfl, rfl, hle', hlt'⟩ := h'
  split_ifs with e
  · refine ⟨q, by omega, hb', rfl, rfl, fun r h1 h2 => ?_, fun r h1 h2 => ?_⟩
    · rcases Nat.lt_or_ge r b with hr | hr
      · exact (hle r h1 hr).trans e.le
      · exact hle' r hr h2
    · rcases Nat.lt_or_ge r b with hr | hr
      · exact (hle r h1 hr).trans_lt e
      · exact hlt' r hr h2
  · refine ⟨p, ha, by omega, rfl, rfl, fun r h1 h2 => ?_, hlt⟩
    rcases Nat.lt_or_ge r b with hr | hr
    · exact hle r h1 hr
    · exact (hle' r hr h2).trans (not_lt.1 e)

/-- A fold of the maximum from the least value, over the places of an interval. -/
theorem fold_max_best {ι : Type} {s : Finset ι} {f : ι → EReal} {v : EReal} (hle : ∀ k ∈ s, f k ≤ v) (hmem : ∃ k ∈ s, f k = v) :
    s.fold max ⊥ f = v := by
  apply le_antisymm
  · exact Finset.fold_max_le _ |>.2 ⟨bot_le, hle⟩
  · obtain ⟨k, hk, e⟩ := hmem
    exact (Finset.le_fold_max _).2 (.inr ⟨k, hk, e.ge⟩)

/-- A fold of the signed minimum is at most each of its words, and one of them. -/
theorem fold_min {ι : Type} [DecidableEq ι] (s : Finset ι) (f : ι → BitVec 32) (b : BitVec 32) :
    ((s.fold IntOp.minsi b f).toInt ≤ b.toInt ∧ ∀ k ∈ s, (s.fold IntOp.minsi b f).toInt ≤ (f k).toInt)
      ∧ (s.fold IntOp.minsi b f = b ∨ ∃ k ∈ s, s.fold IntOp.minsi b f = f k) := by
  induction s using Finset.induction_on with
  | empty => exact ⟨⟨le_refl _, fun k hk => absurd hk (Finset.notMem_empty k)⟩, .inl rfl⟩
  | insert x s hx ih =>
    obtain ⟨⟨h1, h2⟩, h3⟩ := ih
    rw [Finset.fold_insert hx]
    unfold IntOp.minsi at *
    simp only [BitVec.slt_eq_decide, decide_eq_true_eq] at *
    split_ifs with e
    · refine ⟨⟨by omega, fun k hk => ?_⟩, .inr ⟨x, Finset.mem_insert_self _ _, rfl⟩⟩
      rcases Finset.mem_insert.1 hk with rfl | hk
      · exact le_refl _
      · have := h2 k hk; omega
    · refine ⟨⟨h1, fun k hk => ?_⟩, h3.imp id fun ⟨k, hk, e⟩ => ⟨k, Finset.mem_insert_of_mem hk, e⟩⟩
      rcases Finset.mem_insert.1 hk with rfl | hk
      · omega
      · exact h2 k hk

/-- A number below 2³¹ as a word, read signed. -/
theorem toInt_word {n : ℕ} (h : n < 2147483648) : (BitVec.ofNat 32 n).toInt = n := by
  rw [BitVec.toInt_eq_toNat_cond, BitVec.toNat_ofNat, Nat.mod_eq_of_lt (by omega), if_pos (by omega)]

/-- What a block of 256 numbers computes: the largest value, and the least of the numbers that have it, the others being replaced by a
    word above them all. -/
theorem block_best (o : ℕ → EReal) (a : ℕ) (ha : a + 256 ≤ 5120) (f : Fin 256 → EReal) (hf : ∀ k, f k = o (a + k.val)) (g : Fin 256 → BitVec 32)
    (hg : ∀ k, g k = if f k = Finset.univ.fold max ⊥ f then BitVec.ofNat 32 (a + k.val) else 1073741824#32) :
    IsBest o a (a + 256) (Finset.univ.fold max ⊥ f) (Finset.univ.fold IntOp.minsi 2147483647#32 g) := by
  obtain ⟨p, h1, h2, h3, h4⟩ := exists_best o (show a < a + 256 by omega)
  have hp : o p = f ⟨p - a, by omega⟩ := by rw [hf]; congr 1; simp only; omega
  have e : Finset.univ.fold max ⊥ f = o p :=
    fold_max_best (fun k _ => by rw [hf]; exact h3 _ (by omega) (by have := k.isLt; omega)) ⟨⟨p - a, by omega⟩, Finset.mem_univ _, hp.symm⟩
  refine ⟨p, h1, h2, ?_, e.symm, fun q hq hq' => e ▸ h3 q hq hq', fun q hq hq' => e ▸ h4 q hq hq'⟩
  have hgp : g ⟨p - a, by omega⟩ = BitVec.ofNat 32 p := by
    rw [hg, if_pos (by rw [e, hp])]; congr 1; simp only; omega
  obtain ⟨⟨m1, m2⟩, m3⟩ := fold_min Finset.univ g 2147483647#32
  have mp := m2 ⟨p - a, by omega⟩ (Finset.mem_univ _)
  rw [hgp, toInt_word (by omega)] at mp
  rcases m3 with m3 | ⟨k, _, m3⟩
  · rw [m3] at mp
    have : (2147483647#32).toInt = 2147483647 := by decide
    omega
  · rw [m3, hg] at mp ⊢
    have hk := k.isLt
    split_ifs at mp ⊢ with hh
    · rw [toInt_word (by omega)] at mp
      rw [e, hf] at hh
      rcases lt_trichotomy (a + k.val) p with hlt | heq | hgt
      · exact absurd hh (h4 _ (by omega) hlt).ne
      · rw [heq]
      · omega
    · have : (1073741824#32).toInt = 1073741824 := by decide
      omega

end Cert.Proof.BestMatch

end
-- ==== Proof.MatchRun.lean ====
/-
  The run of the best-match call over the extended reals (`BestMatchIdeal`). After grid point `t` the first row of each result block
  holds the best overlap, and the previous box that has it, among the boxes of the blocks up to `t`. The other rows of a result
  block are never written, so the proof data hold a result block to a predicate on its first row.
-/
module

public import proofs.«01_k».proof.Proof.Gen.BestMatchIdeal.Frame
public import proofs.«01_k».proof.Proof.Gen.BestMatchIdeal.Skeleton
public import Idealize.ShloMosaic.Lib.Pipeline.Frame
public import Idealize.ShloMosaic.Lib.Pipeline.DatRel
public import Idealize.ShloMosaic.Lib.Pipeline.ArrRel
public import Idealize.ShloMosaic.Lib.Pipeline.Value
public import Idealize.ShloMosaic.Lib.WritesUnit
public import Idealize.ShloMosaic.Lib.Tactic

@[expose] public section

noncomputable section

namespace Cert.BestMatchIdeal.Hand

open Cert.BestMatchIdeal Cert.BestMatchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## What one point computes -/

/-- The first row of a result block. -/
abbrev top {e : EltTy} (X : S8x5120.Idx → Elt F e) : S1x5120.Idx → Elt F e :=
  View.ld (Val := Elt F) X (Rect.unit (s := S8x5120) ![0, 0] S1x5120.size inb_S8x5120_S1x5120_0_0)

/-- The overlaps of a block of 256 previous boxes (`X2`) with all sub boxes (`X1`). -/
def overlaps (X1 : S8x5120.Idx → Elt F .f32) (X2 : S256x128.Idx → Elt F .f32) : FVec F S256x5120 .f32 :=
  k0_pay6 (View.ld X1 (Rect.unit (s := S8x5120) ![0, 0] S1x5120.size inb_S8x5120_S1x5120_0_0))
    (View.ld X1 (Rect.unit (s := S8x5120) ![1, 0] S1x5120.size inb_S8x5120_S1x5120_1_0))
    (View.ld X1 (Rect.unit (s := S8x5120) ![2, 0] S1x5120.size inb_S8x5120_S1x5120_2_0))
    (View.ld X1 (Rect.unit (s := S8x5120) ![3, 0] S1x5120.size inb_S8x5120_S1x5120_3_0))
    (View.ld X2 (Rect.unit (s := S256x128) ![0, 0] S256x128.size inb_S256x128_S256x128_0_0))

/-- The largest of the block's overlaps with each sub box. -/
def blockBest (X1 : S8x5120.Idx → Elt F .f32) (X2 : S256x128.Idx → Elt F .f32) : FVec F S1x5120 .f32 :=
  k0_pay7 (View.ld X1 (Rect.unit (s := S8x5120) ![0, 0] S1x5120.size inb_S8x5120_S1x5120_0_0))
    (View.ld X1 (Rect.unit (s := S8x5120) ![1, 0] S1x5120.size inb_S8x5120_S1x5120_1_0))
    (View.ld X1 (Rect.unit (s := S8x5120) ![2, 0] S1x5120.size inb_S8x5120_S1x5120_2_0))
    (View.ld X1 (Rect.unit (s := S8x5120) ![3, 0] S1x5120.size inb_S8x5120_S1x5120_3_0))
    (View.ld X2 (Rect.unit (s := S256x128) ![0, 0] S256x128.size inb_S256x128_S256x128_0_0))

/-- After a store of a first row, the first row is what was stored. -/
theorem top_stored {α : EltTy} {arg : Memref sig .tc .vmem S8x5120 α} (f : arg.view.ty.Contents (Elt F)) (w : S1x5120.Idx → Elt F α) :
    top (arg.view.read (Elt F) (arg.view.writes (Elt F) f [⟨Rect.unit (s := S8x5120) ![0, 0] S1x5120.size inb_S8x5120_S1x5120_0_0, w⟩])) = w := by
  funext j
  exact View.read_writes_cons_unit_of_mem arg.view f inb_S8x5120_S1x5120_0_0 w [] _ j rfl fun a => by
    show _ + 1 * (j a).val = _ + (j a).val
    rw [Nat.one_mul]; rfl

/-- The body at the first point: the first rows are the block's own. -/
theorem run_first (c : Dev nD) (i : grid0.Coords) (h1 : k0_cond1 i = 1#1) (h2 : ¬ k0_cond2 i = 1#1)
    (arg1 : Memref sig .tc .vmem S8x5120 .f32) (harg1 : arg1.IsWhole)
    (arg2 : Memref sig .tc .vmem S256x128 .f32) (harg2 : arg2.IsWhole) (arg3 : Memref sig .tc .vmem S8x5120 .f32) (harg3 : arg3.IsWhole)
    (arg4 : Memref sig .tc .vmem S8x5120 .i32) (harg4 : arg4.IsWhole) (X1 : S8x5120.Idx → Elt F .f32) (X2 : S256x128.Idx → Elt F .f32)
    (X3 : S8x5120.Idx → Elt F .f32) (X4 : S8x5120.Idx → Elt F .i32) (K : PUnit → sProp 𝕄) :
    iprop(owns (c : Thread nD τ) arg1 fullShare X1 ∗ owns (c : Thread nD τ) arg2 fullShare X2
        ∗ owns (c : Thread nD τ) arg3 fullShare X3 ∗ owns (c : Thread nD τ) arg4 fullShare X4
        ∗ (iprop(owns (c : Thread nD τ) arg1 fullShare X1 ∗ owns (c : Thread nD τ) arg2 fullShare X2
              ∗ (∃ Y, ⌜top Y = blockBest X1 X2⌝ ∗ owns (c : Thread nD τ) arg3 fullShare Y)
              ∗ (∃ Y, ⌜top Y = k0_pay1 (overlaps X1 X2) (blockBest X1 X2) (k0_pay8 i)⌝ ∗ owns (c : Thread nD τ) arg4 fullShare Y)) -∗ K ⟨⟩))
      ⊢ wp frame (wpE (defs₀ (F := F)) Variants.none c none) Set.univ
          (cc0__iou_body i arg1 harg1 arg2 harg2 arg3 harg3 arg4 harg4) K := by
  simp only [cc0__iou_body_eq_skeleton]; unfold cc0__iou_body_skel
  simp only [k0_part1_eq_skeleton]; unfold k0_part1_skel
  unfold owns
  iintro ⟨⟨%f1, %e1, H1⟩, ⟨%f2, %e2, H2⟩, ⟨%f3, %e3, H3⟩, ⟨%f4, %e4, H4⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists (arg3.view.read (Elt F) _); isplitr; swap
    · iexists _; isplitr; swap; · iexact H3
      ipureintro; rfl
    ipureintro; subst e1 e2
    refine (top_stored f3 _).trans ?_
    unfold blockBest; simp only [View.readAt_eq_ld]
  iexists (arg4.view.read (Elt F) _); isplitr; swap
  · iexists _; isplitr; swap; · iexact H4
    ipureintro; rfl
  ipureintro; subst e1 e2
  refine (top_stored f4 _).trans ?_
  unfold blockBest overlaps; simp only [View.readAt_eq_ld]

/-- The body at a later point: the first rows are the better of the block's own and the ones found. -/
theorem run_later (c : Dev nD) (i : grid0.Coords) (h1 : ¬ k0_cond1 i = 1#1) (h2 : k0_cond2 i = 1#1)
    (arg1 : Memref sig .tc .vmem S8x5120 .f32) (harg1 : arg1.IsWhole)
    (arg2 : Memref sig .tc .vmem S256x128 .f32) (harg2 : arg2.IsWhole) (arg3 : Memref sig .tc .vmem S8x5120 .f32) (harg3 : arg3.IsWhole)
    (arg4 : Memref sig .tc .vmem S8x5120 .i32) (harg4 : arg4.IsWhole) (X1 : S8x5120.Idx → Elt F .f32) (X2 : S256x128.Idx → Elt F .f32)
    (X3 : S8x5120.Idx → Elt F .f32) (X4 : S8x5120.Idx → Elt F .i32) (K : PUnit → sProp 𝕄) :
    iprop(owns (c : Thread nD τ) arg1 fullShare X1 ∗ owns (c : Thread nD τ) arg2 fullShare X2
        ∗ owns (c : Thread nD τ) arg3 fullShare X3 ∗ owns (c : Thread nD τ) arg4 fullShare X4
        ∗ (iprop(owns (c : Thread nD τ) arg1 fullShare X1 ∗ owns (c : Thread nD τ) arg2 fullShare X2
              ∗ (∃ Y, ⌜top Y = k0_pay4 (blockBest X1 X2) (top X3)⌝ ∗ owns (c : Thread nD τ) arg3 fullShare Y)
              ∗ (∃ Y, ⌜top Y = k0_pay5 (overlaps X1 X2) (blockBest X1 X2) (k0_pay8 i) (top X3) (top X4)⌝
                  ∗ owns (c : Thread nD τ) arg4 fullShare Y)) -∗ K ⟨⟩))
      ⊢ wp frame (wpE (defs₀ (F := F)) Variants.none c none) Set.univ
          (cc0__iou_body i arg1 harg1 arg2 harg2 arg3 harg3 arg4 harg4) K := by
  simp only [cc0__iou_body_eq_skeleton]; unfold cc0__iou_body_skel
  simp only [k0_part1_eq_skeleton]; unfold k0_part1_skel
  unfold owns
  iintro ⟨⟨%f1, %e1, H1⟩, ⟨%f2, %e2, H2⟩, ⟨%f3, %e3, H3⟩, ⟨%f4, %e4, H4⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists (arg3.view.read (Elt F) _); isplitr; swap
    · iexists _; isplitr; swap; · iexact H3
      ipureintro; rfl
    ipureintro; subst e1 e2 e3
    refine (top_stored f3 _).trans ?_
    unfold blockBest; simp only [View.readAt_eq_ld]
  iexists (arg4.view.read (Elt F) _); isplitr; swap
  · iexists _; isplitr; swap; · iexact H4
    ipureintro; rfl
  ipureintro; subst e1 e2 e3 e4
  refine (top_stored f4 _).trans ?_
  unfold blockBest overlaps; simp only [View.readAt_eq_ld]

/-! ## The proof data -/

/-- Grid point number `n`. -/
def pt (n : ℕ) : Fin cfg0.N := ⟨n % 20, lt_of_lt_of_eq (Nat.mod_lt _ (by decide)) N_0.symm⟩

theorem pt_val (t : Fin cfg0.N) : pt t.val = t := Fin.ext (Nat.mod_eq_of_lt (lt_of_lt_of_eq t.isLt N_0))

/-- The best overlaps among the first `n + 1` blocks. -/
def bestV (c : Dev nD) : ℕ → FVec F S1x5120 .f32
  | 0 => blockBest (iblk m c 0 (pt 0)) (iblk m c 1 (pt 0))
  | n + 1 => k0_pay4 (blockBest (iblk m c 0 (pt (n + 1))) (iblk m c 1 (pt (n + 1)))) (bestV c n)

/-- The previous boxes that have them. -/
def bestI (c : Dev nD) : ℕ → IVec S1x5120 32
  | 0 => k0_pay1 (overlaps (iblk m c 0 (pt 0)) (iblk m c 1 (pt 0))) (blockBest (iblk m c 0 (pt 0)) (iblk m c 1 (pt 0)))
      (k0_pay8 (grid0.coords (pt 0)))
  | n + 1 => k0_pay5 (overlaps (iblk m c 0 (pt (n + 1))) (iblk m c 1 (pt (n + 1))))
      (blockBest (iblk m c 0 (pt (n + 1))) (iblk m c 1 (pt (n + 1)))) (k0_pay8 (grid0.coords (pt (n + 1)))) (bestV m c n) (bestI c n)

/-- The two result windows are held to a predicate. -/
def marked : Fin 4 → Bool := fun | 0 => false | 1 => false | 2 => true | 3 => true

/-- What the first rows of the result windows are after point `t`. -/
def Rl (c : Dev nD) : (w : Fin cfg0.W) → Fin cfg0.N → ((cfg0.win w).block.Idx → Elt F (cfg0.win w).elt) → Prop := fun
  | 0 => fun _ _ => True
  | 1 => fun _ _ => True
  | 2 => fun t X => top (e := .f32) X = bestV m c t.val
  | 3 => fun t X => top (e := .i32) X = bestI m c t.val

/-- The proof data on core `c`: each array as the region finds it, each input's block left in place, nothing owed. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => Dat.unnamed (cfg := cfg0) 2 t
    | 3 => fun t => Dat.unnamed (cfg := cfg0) 3 t
  Φ _ := Pipeline.ΦA spec0 c
  q _ := fullShare
  owed _ := 0

theorem A_eq (c : Dev nD) (w : Fin cfg0.W) : (dats m 0 c).A w = V m c (Pipeline.arrRef spec0 w) := by dsimp only [dats]

/-- The data with the result windows held to `Rl`. -/
abbrev rdat (c : Dev nD) := (dats (F := F) m 0 c).toRRel marked (Rl m c)

/-- The body table's row at point `t` is the body as `bodyAt0` spells it. -/
theorem defs₀_row (t : Fin cfg0.N) : defs₀ (F := F) .tc cfg0.body (cfg0.bodyArgs t (cfg0.slots t)) = bodyAt0 t := by
  unfold defs₀; rw [Defs.onTc_tc]

/-- Which branch a point takes. -/
theorem cond1_iff : ∀ t : Fin cfg0.N, k0_cond1 (grid0.coords t) = 1#1 ↔ t.val = 0 := by decide
theorem cond2_iff : ∀ t : Fin cfg0.N, k0_cond2 (grid0.coords t) = 1#1 ↔ t.val ≠ 0 := by decide
theorem nofetch2 : ∀ t : Fin cfg0.N, (cfg0.win 2).fetch t = false := by decide
theorem nofetch3 : ∀ t : Fin cfg0.N, (cfg0.win 3).fetch t = false := by decide

/-- At a later point a result window is found as the point before left it. -/
theorem finds2 (c : Dev nD) (t : Fin cfg0.N) (n : ℕ) (ht : t.val = n + 1) (Y) (h : (rdat m c).Finds 2 t Y) :
    top (e := .f32) Y = bestV m c n := by
  rw [(rdat m c).finds_of_pos (nofetch2 t) (by omega)] at h
  have hN : t.val < 20 := lt_of_lt_of_eq t.isLt N_0
  rcases h with h | h
  · rw [flush0_2] at h; simp only at h; omega
  · have := (dats m 0 c).toRRel_leaves (fgt := marked) (Rl := Rl m c) (w := 2) rfl h
    change top (e := .f32) Y = bestV m c (t.val - 1) at this
    rw [this, ht]; rfl

theorem finds3 (c : Dev nD) (t : Fin cfg0.N) (n : ℕ) (ht : t.val = n + 1) (Y) (h : (rdat m c).Finds 3 t Y) :
    top (e := .i32) Y = bestI m c n := by
  rw [(rdat m c).finds_of_pos (nofetch3 t) (by omega)] at h
  have hN : t.val < 20 := lt_of_lt_of_eq t.isLt N_0
  rcases h with h | h
  · rw [flush0_3] at h; simp only at h; omega
  · have := (dats m 0 c).toRRel_leaves (fgt := marked) (Rl := Rl m c) (w := 3) rfl h
    change top (e := .i32) Y = bestI m c (t.val - 1) at this
    rw [this, ht]; rfl

/-- What the body is handed at point `t` and what it hands back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ Y, ⌜(rdat m c).Finds 2 t Y⌝ ∗ owns (c : Thread nD τ) (st0_2 t) fullShare Y)
    ∗ (∃ Y, ⌜(rdat m c).Finds 3 t Y⌝ ∗ owns (c : Thread nD τ) (st0_3 t) fullShare Y))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t) ∗ owns (c : Thread nD τ) (st0_1 t) fullShare (iblk m c 1 t)
    ∗ (∃ X, ⌜top (e := .f32) X = bestV m c t.val⌝ ∗ owns (c : Thread nD τ) (st0_2 t) fullShare X)
    ∗ (∃ X, ⌜top (e := .i32) X = bestI m c t.val⌝ ∗ owns (c : Thread nD τ) (st0_3 t) fullShare X))

/-- The body at point `t`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, HO, ⟨%d0, H0⟩, ⟨%d1, H1⟩, ⟨%Y2, %h2, H2⟩, ⟨%Y3, %h3, H3⟩⟩
  rw [before0_0_of m (dats m 0 c) (A_eq m c 0) (fun _ => rfl), before0_1_of m (dats m 0 c) (A_eq m c 1) (fun _ => rfl)]
  have hpt := pt_val t
  rcases hn : t.val with _ | n
  · iapply (run_first c (grid0.coords t) ((cond1_iff t).mpr hn) (fun h => (cond2_iff t).mp h hn) (st0_0 t) _ (st0_1 t) _ (st0_2 t) _
      (st0_3 t) _ (iblk m c 0 t) (iblk m c 1 t) Y2 Y3 _)
    isplitl [H0]; · iexact H0
    isplitl [H1]; · iexact H1
    isplitl [H2]; · iexact H2
    isplitl [H3]; · iexact H3
    iintro ⟨H0, H1, ⟨%Z2, %e2, H2⟩, ⟨%Z3, %e3, H3⟩⟩
    isplitl [HΦ]; · iexact HΦ
    isplitl [HO]; · iexact HO
    isplitl [H0]; · iexact H0
    isplitl [H1]; · iexact H1
    rw [hn] at hpt
    isplitl [H2]
    · iexists Z2; isplitr; swap; · iexact H2
      ipureintro; rw [e2]; unfold bestV; rw [hpt]
    iexists Z3; isplitr; swap; · iexact H3
    ipureintro; rw [e3]; unfold bestI; rw [hpt]
  · iapply (run_later c (grid0.coords t) (fun h => by rw [cond1_iff, hn] at h; omega) ((cond2_iff t).mpr (by omega)) (st0_0 t) _ (st0_1 t) _
      (st0_2 t) _ (st0_3 t) _ (iblk m c 0 t) (iblk m c 1 t) Y2 Y3 _)
    isplitl [H0]; · iexact H0
    isplitl [H1]; · iexact H1
    isplitl [H2]; · iexact H2
    isplitl [H3]; · iexact H3
    iintro ⟨H0, H1, ⟨%Z2, %e2, H2⟩, ⟨%Z3, %e3, H3⟩⟩
    isplitl [HΦ]; · iexact HΦ
    isplitl [HO]; · iexact HO
    isplitl [H0]; · iexact H0
    isplitl [H1]; · iexact H1
    rw [hn] at hpt
    rw [finds2 m c t n hn Y2 h2] at e2 e3
    rw [finds3 m c t n hn Y3 h3] at e3
    isplitl [H2]
    · iexists Z2; isplitr; swap; · iexact H2
      ipureintro; rw [e2]; show _ = k0_pay4 _ _; rw [hpt]
    iexists Z3; isplitr; swap; · iexact H3
    ipureintro; rw [e3]; show _ = k0_pay5 _ _ _ _ _; rw [hpt]

/-- The pipeline's body obligation with the two result windows held to `Rl`. -/
theorem body_obligation (c : Dev nD) :
    BodyObligationRel (dats (F := F) m 0 c) (defs₀ (F := F)) Variants.none () Set.univ marked (Rl m c) := fun t => by
  rw [bigSep_W0, bigSep_W0, defs₀_row]
  exact triple_restated (sound_body m c t) rfl .rfl fun _ => .rfl

set_option backward.isDefEq.respectTransparency.types false in
/-- Every execution ends, each array at contents that the data admit and every semaphore at zero. -/
theorem run_main :
    θ_run defs (onTc (τ := τ) (main (F := F))) (s₀ m ρ)
      (fun r => Pipeline.RDat.FramePost (cfgs 0) (fun c => rdat m c) (V m) r ∧ r.2.sem = fun _ => 0) :=
  Pipeline.RDat.θ_run_frame (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

variable {m}

/-- After the run the two arguments hold what they held. -/
theorem kept {r : PUnit × MemSt nD τ sig (Elt F)} (h : Pipeline.RDat.FramePost (cfgs 0) (fun c => rdat m c) (V m) r) (c : Dev nD) :
    r.2.mem ((c : Thread nD τ).loc main_arg0) = m ((c : Thread nD τ).loc main_arg0)
      ∧ r.2.mem ((c : Thread nD τ).loc main_arg1) = m ((c : Thread nD τ).loc main_arg1) :=
  ⟨(h.arr_in c 0 rfl).trans (A_eq m c 0), (h.arr_in c 1 rfl).trans (A_eq m c 1)⟩

/-- After the run the first rows of the two results are what the last point leaves there. -/
theorem first_rows {r : PUnit × MemSt nD τ sig (Elt F)} (h : Pipeline.RDat.FramePost (cfgs 0) (fun c => rdat m c) (V m) r) (c : Dev nD) :
    top (F := F) (e := .f32) (r.2.mem ((c : Thread nD τ).loc main_v0_0)) = bestV m c 19
      ∧ top (F := F) (e := .i32) (r.2.mem ((c : Thread nD τ).loc main_v0_1)) = bestI m c 19 := by
  have hpt : (pt 19).val = 19 := rfl
  obtain ⟨X, hX, hA⟩ := h.exists_exact c
  have h2 := (dats m 0 c).toRRel_leaves (fgt := marked) (Rl := Rl m c) (w := 2) rfl (hX 2 (pt 19) (by decide +kernel))
  have h3 := (dats m 0 c).toRRel_leaves (fgt := marked) (Rl := Rl m c) (w := 3) rfl (hX 3 (pt 19) (by decide +kernel))
  have e2 : ∀ i : S8x5120.Idx, r.2.mem ((c : Thread nD τ).loc main_v0_0) i = X 2 (pt 19) i := fun i =>
    (congrFun (hA 2) i).trans (Pipeline.Dat.arrAt_emb_eq_after_last (cfg := cfg0) ((rdat m c).withAfter X) 2 (pt 19) (by decide +kernel) i)
  have e3 : ∀ i : S8x5120.Idx, r.2.mem ((c : Thread nD τ).loc main_v0_1) i = X 3 (pt 19) i := fun i =>
    (congrFun (hA 3) i).trans (Pipeline.Dat.arrAt_emb_eq_after_last (cfg := cfg0) ((rdat m c).withAfter X) 3 (pt 19) (by decide +kernel) i)
  exact ⟨(funext fun j => e2 _).trans h2, (funext fun j => e3 _).trans h3⟩

end Cert.BestMatchIdeal.Hand

end
-- ==== Proof.MatchReference.lean ====
/-
  The run of the best-match call's reference. It is host operations only, and its argument of the maximum is a reduction of two
  operands, the overlaps and their indices.
-/
module

public import proofs.«01_k».proof.Proof.Gen.BestMatchReferenceIdeal
public import Idealize.ShloMosaic.Lib.StableHlo.Run

@[expose] public section

noncomputable section

namespace Cert.BestMatchReferenceIdeal.Hand

open Cert.BestMatchReferenceIdeal Cert.BestMatchReferenceIdeal.Gen Idealize.ShloMosaic Idealize.ShloMosaic.TcCoe Idealize.SL.Sem
open Idealize.ShloMosaic.StableHlo

variable {F : FTy → Type} [FloatOps F]

/-- The indices that a two-operand reduction with the argument of the maximum for its body finds. -/
def argIndexOf {s t u : Shape} {axes : List (Fin s.rank)} (h : s.ReducesTo axes t) (hu : 0 < u.numel)
    (x : FVec F s .f32) (y : IVec s 32) (z : FVec F u .f32) (w : IVec u 32) : IVec t 32 :=
  fun j => (Host.argReduce reducer_argmax_f32_i32 x y z w h hu j).2

/-- The index of the largest element of each row. -/
def argIndex (x : FVec F S5120x5120 .f32) (y : IVec S5120x5120 32) (u : FVec F S_ .f32) (v : IVec S_ 32) : IVec S5120 32 :=
  argIndexOf reducesTo_S5120x5120_S5120_d1 h_S_ x y u v

/-- One coordinate of the sub boxes, as a column. -/
abbrev subCol (o : Fin 2 → ℕ) (h : S5120x4.Slices o S5120x1) (X : FVec F S8x5120 .f32) : FVec F S5120x1 .f32 :=
  extractStridedSlice S5120x1 o (transpose S5120x4 [1, 0] (extractStridedSlice S4x5120 ![0, 0] X slices_S8x5120_S4x5120_0_0)
    transposes_S4x5120_S5120x4_1_0) h

/-- One coordinate of the previous boxes, as a row. -/
abbrev prevRow (o : Fin 2 → ℕ) (h : S5120x4.Slices o S5120x1) (Y : FVec F S5120x128 .f32) : FVec F S1x5120 .f32 :=
  broadcastInDim S1x5120 ![1] bcast_S5120_S1x5120_1
    (shapeCast S5120 (extractStridedSlice S5120x1 o (extractStridedSlice S5120x4 ![0, 0] Y slices_S5120x128_S5120x4_0_0) h)
      shapeCasts_S5120x1_S5120)

/-- A column, and a row, over the whole table. -/
abbrev acrossCol (x : FVec F S5120x1 .f32) : FVec F S5120x5120 .f32 := broadcastInDim S5120x5120 ![0, 1] bcast_S5120x1_S5120x5120_0_1 x
abbrev acrossRow (x : FVec F S1x5120 .f32) : FVec F S5120x5120 .f32 := broadcastInDim S5120x5120 ![0, 1] bcast_S1x5120_S5120x5120_0_1 x

/-- The area that each sub box shares with each previous box. -/
def common (X : FVec F S8x5120 .f32) (Y : FVec F S5120x128 .f32) : FVec F S5120x5120 .f32 :=
  mulf
    (maximumf (subf (minimumf (acrossCol (subCol ![0, 2] slices_S5120x4_S5120x1_0_2 X)) (acrossRow (prevRow ![0, 2] slices_S5120x4_S5120x1_0_2 Y)))
        (maximumf (acrossCol (subCol ![0, 0] slices_S5120x4_S5120x1_0_0 X)) (acrossRow (prevRow ![0, 0] slices_S5120x4_S5120x1_0_0 Y))))
      (broadcastInDim S5120x5120 ![] bcast_S_S5120x5120 (constant S_ .f32 0x00000000#32)))
    (maximumf (subf (minimumf (acrossCol (subCol ![0, 3] slices_S5120x4_S5120x1_0_3 X)) (acrossRow (prevRow ![0, 3] slices_S5120x4_S5120x1_0_3 Y)))
        (maximumf (acrossCol (subCol ![0, 1] slices_S5120x4_S5120x1_0_1 X)) (acrossRow (prevRow ![0, 1] slices_S5120x4_S5120x1_0_1 Y))))
      (broadcastInDim S5120x5120 ![] bcast_S_S5120x5120 (constant S_ .f32 0x00000000#32)))

/-- The areas of a sub box and of a previous box, added. -/
def areas (X : FVec F S8x5120 .f32) (Y : FVec F S5120x128 .f32) : FVec F S5120x5120 .f32 :=
  addf
    (acrossCol (mulf (subf (subCol ![0, 2] slices_S5120x4_S5120x1_0_2 X) (subCol ![0, 0] slices_S5120x4_S5120x1_0_0 X))
      (subf (subCol ![0, 3] slices_S5120x4_S5120x1_0_3 X) (subCol ![0, 1] slices_S5120x4_S5120x1_0_1 X))))
    (acrossRow (mulf (subf (prevRow ![0, 2] slices_S5120x4_S5120x1_0_2 Y) (prevRow ![0, 0] slices_S5120x4_S5120x1_0_0 Y))
      (subf (prevRow ![0, 3] slices_S5120x4_S5120x1_0_3 Y) (prevRow ![0, 1] slices_S5120x4_S5120x1_0_1 Y))))

/-- The overlap of each sub box with each previous box. -/
def table (X : FVec F S8x5120 .f32) (Y : FVec F S5120x128 .f32) : FVec F S5120x5120 .f32 :=
  Host.divf (common X Y) (subf (areas X Y) (common X Y))

/-- The two results. -/
def best (X : FVec F S8x5120 .f32) (Y : FVec F S5120x128 .f32) : FVec F S8x5120 .f32 :=
  broadcastInDim S8x5120 ![0, 1] bcast_S1x5120_S8x5120_0_1 (broadcastInDim S1x5120 ![1] bcast_S5120_S1x5120_1
    (Host.reduce FloatOps.maximumf (table X Y) (constant S_ .f32 0xFF800000#32) reducesTo_S5120x5120_S5120_d1 h_S_))
def bestAt (X : FVec F S8x5120 .f32) (Y : FVec F S5120x128 .f32) : IVec S8x5120 32 :=
  broadcastInDim S8x5120 ![0, 1] bcast_S1x5120_S8x5120_0_1 (broadcastInDim S1x5120 ![1] bcast_S5120_S1x5120_1
    (argIndex (table X Y) (iotaInDim S5120x5120 32 1) (constant S_ .f32 0xFF800000#32) (constantI S_ 32 0#32)))

/-- The program's operations, in order. -/
abbrev ops : List (HloOp τ sig (Elt F)) :=
  [ unary main_arg0 main_v0 ((extractStridedSlice S4x5120 ![0, 0] · slices_S8x5120_S4x5120_0_0) : (⟨S8x5120, .f32⟩ : BufTy).Contents (Elt F) → (⟨S4x5120, .f32⟩ : BufTy).Contents (Elt F)),
    unary main_v0 main_v1 ((transpose S5120x4 [1, 0] · transposes_S4x5120_S5120x4_1_0) : (⟨S4x5120, .f32⟩ : BufTy).Contents (Elt F) → (⟨S5120x4, .f32⟩ : BufTy).Contents (Elt F)),
    unary main_arg1 main_v2 ((extractStridedSlice S5120x4 ![0, 0] · slices_S5120x128_S5120x4_0_0) : (⟨S5120x128, .f32⟩ : BufTy).Contents (Elt F) → (⟨S5120x4, .f32⟩ : BufTy).Contents (Elt F)),
    unary main_v1 main_v3 ((extractStridedSlice S5120x1 ![0, 0] · slices_S5120x4_S5120x1_0_0) : (⟨S5120x4, .f32⟩ : BufTy).Contents (Elt F) → (⟨S5120x1, .f32⟩ : BufTy).Contents (Elt F)),
    unary main_v1 main_v4 ((extractStridedSlice S5120x1 ![0, 1] · slices_S5120x4_S5120x1_0_1) : (⟨S5120x4, .f32⟩ : BufTy).Contents (Elt F) → (⟨S5120x1, .f32⟩ : BufTy).Contents (Elt F)),
    unary main_v1 main_v5 ((extractStridedSlice S5120x1 ![0, 2] · slices_S5120x4_S5120x1_0_2) : (⟨S5120x4, .f32⟩ : BufTy).Contents (Elt F) → (⟨S5120x1, .f32⟩ : BufTy).Contents (Elt F)),
    unary main_v1 main_v6 ((extractStridedSlice S5120x1 ![0, 3] · slices_S5120x4_S5120x1_0_3) : (⟨S5120x4, .f32⟩ : BufTy).Contents (Elt F) → (⟨S5120x1, .f32⟩ : BufTy).Contents (Elt F)),
    unary main_v2 main_v7 ((extractStridedSlice S5120x1 ![0, 0] · slices_S5120x4_S5120x1_0_0) : (⟨S5120x4, .f32⟩ : BufTy).Contents (Elt F) → (⟨S5120x1, .f32⟩ : BufTy).Contents (Elt F)),
    reshape main_v7 main_v8 (rfl : (.f32 : EltTy) = .f32) shapeCasts_S5120x1_S5120,
    unary main_v8 main_v9 (broadcastInDim S1x5120 ![1] bcast_S5120_S1x5120_1 : (⟨S5120, .f32⟩ : BufTy).Contents (Elt F) → (⟨S1x5120, .f32⟩ : BufTy).Contents (Elt F)),
    unary main_v2 main_v10 ((extractStridedSlice S5120x1 ![0, 1] · slices_S5120x4_S5120x1_0_1) : (⟨S5120x4, .f32⟩ : BufTy).Contents (Elt F) → (⟨S5120x1, .f32⟩ : BufTy).Contents (Elt F)),
    reshape main_v10 main_v11 (rfl : (.f32 : EltTy) = .f32) shapeCasts_S5120x1_S5120,
    unary main_v11 main_v12 (broadcastInDim S1x5120 ![1] bcast_S5120_S1x5120_1 : (⟨S5120, .f32⟩ : BufTy).Contents (Elt F) → (⟨S1x5120, .f32⟩ : BufTy).Contents (Elt F)),
    unary main_v2 main_v13 ((extractStridedSlice S5120x1 ![0, 2] · slices_S5120x4_S5120x1_0_2) : (⟨S5120x4, .f32⟩ : BufTy).Contents (Elt F) → (⟨S5120x1, .f32⟩ : BufTy).Contents (Elt F)),
    reshape main_v13 main_v14 (rfl : (.f32 : EltTy) = .f32) shapeCasts_S5120x1_S5120,
    unary main_v14 main_v15 (broadcastInDim S1x5120 ![1] bcast_S5120_S1x5120_1 : (⟨S5120, .f32⟩ : BufTy).Contents (Elt F) → (⟨S1x5120, .f32⟩ : BufTy).Contents (Elt F)),
    unary main_v2 main_v16 ((extractStridedSlice S5120x1 ![0, 3] · slices_S5120x4_S5120x1_0_3) : (⟨S5120x4, .f32⟩ : BufTy).Contents (Elt F) → (⟨S5120x1, .f32⟩ : BufTy).Contents (Elt F)),
    reshape main_v16 main_v17 (rfl : (.f32 : EltTy) = .f32) shapeCasts_S5120x1_S5120,
    unary main_v17 main_v18 (broadcastInDim S1x5120 ![1] bcast_S5120_S1x5120_1 : (⟨S5120, .f32⟩ : BufTy).Contents (Elt F) → (⟨S1x5120, .f32⟩ : BufTy).Contents (Elt F)),
    unary main_v3 main_v19 (broadcastInDim S5120x5120 ![0, 1] bcast_S5120x1_S5120x5120_0_1 : (⟨S5120x1, .f32⟩ : BufTy).Contents (Elt F) → (⟨S5120x5120, .f32⟩ : BufTy).Contents (Elt F)),
    unary main_v9 main_v20 (broadcastInDim S5120x5120 ![0, 1] bcast_S1x5120_S5120x5120_0_1 : (⟨S1x5120, .f32⟩ : BufTy).Contents (Elt F) → (⟨S5120x5120, .f32⟩ : BufTy).Contents (Elt F)),
    binary main_v19 main_v20 main_v21 (maximumf : (⟨S5120x5120, .f32⟩ : BufTy).Contents (Elt F) → (⟨S5120x5120, .f32⟩ : BufTy).Contents (Elt F) → (⟨S5120x5120, .f32⟩ : BufTy).Contents (Elt F)),
    unary main_v4 main_v22 (broadcastInDim S5120x5120 ![0, 1] bcast_S5120x1_S5120x5120_0_1 : (⟨S5120x1, .f32⟩ : BufTy).Contents (Elt F) → (⟨S5120x5120, .f32⟩ : BufTy).Contents (Elt F)),
    unary main_v12 main_v23 (broadcastInDim S5120x5120 ![0, 1] bcast_S1x5120_S5120x5120_0_1 : (⟨S1x5120, .f32⟩ : BufTy).Contents (Elt F) → (⟨S5120x5120, .f32⟩ : BufTy).Contents (Elt F)),
    binary main_v22 main_v23 main_v24 (maximumf : (⟨S5120x5120, .f32⟩ : BufTy).Contents (Elt F) → (⟨S5120x5120, .f32⟩ : BufTy).Contents (Elt F) → (⟨S5120x5120, .f32⟩ : BufTy).Contents (Elt F)),
    unary main_v5 main_v25 (broadcastInDim S5120x5120 ![0, 1] bcast_S5120x1_S5120x5120_0_1 : (⟨S5120x1, .f32⟩ : BufTy).Contents (Elt F) → (⟨S5120x5120, .f32⟩ : BufTy).Contents (Elt F)),
    unary main_v15 main_v26 (broadcastInDim S5120x5120 ![0, 1] bcast_S1x5120_S5120x5120_0_1 : (⟨S1x5120, .f32⟩ : BufTy).Contents (Elt F) → (⟨S5120x5120, .f32⟩ : BufTy).Contents (Elt F)),
    binary main_v25 main_v26 main_v27 (minimumf : (⟨S5120x5120, .f32⟩ : BufTy).Contents (Elt F) → (⟨S5120x5120, .f32⟩ : BufTy).Contents (Elt F) → (⟨S5120x5120, .f32⟩ : BufTy).Contents (Elt F)),
    unary main_v6 main_v28 (broadcastInDim S5120x5120 ![0, 1] bcast_S5120x1_S5120x5120_0_1 : (⟨S5120x1, .f32⟩ : BufTy).Contents (Elt F) → (⟨S5120x5120, .f32⟩ : BufTy).Contents (Elt F)),
    unary main_v18 main_v29 (broadcastInDim S5120x5120 ![0, 1] bcast_S1x5120_S5120x5120_0_1 : (⟨S1x5120, .f32⟩ : BufTy).Contents (Elt F) → (⟨S5120x5120, .f32⟩ : BufTy).Contents (Elt F)),
    binary main_v28 main_v29 main_v30 (minimumf : (⟨S5120x5120, .f32⟩ : BufTy).Contents (Elt F) → (⟨S5120x5120, .f32⟩ : BufTy).Contents (Elt F) → (⟨S5120x5120, .f32⟩ : BufTy).Contents (Elt F)),
    binary main_v27 main_v21 main_v31 (subf : (⟨S5120x5120, .f32⟩ : BufTy).Contents (Elt F) → (⟨S5120x5120, .f32⟩ : BufTy).Contents (Elt F) → (⟨S5120x5120, .f32⟩ : BufTy).Contents (Elt F)),
    nullary main_cst (constant S_ .f32 0x00000000#32),
    unary main_cst main_v32 (broadcastInDim S5120x5120 ![] bcast_S_S5120x5120 : (⟨S_, .f32⟩ : BufTy).Contents (Elt F) → (⟨S5120x5120, .f32⟩ : BufTy).Contents (Elt F)),
    binary main_v31 main_v32 main_v33 (maximumf : (⟨S5120x5120, .f32⟩ : BufTy).Contents (Elt F) → (⟨S5120x5120, .f32⟩ : BufTy).Contents (Elt F) → (⟨S5120x5120, .f32⟩ : BufTy).Contents (Elt F)),
    binary main_v30 main_v24 main_v34 (subf : (⟨S5120x5120, .f32⟩ : BufTy).Contents (Elt F) → (⟨S5120x5120, .f32⟩ : BufTy).Contents (Elt F) → (⟨S5120x5120, .f32⟩ : BufTy).Contents (Elt F)),
    nullary main_cst_0 (constant S_ .f32 0x00000000#32),
    unary main_cst_0 main_v35 (broadcastInDim S5120x5120 ![] bcast_S_S5120x5120 : (⟨S_, .f32⟩ : BufTy).Contents (Elt F) → (⟨S5120x5120, .f32⟩ : BufTy).Contents (Elt F)),
    binary main_v34 main_v35 main_v36 (maximumf : (⟨S5120x5120, .f32⟩ : BufTy).Contents (Elt F) → (⟨S5120x5120, .f32⟩ : BufTy).Contents (Elt F) → (⟨S5120x5120, .f32⟩ : BufTy).Contents (Elt F)),
    binary main_v33 main_v36 main_v37 (mulf : (⟨S5120x5120, .f32⟩ : BufTy).Contents (Elt F) → (⟨S5120x5120, .f32⟩ : BufTy).Contents (Elt F) → (⟨S5120x5120, .f32⟩ : BufTy).Contents (Elt F)),
    binary main_v5 main_v3 main_v38 (subf : (⟨S5120x1, .f32⟩ : BufTy).Contents (Elt F) → (⟨S5120x1, .f32⟩ : BufTy).Contents (Elt F) → (⟨S5120x1, .f32⟩ : BufTy).Contents (Elt F)),
    binary main_v6 main_v4 main_v39 (subf : (⟨S5120x1, .f32⟩ : BufTy).Contents (Elt F) → (⟨S5120x1, .f32⟩ : BufTy).Contents (Elt F) → (⟨S5120x1, .f32⟩ : BufTy).Contents (Elt F)),
    binary main_v38 main_v39 main_v40 (mulf : (⟨S5120x1, .f32⟩ : BufTy).Contents (Elt F) → (⟨S5120x1, .f32⟩ : BufTy).Contents (Elt F) → (⟨S5120x1, .f32⟩ : BufTy).Contents (Elt F)),
    binary main_v15 main_v9 main_v41 (subf : (⟨S1x5120, .f32⟩ : BufTy).Contents (Elt F) → (⟨S1x5120, .f32⟩ : BufTy).Contents (Elt F) → (⟨S1x5120, .f32⟩ : BufTy).Contents (Elt F)),
    binary main_v18 main_v12 main_v42 (subf : (⟨S1x5120, .f32⟩ : BufTy).Contents (Elt F) → (⟨S1x5120, .f32⟩ : BufTy).Contents (Elt F) → (⟨S1x5120, .f32⟩ : BufTy).Contents (Elt F)),
    binary main_v41 main_v42 main_v43 (mulf : (⟨S1x5120, .f32⟩ : BufTy).Contents (Elt F) → (⟨S1x5120, .f32⟩ : BufTy).Contents (Elt F) → (⟨S1x5120, .f32⟩ : BufTy).Contents (Elt F)),
    unary main_v40 main_v44 (broadcastInDim S5120x5120 ![0, 1] bcast_S5120x1_S5120x5120_0_1 : (⟨S5120x1, .f32⟩ : BufTy).Contents (Elt F) → (⟨S5120x5120, .f32⟩ : BufTy).Contents (Elt F)),
    unary main_v43 main_v45 (broadcastInDim S5120x5120 ![0, 1] bcast_S1x5120_S5120x5120_0_1 : (⟨S1x5120, .f32⟩ : BufTy).Contents (Elt F) → (⟨S5120x5120, .f32⟩ : BufTy).Contents (Elt F)),
    binary main_v44 main_v45 main_v46 (addf : (⟨S5120x5120, .f32⟩ : BufTy).Contents (Elt F) → (⟨S5120x5120, .f32⟩ : BufTy).Contents (Elt F) → (⟨S5120x5120, .f32⟩ : BufTy).Contents (Elt F)),
    binary main_v46 main_v37 main_v47 (subf : (⟨S5120x5120, .f32⟩ : BufTy).Contents (Elt F) → (⟨S5120x5120, .f32⟩ : BufTy).Contents (Elt F) → (⟨S5120x5120, .f32⟩ : BufTy).Contents (Elt F)),
    binary main_v37 main_v47 main_v48 (Host.divf : (⟨S5120x5120, .f32⟩ : BufTy).Contents (Elt F) → (⟨S5120x5120, .f32⟩ : BufTy).Contents (Elt F) → (⟨S5120x5120, .f32⟩ : BufTy).Contents (Elt F)),
    nullary main_cst_1 (constant S_ .f32 0xFF800000#32),
    binary main_v48 main_cst_1 main_v49 ((fun x v => Host.reduce FloatOps.maximumf x v reducesTo_S5120x5120_S5120_d1 h_S_) : (⟨S5120x5120, .f32⟩ : BufTy).Contents (Elt F) → (⟨S_, .f32⟩ : BufTy).Contents (Elt F) → (⟨S5120, .f32⟩ : BufTy).Contents (Elt F)),
    TRef.nullary main_call0.v0 (iotaInDim S5120x5120 32 1),
    TRef.nullary main_call0.cst (constant S_ .f32 0xFF800000#32),
    TRef.nullary main_call0.c (constantI S_ 32 0#32),
    TRef.quaternary (.of main_v48) main_call0.v0 main_call0.cst main_call0.c main_call0.v1_0 (fun x y u v j => (Host.argReduce reducer_argmax_f32_i32 x y u v reducesTo_S5120x5120_S5120_d1 h_S_ j).1),
    TRef.quaternary (.of main_v48) main_call0.v0 main_call0.cst main_call0.c main_call0.v1_1 argIndex,
    unary main_v49 main_v51 (broadcastInDim S1x5120 ![1] bcast_S5120_S1x5120_1 : (⟨S5120, .f32⟩ : BufTy).Contents (Elt F) → (⟨S1x5120, .f32⟩ : BufTy).Contents (Elt F)),
    unary main_v51 main_v52 (broadcastInDim S8x5120 ![0, 1] bcast_S1x5120_S8x5120_0_1 : (⟨S1x5120, .f32⟩ : BufTy).Contents (Elt F) → (⟨S8x5120, .f32⟩ : BufTy).Contents (Elt F)),
    unary main_v50 main_v53 (broadcastInDim S1x5120 ![1] bcast_S5120_S1x5120_1 : (⟨S5120, .i32⟩ : BufTy).Contents (Elt F) → (⟨S1x5120, .i32⟩ : BufTy).Contents (Elt F)),
    unary main_v53 main_v54 (broadcastInDim S8x5120 ![0, 1] bcast_S1x5120_S8x5120_0_1 : (⟨S1x5120, .i32⟩ : BufTy).Contents (Elt F) → (⟨S8x5120, .i32⟩ : BufTy).Contents (Elt F)) ]

set_option maxRecDepth 8192 in
theorem main_eq (c : Dev nD) : main (F := F) c = seq ops := rfl

theorem no_scoped_refs : (Finset.univ.filter fun b : Ref sig .tc => b.isScoped) = ∅ := by decide
theorem no_scoped_sems : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., unary_bufs_sub .., unary_bufs_sub .., binary_bufs_sub .., binary_bufs_sub .., binary_bufs_sub .., nullary_bufs_sub .., binary_bufs_sub .., nullary_bufs_sub .., nullary_bufs_sub .., nullary_bufs_sub .., quaternary_bufs_sub .., quaternary_bufs_sub .., unary_bufs_sub .., unary_bufs_sub .., unary_bufs_sub .., unary_bufs_sub ..⟩

set_option maxRecDepth 8192 in
set_option maxHeartbeats 2000000 in
/-- Every execution ends with the two results `best` and `bestAt` of the arguments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = best (m ((c.tc : Thread nD τ).loc main_arg0)) (m ((c.tc : Thread nD τ).loc main_arg1))
      ∧ r.2.mem ((c.tc : Thread nD τ).loc main_v54) = bestAt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v52).trans (by after_results_simp <;> rfl), (h c main_v54).trans (by after_results_simp <;> rfl),
      (h c main_arg0).trans (by after_results_simp <;> rfl), (h c main_arg1).trans (by after_results_simp <;> rfl)⟩)
    (run_seq no_scoped_refs no_scoped_sems defs main (fun _ => ops) main_eq (fun _ => ops_sub) m ρ)

end Cert.BestMatchReferenceIdeal.Hand

end
-- ==== Proof.MatchOverlap.lean ====
/-
  The overlap of a sub box with a previous box as one expression, which the kernel's block of overlaps and the reference's table both
  hold at their places.
-/
module

public import proofs.«01_k».proof.Proof.MatchRun
public import proofs.«01_k».proof.Proof.MatchReference
public import Idealize.ShloMosaic.Lib.Pointwise
public import Idealize.ShloMosaic.Lib.Pipeline.Value
public import Idealize.ShloMosaic.PureOps.Ideal.Laws

@[expose] public section

noncomputable section

namespace Cert.Proof.BestMatch

open Idealize.ShloMosaic Idealize.ShloMosaic.TcCoe Idealize.SL.Sem
open Cert.BestMatchIdeal.Hand (overlaps)
open Cert.BestMatchReferenceIdeal.Hand (table)

/-- The overlap of two boxes given by their corners. -/
def overlap (a b c d a' b' c' d' : EReal) : EReal :=
  Ideal.div (max (min c c' - max a a') 0 * max (min d d' - max b b') 0)
    (((c - a) * (d - b) + (c' - a') * (d' - b'))
      - max (min c c' - max a a') 0 * max (min d d' - max b b') 0)

theorem overlaps_at (X : FVec Ideal Cert.BestMatchIdeal.S8x5120 .f32) (Y : FVec Ideal Cert.BestMatchIdeal.S256x128 .f32) (k : Fin 256) (s : Fin 5120) :
    (overlaps X Y (ix2 k s) : Ideal .f32) = overlap (X (ix2 0 s)) (X (ix2 1 s)) (X (ix2 2 s)) (X (ix2 3 s)) (Y (ix2 k 0)) (Y (ix2 k 1)) (Y (ix2 k 2)) (Y (ix2 k 3)) := by
  unfold overlaps Cert.BestMatchIdeal.Gen.k0_pay6
  simp only [View.ld_unit]
  pointwise
  rfl

theorem table_at (X : FVec Ideal Cert.BestMatchReferenceIdeal.S8x5120 .f32) (Y : FVec Ideal Cert.BestMatchReferenceIdeal.S5120x128 .f32) (s p : Fin 5120) :
    table X Y (ix2 s p) = overlap (X (ix2 0 s)) (X (ix2 1 s)) (X (ix2 2 s)) (X (ix2 3 s)) (Y (ix2 p 0)) (Y (ix2 p 1)) (Y (ix2 p 2)) (Y (ix2 p 3)) := by
  unfold table Cert.BestMatchReferenceIdeal.Hand.common Cert.BestMatchReferenceIdeal.Hand.areas
  pointwise
  rfl

end Cert.Proof.BestMatch

end
-- ==== Proof.MatchArg.lean ====
/-
  The first rows of the best-match call's reference hold the best previous box of each sub box: its maximum is a fold over a row of the
  table of overlaps, and its argument of the maximum a fold of pairs, in which the lesser index wins among equal values.
-/
module

public import proofs.«01_k».proof.Proof.MatchBest
public import proofs.«01_k».proof.Proof.MatchOverlap

@[expose] public section

noncomputable section

namespace Cert.Proof.BestMatch

open Idealize.ShloMosaic
open Cert.BestMatchReferenceIdeal
open Cert.BestMatchReferenceIdeal.Hand (table best bestAt argIndex argIndexOf)

/-- The overlap of sub box `s` with previous box `p`. -/
def ov (X : FVec Ideal S8x5120 .f32) (Y : FVec Ideal S5120x128 .f32) (s : Fin 5120) (p : ℕ) : EReal :=
  if h : p < 5120 then Cert.BestMatchReferenceIdeal.Hand.table X Y (ix2 s ⟨p, h⟩) else ⊥

/-- The least value. -/
theorem bottom : Ideal.ofBits FTy.f32 4286578688#32 = ⊥ := by
  simp [Ideal.ofBits, Ideal.ieee]

/-- What the two-operand reduction holds after the numbers in `S`: the best of them, or still what it began with. -/
def Holds (o : ℕ → EReal) (S : ℕ → Prop) (r : EReal × BitVec 32) : Prop :=
  ∃ p, p < 5120 ∧ r.2 = BitVec.ofNat 32 p ∧ (∀ q, S q → o q < r.1 ∨ (o q = r.1 ∧ p ≤ q)) ∧ ((S p ∧ o p = r.1) ∨ (r.1 = ⊥ ∧ p = 0))

/-- One step of that reduction on extended reals. -/
theorem reducer_eq (a b : EReal × BitVec 32) :
    reducer_argmax_f32_i32 (F := Ideal) a b = (if b.1 < a.1 then a.1 else b.1, if b.1 < a.1 ∨ (a.1 = b.1 ∧ a.2.toInt < b.2.toInt) then a.2 else b.2) := by
  simp only [reducer_argmax_f32_i32, Ideal.cmpf_def, Ideal.cmp, Scalar.select, IntOp.ori, IntOp.andi, IntOp.cmpi, BitVec.slt_eq_decide]
  by_cases h1 : b.1 < a.1 <;> by_cases h2 : a.1 = b.1 <;> by_cases h3 : a.2.toInt < b.2.toInt <;> simp [h1, h2, h3]

theorem Holds.step {o : ℕ → EReal} {S : ℕ → Prop} {r : EReal × BitVec 32} (h : Holds o S r) {q : ℕ} (hq : q < 5120) :
    Holds o (fun n => S n ∨ n = q) (reducer_argmax_f32_i32 (F := Ideal) r (o q, BitVec.ofNat 32 q)) := by
  obtain ⟨v, i⟩ := r
  obtain ⟨p, hp, rfl, hS, hv⟩ := h
  simp only at hS hv
  rw [reducer_eq]
  simp only [toInt_word (show p < 2147483648 by omega), toInt_word (show q < 2147483648 by omega), Nat.cast_lt]
  rcases lt_trichotomy (o q) v with e | e | e
  · rw [if_pos e, if_pos (.inl e)]
    refine ⟨p, hp, rfl, fun n hn => ?_, hv.imp (fun h => ⟨.inl h.1, h.2⟩) id⟩
    rcases hn with hn | rfl
    · exact hS n hn
    · exact .inl e
  · rw [if_neg (by rw [e]; exact lt_irrefl _), e]
    by_cases hpq : p < q
    · rw [if_pos (.inr ⟨rfl, hpq⟩)]
      refine ⟨p, hp, rfl, fun n hn => ?_, hv.imp (fun h => ⟨.inl h.1, h.2⟩) id⟩
      rcases hn with hn | rfl
      · exact hS n hn
      · exact .inr ⟨e, hpq.le⟩
    · rw [if_neg (by simp [hpq])]
      refine ⟨q, hq, rfl, fun n hn => ?_, .inl ⟨.inr rfl, e⟩⟩
      rcases hn with hn | rfl
      · exact (hS n hn).imp id fun h => ⟨h.1, (not_lt.1 hpq).trans h.2⟩
      · exact .inr ⟨e, le_refl _⟩
  · rw [if_neg (not_lt.2 e.le), if_neg (by simp [not_lt.2 e.le, e.ne])]
    refine ⟨q, hq, rfl, fun n hn => ?_, .inl ⟨.inr rfl, rfl⟩⟩
    rcases hn with hn | rfl
    · rcases hS n hn with h | h
      · exact .inl (h.trans e)
      · exact .inl (h.1 ▸ e)
    · exact .inr ⟨rfl, le_refl _⟩

theorem Holds.fold {o : ℕ → EReal} (l : List ℕ) (hl : ∀ q ∈ l, q < 5120) {S : ℕ → Prop} {r : EReal × BitVec 32} (h : Holds o S r) :
    Holds o (fun n => S n ∨ n ∈ l) ((l.map fun q => (o q, BitVec.ofNat 32 q)).foldl (reducer_argmax_f32_i32 (F := Ideal)) r) := by
  induction l generalizing S r with
  | nil => simpa using h
  | cons q l ih =>
    have h' := ih (fun n hn => hl n (List.mem_cons_of_mem _ hn)) (h.step (hl q List.mem_cons_self))
    simpa only [List.mem_cons, or_assoc, List.map_cons, List.foldl_cons] using h'

/-- After all numbers it holds the best. -/
theorem Holds.isBest {o : ℕ → EReal} {S : ℕ → Prop} {r : EReal × BitVec 32} (h : Holds o S r) (hS : ∀ q, q < 5120 → S q) :
    IsBest o 0 5120 r.1 r.2 := by
  obtain ⟨p, hp, e, hle, hv⟩ := h
  refine ⟨p, Nat.zero_le _, hp, e, ?_, fun q _ hq => ?_, fun q _ hq => ?_⟩
  · rcases hv with hv | ⟨hv, rfl⟩
    · exact hv.2
    · rcases hle 0 (hS 0 hp) with h | h
      · rw [hv] at h; exact absurd h not_lt_bot
      · exact h.1
  · rcases hle q (hS q hq) with h | h
    · exact h.le
    · exact h.1.le
  · rcases hle q (hS q (hq.trans hp)) with h | h
    · exact h
    · omega

/-- The reduction over the indices in whatever order they are listed, those at the places `pos p` being kept. -/
theorem list_isBest {I : Type} {N : ℕ} (E : I ≃ Fin N) (pos : Fin 5120 → I) (col : I → Fin 5120) (hcol : ∀ p, col (pos p) = p)
    (o : ℕ → EReal) (x : I → EReal) (hx : ∀ p, x (pos p) = o p.val) (y : I → BitVec 32) (hy : ∀ p, y (pos p) = BitVec.ofNat 32 p.val)
    (r : EReal × BitVec 32) (hr : r = (⊥, 0#32)) (b : Fin N → Bool) (hb : ∀ n, b n = true ↔ ∃ p, E.symm n = pos p) :
    ∃ v, IsBest o 0 5120 v ((((List.finRange N).filter b).map fun n => (x (E.symm n), y (E.symm n))).foldl
      (reducer_argmax_f32_i32 (F := Ideal)) r).2 := by
  subst hr
  set L := (List.finRange N).filter b with hL
  have hmap : (L.map fun n => (x (E.symm n), y (E.symm n))) = (L.map fun n => (col (E.symm n)).val).map fun q => (o q, BitVec.ofNat 32 q) := by
    rw [List.map_map]
    refine List.map_congr_left fun n hn => ?_
    obtain ⟨p, hp⟩ := (hb n).1 (List.mem_filter.1 hn).2
    simp only [Function.comp, hp, hcol]
    exact Prod.ext (hx p) (hy p)
  rw [hmap]
  have hstart : Holds o (fun _ => False) ((⊥ : EReal), 0#32) := ⟨0, by omega, rfl, fun _ h => h.elim, .inr ⟨rfl, rfl⟩⟩
  have hend := hstart.fold (L.map fun n => (col (E.symm n)).val) (fun q hq => by
    obtain ⟨n, _, rfl⟩ := List.mem_map.1 hq
    exact (col (E.symm n)).isLt)
  exact ⟨_, hend.isBest fun q hq => .inr (List.mem_map.2 ⟨E (pos ⟨q, hq⟩),
    List.mem_filter.2 ⟨List.mem_finRange _, (hb _).2 ⟨⟨q, hq⟩, E.symm_apply_apply _⟩⟩,
    by rw [E.symm_apply_apply, hcol]⟩)⟩

theorem argIndexOf_isBest {s t u : Shape} {axes : List (Fin s.rank)} (h : s.ReducesTo axes t) (hu : 0 < u.numel) (j : t.Idx)
    (pos : Fin 5120 → s.Idx) (col : s.Idx → Fin 5120) (hcol : ∀ p, col (pos p) = p) (hdrop : ∀ i, h.drop i = j ↔ ∃ p, i = pos p)
    (o : ℕ → EReal) (x : FVec Ideal s .f32) (hx : ∀ p, (x (pos p) : Ideal .f32) = o p.val) (y : IVec s 32) (hy : ∀ p, y (pos p) = BitVec.ofNat 32 p.val)
    (z : FVec Ideal u .f32) (hz : ∀ j, (z j : Ideal .f32) = ⊥) (w : IVec u 32) (hw : ∀ j, w j = 0#32) :
    ∃ v, IsBest o 0 5120 v (argIndexOf h hu x y z w j) := by
  unfold argIndexOf
  rw [Ideal.argReduce_eq_reduce2, Host.reduce2_eq_foldl_fiber]
  exact list_isBest s.rowMajor pos col hcol o x hx y hy _ (Prod.ext (hz _) (hw _)) _ fun n => decide_eq_true_iff.trans (hdrop _)

theorem table_ov (X : FVec Ideal S8x5120 .f32) (Y : FVec Ideal S5120x128 .f32) (s p : Fin 5120) :
    (table X Y (ix2 s p) : Ideal .f32) = ov X Y s p.val := by unfold ov; rw [dif_pos p.isLt]

/-- The indices that go to element `s` of the result are row `s`. -/
theorem drop_at (s : Fin 5120) (i : S5120x5120.Idx) :
    Gen.facts.reducesTo_S5120x5120_S5120_d1.drop i = ix1 s ↔ ∃ p : Fin 5120, i = ix2 s p := by
  have hd : Gen.facts.reducesTo_S5120x5120_S5120_d1.drop i = ix1 (i 0) := by
    funext a; fin_cases a; rfl
  rw [hd]
  constructor
  · intro h
    refine ⟨i 1, ?_⟩
    have h0 := congrFun h 0
    funext a; fin_cases a
    · exact h0
    · rfl
  · rintro ⟨p, rfl⟩; rfl

theorem argIndex_isBest (o : ℕ → EReal) (s : Fin 5120) (x : FVec Ideal S5120x5120 .f32) (hx : ∀ p : Fin 5120, (x (ix2 s p) : Ideal .f32) = o p.val)
    (y : IVec S5120x5120 32) (hy : ∀ p : Fin 5120, y (ix2 s p) = BitVec.ofNat 32 p.val) (u : FVec Ideal S_ .f32) (hu : ∀ j, (u j : Ideal .f32) = ⊥)
    (w : IVec S_ 32) (hw : ∀ j, w j = 0#32) : ∃ v, IsBest o 0 5120 v (argIndex x y u w (ix1 s)) := by
  unfold argIndex
  exact argIndexOf_isBest Gen.facts.reducesTo_S5120x5120_S5120_d1 Gen.facts.h_S_ (ix1 s) (fun p => ix2 s p) (fun i => i 1) (fun _ => rfl) (drop_at s)
    o x hx y hy u hu w hw

/-- A vector over the sub boxes, broadcast to the result's rows. -/
theorem rows_at {α : Type} (z : S5120.Idx → α) (s : Fin 5120) :
    broadcastInDim S8x5120 ![0, 1] Gen.facts.bcast_S1x5120_S8x5120_0_1 (broadcastInDim S1x5120 ![1] Gen.facts.bcast_S5120_S1x5120_1 z) (ix2 0 s) = z (ix1 s) := by
  pointwise

theorem bestAt_isBest (X : FVec Ideal S8x5120 .f32) (Y : FVec Ideal S5120x128 .f32) (s : Fin 5120) :
    ∃ v, IsBest (ov X Y s) 0 5120 v (bestAt X Y (ix2 0 s)) := by
  rw [show bestAt X Y (ix2 0 s) = _ from rows_at _ s]
  exact argIndex_isBest (ov X Y s) s (table X Y) (table_ov X Y s) _ (fun _ => rfl) _ (fun _ => bottom) _ fun _ => rfl

theorem best_eq (X : FVec Ideal S8x5120 .f32) (Y : FVec Ideal S5120x128 .f32) (s : Fin 5120) :
    (best X Y (ix2 0 s) : Ideal .f32) = (Finset.univ : Finset (Fin 5120)).fold max ⊥ fun p => (table X Y (ix2 s p) : Ideal .f32) := by
  unfold best
  pointwise
  rw [bottom]

/-- The reference's first row holds the best previous box of each sub box. -/
theorem reference_isBest (X : FVec Ideal S8x5120 .f32) (Y : FVec Ideal S5120x128 .f32) (s : Fin 5120) :
    IsBest (ov X Y s) 0 5120 (best X Y (ix2 0 s) : Ideal .f32) (bestAt X Y (ix2 0 s)) := by
  obtain ⟨v, hv⟩ := bestAt_isBest X Y s
  have h : (best X Y (ix2 0 s) : Ideal .f32) = v := by
    obtain ⟨p, _, hp, _, e, hle, _⟩ := hv
    rw [best_eq]
    exact fold_max_best (fun k _ => (table_ov X Y s k).trans_le (hle _ (Nat.zero_le _) k.isLt))
      ⟨⟨p, hp⟩, Finset.mem_univ _, (table_ov X Y s ⟨p, hp⟩).trans e⟩
  rw [h]
  exact hv

end Cert.Proof.BestMatch

end
-- ==== Proof.MatchValue.lean ====
/-
  The first rows that the best-match call leaves hold the best previous box of each sub box, as its reference's do.
-/
module

public import proofs.«01_k».proof.Proof.MatchArg
public import proofs.«01_k».proof.Proof.MatchOverlap
public import Idealize.ShloMosaic.Lib.Pipeline.ValueKit

@[expose] public section

noncomputable section

namespace Cert.Proof.BestMatch

open Idealize.ShloMosaic Idealize.ShloMosaic.TcCoe Idealize.SL.Sem
open Cert.BestMatchIdeal Cert.BestMatchIdeal.Gen Cert.BestMatchIdeal.Hand

variable (m : (ℓ : Loc nD τ sig) → Buf (Elt Ideal) ℓ) (c : Dev nD)

/-- The boxes as the launch finds them. -/
abbrev subs : FVec Ideal S8x5120 .f32 := m ((c : Thread nD τ).loc main_arg0)
abbrev prevs : FVec Ideal S5120x128 .f32 := m ((c : Thread nD τ).loc main_arg1)

/-- The windows' block numbers and the points' coordinates. -/
theorem index0 : ∀ t : Fin cfg0.N, win0_0.index t 0 = 0 ∧ win0_0.index t 1 = 0 := by decide +kernel
theorem index1 : ∀ t : Fin cfg0.N, win0_1.index t 0 = t.val ∧ win0_1.index t 1 = 0 := by decide +kernel
theorem coord : ∀ t : Fin cfg0.N, (grid0.coords t 0).val = t.val := by decide +kernel

/-- The block of sub boxes is all of them, and the block of previous boxes at point `t` starts at number `256 t`. -/
theorem iblk0_at (t : Fin cfg0.N) (r : Fin 8) (s : Fin 5120) : iblk m c 0 t (ix2 r s) = subs m c (ix2 r s) := by
  have h := index0 t
  blk_ext [iblk] <;> omega

theorem iblk1_at (t : Fin cfg0.N) (k : Fin 256) (l : Fin 128) (h : 256 * t.val + k.val < 5120) :
    iblk m c 1 t (ix2 k l) = prevs m c (ix2 ⟨256 * t.val + k.val, h⟩ l) := by
  have h := index1 t
  blk_ext [iblk] <;> omega

theorem blockBest_at (X : FVec Ideal S8x5120 .f32) (Y : FVec Ideal S256x128 .f32) (s : Fin 5120) :
    (blockBest X Y (ix2 0 s) : Ideal .f32) = (Finset.univ : Finset (Fin 256)).fold max ⊥ fun k => (overlaps X Y (ix2 k s) : Ideal .f32) := by
  unfold blockBest k0_pay7
  pointwise
  rw [bottom]
  rfl

theorem blockIndex_at (x : FVec Ideal S256x5120 .f32) (b : FVec Ideal S1x5120 .f32) (g : IVec S256x5120 32) (s : Fin 5120) :
    k0_pay1 x b g (ix2 0 s) = (Finset.univ : Finset (Fin 256)).fold IntOp.minsi 2147483647#32
      fun k => if (x (ix2 k s) : EReal) = b (ix2 0 s) then g (ix2 k s) else 1073741824#32 := by
  unfold k0_pay1
  pointwise

theorem word_at (i : grid0.Coords) (k : Fin 256) (s : Fin 5120) : k0_pay8 i (ix2 k s) = BitVec.ofNat 32 (256 * (i 0).val + k.val) := by
  unfold k0_pay8
  pointwise
  apply BitVec.eq_of_toNat_eq
  simp only [IntOp.addi, Scalar.muli, IntOp.muli, BitVec.toNat_add, BitVec.toNat_mul, BitVec.toNat_ofNat]
  omega

theorem laterBest_at (b v : FVec Ideal S1x5120 .f32) (s : Fin 5120) :
    (k0_pay4 b v (ix2 0 s) : Ideal .f32) = if (v (ix2 0 s) : EReal) < b (ix2 0 s) then b (ix2 0 s) else v (ix2 0 s) := by
  unfold k0_pay4 k0_pay3 k0_pay2
  pointwise

theorem laterIndex_at (x : FVec Ideal S256x5120 .f32) (b : FVec Ideal S1x5120 .f32) (g : IVec S256x5120 32) (v : FVec Ideal S1x5120 .f32)
    (i : IVec S1x5120 32) (s : Fin 5120) :
    k0_pay5 x b g v i (ix2 0 s) = if (v (ix2 0 s) : EReal) < b (ix2 0 s) then k0_pay1 x b g (ix2 0 s) else i (ix2 0 s) := by
  unfold k0_pay5 k0_pay3 k0_pay2
  pointwise

/-- An overlap of the block at point `t`. -/
theorem overlap_block (t : Fin cfg0.N) (k : Fin 256) (s : Fin 5120) :
    (overlaps (F := Ideal) (iblk m c 0 t) (iblk m c 1 t) (ix2 k s) : Ideal .f32) = ov (subs m c) (prevs m c) s (256 * t.val + k.val) := by
  have ht : t.val < 20 := t.isLt
  have hk := k.isLt
  have h : 256 * t.val + k.val < 5120 := by omega
  unfold ov
  rw [dif_pos h, table_at]
  refine (overlaps_at _ _ k s).trans ?_
  rw [iblk0_at, iblk0_at, iblk0_at, iblk0_at, iblk1_at m c t k 0 h, iblk1_at m c t k 1 h, iblk1_at m c t k 2 h, iblk1_at m c t k 3 h]

/-- The best of the block at point `t`. -/
theorem block_isBest (t : Fin cfg0.N) (s : Fin 5120) :
    IsBest (ov (subs m c) (prevs m c) s) (256 * t.val) (256 * t.val + 256)
      (blockBest (F := Ideal) (iblk m c 0 t) (iblk m c 1 t) (ix2 0 s) : Ideal .f32)
      (k0_pay1 (F := Ideal) (overlaps (iblk m c 0 t) (iblk m c 1 t)) (blockBest (iblk m c 0 t) (iblk m c 1 t)) (k0_pay8 (grid0.coords t)) (ix2 0 s)) := by
  have ht : t.val < 20 := t.isLt
  rw [blockIndex_at]
  simp only [blockBest_at]
  exact block_best (ov (subs m c) (prevs m c) s) (256 * t.val) (by omega) _ (fun k => overlap_block m c t k s) _
    (fun k => by rw [word_at, coord])

/-- After point `n` the first rows hold the best of the first `n + 1` blocks. -/
theorem rows_isBest (s : Fin 5120) (n : ℕ) (hn : n < 20) :
    IsBest (ov (subs m c) (prevs m c) s) 0 (256 * (n + 1)) (bestV (F := Ideal) m c n (ix2 0 s) : Ideal .f32) (bestI (F := Ideal) m c n (ix2 0 s)) := by
  induction n with
  | zero => exact block_isBest m c (pt 0) s
  | succ n ih =>
    have h := (ih (by omega)).merge (c := 256 * (n + 1 + 1)) (by
      have hb := block_isBest m c (pt (n + 1)) s
      have e : (pt (n + 1)).val = n + 1 := Nat.mod_eq_of_lt hn
      rw [e] at hb
      exact hb)
    unfold bestV bestI
    rw [laterIndex_at]
    exact (laterBest_at _ _ s).symm ▸ h

open Cert.BestMatchReferenceIdeal.Hand (best bestAt)

/-- The first row of a result, read at an index. -/
theorem top_at {e : EltTy} (X : S8x5120.Idx → Elt Ideal e) (s : Fin 5120) : top (F := Ideal) X (ix2 0 s) = X (ix2 0 s) := by
  unfold top
  simp only [View.ld_unit]
  pointwise

/-- After the last point the first rows are the reference's. -/
theorem rows_eq (s : Fin 5120) :
    (bestV (F := Ideal) m c 19 (ix2 0 s) : Ideal .f32) = best (subs m c) (prevs m c) (ix2 0 s)
      ∧ bestI (F := Ideal) m c 19 (ix2 0 s) = bestAt (subs m c) (prevs m c) (ix2 0 s) :=
  (rows_isBest m c s 19 (by omega)).unique (reference_isBest _ _ s)

end Cert.Proof.BestMatch

end
-- ==== Proof.PaintReference.lean ====
/-
  The mask of the painting call's reference, named: the values that the items paint, where an item's box covers the picture, and the
  maximum over the items.
-/
module

public import proofs.«01_k».proof.Proof.Gen.PaintReferenceIdeal.Run
public import Idealize.ShloMosaic.Lib.Pointwise

@[expose] public section

set_option maxRecDepth 8192

noncomputable section

namespace Cert.PaintReferenceIdeal.Hand

open Cert.PaintReferenceIdeal Cert.PaintReferenceIdeal.Gen Idealize.ShloMosaic Idealize.ShloMosaic.TcCoe Idealize.SL.Sem

section Terms

variable {F : FTy → Type} [FloatOps F]

/-- One column of the items. -/
abbrev col (o : Fin 2 → ℕ) (h : S15360x128.Slices o S15360x1) (X : FVec F S15360x128 .f32) : FVec F S15360 .f32 :=
  shapeCast _ (extractStridedSlice S15360x1 o X h) shapeCasts_S15360x1_S15360

/-- One number for every item. -/
abbrev every (b : BitVec 32) : FVec F S15360 .f32 := broadcastInDim S15360 ![] bcast_S_S15360 (constant S_ .f32 b)
abbrev zeros : FVec F S15360 .f32 := broadcastInDim S15360 ![] bcast_S_S15360 (id (constant S_ .f32 0x00000000#32))

/-- Whether an item's number is below `n`. -/
abbrev below (n : BitVec 32) : IVec S15360 1 :=
  cmpi .slt (iotaInDim S15360 32 0) (broadcastInDim S15360 ![] bcast_S_S15360 (constantI S_ 32 n))

/-- The value that each item paints. -/
def values (X : FVec F S15360x128 .f32) : FVec F S15360 .f32 :=
  select (below 5120#32)
    (mulf (subf (every 0x3F800000#32) (col ![0, 4] slices_S15360x128_S15360x1_0_4 X)) (col ![0, 5] slices_S15360x128_S15360x1_0_5 X))
    (select (below 10240#32)
      (select (cmpf .ogt (col ![0, 4] slices_S15360x128_S15360x1_0_4 X) (every 0x00000000#32))
        (mulf (subf (every 0x3F800000#32) (col ![0, 4] slices_S15360x128_S15360x1_0_4 X)) (col ![0, 5] slices_S15360x128_S15360x1_0_5 X))
        zeros)
      (select (cmpf .olt (col ![0, 4] slices_S15360x128_S15360x1_0_4 X) (every 0x3F000000#32))
        (col ![0, 5] slices_S15360x128_S15360x1_0_5 X) zeros))

/-- A number of each item, as a block of one row and one column for each. -/
abbrev deep (x : FVec F S15360 .f32) : FVec F S15360x1x1 .f32 := broadcastInDim S15360x1x1 ![0] bcast_S15360_S15360x1x1_0 x

/-- The same down the rows, and along the columns. -/
abbrev down (x : FVec F S15360 .f32) : FVec F S15360x256x1 .f32 :=
  broadcastInDim S15360x256x1 ![0, 1, 2] bcast_S15360x1x1_S15360x256x1_0_1_2 (deep x)
abbrev along (x : FVec F S15360 .f32) : FVec F S15360x1x256 .f32 :=
  broadcastInDim S15360x1x256 ![0, 1, 2] bcast_S15360x1x1_S15360x1x256_0_1_2 (deep x)

/-- The row numbers, and the column numbers. -/
abbrev rowNo : FVec F S15360x256x1 .f32 := broadcastInDim S15360x256x1 ![0, 1, 2] bcast_S1x256x1_S15360x256x1_0_1_2
  (broadcastInDim S1x256x1 ![1] bcast_S256_S1x256x1_1 (sitofp .f32 (iotaInDim S256 32 0)))
abbrev colNo : FVec F S15360x1x256 .f32 := broadcastInDim S15360x1x256 ![0, 1, 2] bcast_S1x1x256_S15360x1x256_0_1_2
  (broadcastInDim S1x1x256 ![2] bcast_S256_S1x1x256_2 (sitofp .f32 (iotaInDim S256 32 0)))

/-- What each item paints at each place. -/
def table (X : FVec F S15360x128 .f32) : FVec F S15360x256x256 .f32 :=
  select
    (andi
      (andi
        (broadcastInDim S15360x256x256 ![0, 1, 2] bcast_S15360x256x1_S15360x256x256_0_1_2
          (andi (cmpf .oge rowNo (down (col ![0, 1] slices_S15360x128_S15360x1_0_1 X)))
            (cmpf .olt rowNo (down (col ![0, 3] slices_S15360x128_S15360x1_0_3 X)))))
        (broadcastInDim S15360x256x256 ![0, 1, 2] bcast_S15360x1x256_S15360x256x256_0_1_2
          (cmpf .oge colNo (along (col ![0, 0] slices_S15360x128_S15360x1_0_0 X)))))
      (broadcastInDim S15360x256x256 ![0, 1, 2] bcast_S15360x1x256_S15360x256x256_0_1_2
        (cmpf .olt colNo (along (col ![0, 2] slices_S15360x128_S15360x1_0_2 X)))))
    (broadcastInDim S15360x256x256 ![0, 1, 2] bcast_S15360x1x1_S15360x256x256_0_1_2 (deep (values X)))
    (broadcastInDim S15360x256x256 ![] bcast_S_S15360x256x256 (id (constant S_ .f32 0x00000000#32)))

/-- The mask. -/
def mask (X : FVec F S15360x128 .f32) : FVec F S256x256 .f32 :=
  maximumf (broadcastInDim S256x256 ![] bcast_S_S256x256 (constant S_ .f32 0x00000000#32))
    (Host.reduce FloatOps.maximumf (table X) (constant S_ .f32 0xFF800000#32) reducesTo_S15360x256x256_S256x256_d0 h_S_)

end Terms

/-- A coordinate of an item, by the item's number. -/
def item (X : FVec Ideal S15360x128 .f32) (n : ℕ) (l : Fin 128) : EReal := if h : n < 15360 then X (ix2 ⟨n, h⟩ l) else 0

theorem item_fin (X : FVec Ideal S15360x128 .f32) (n : Fin 15360) (l : Fin 128) : item X n.val l = X (ix2 n l) := dif_pos n.isLt

/-- The value that a box paints, that a best match paints, and that an unmatched previous box paints. -/
def boxValue (X : FVec Ideal S15360x128 .f32) (n : ℕ) : EReal := (1 - item X n 4) * item X n 5
def matchValue (X : FVec Ideal S15360x128 .f32) (n : ℕ) : EReal := if 0 < item X n 4 then (1 - item X n 4) * item X n 5 else 0
def prevValue (X : FVec Ideal S15360x128 .f32) (n : ℕ) : EReal :=
  if item X n 4 < Ideal.ofBits FTy.f32 0x3F000000#32 then item X n 5 else 0

/-- The value that item `n` paints. -/
def value (X : FVec Ideal S15360x128 .f32) (n : ℕ) : EReal :=
  if n < 5120 then boxValue X n else if n < 10240 then matchValue X n else prevValue X n

/-- A number of a row or a column, as an extended real. -/
def place (i : Fin 256) : EReal := FloatOps.sitofp (F := Ideal) FTy.f32 (BitVec.ofNat 32 i.val)

/-- Item `n` covers row `i`, and column `j`. -/
def covRow (X : FVec Ideal S15360x128 .f32) (n : ℕ) (i : Fin 256) : Prop := item X n 1 ≤ place i ∧ place i < item X n 3
def covCol (X : FVec Ideal S15360x128 .f32) (n : ℕ) (j : Fin 256) : Prop := item X n 0 ≤ place j ∧ place j < item X n 2

open Classical in
/-- What item `n` paints at row `i` and column `j`. -/
def paints (X : FVec Ideal S15360x128 .f32) (i j : Fin 256) (n : ℕ) : EReal :=
  if covRow X n i ∧ covCol X n j then value X n else 0

/-- The largest of zero and the first `n` values of `h`. -/
def top (h : ℕ → EReal) : ℕ → EReal
  | 0 => 0
  | n + 1 => max (top h n) (h n)

theorem top_le (h : ℕ → EReal) (x : EReal) (n : ℕ) : top h n ≤ x ↔ 0 ≤ x ∧ ∀ k < n, h k ≤ x := by
  induction n with
  | zero => simp [top]
  | succ n ih =>
    rw [top, max_le_iff, ih]
    constructor
    · rintro ⟨⟨h0, hk⟩, hn⟩
      refine ⟨h0, fun k hk' => ?_⟩
      rcases Nat.lt_succ_iff_lt_or_eq.1 hk' with h1 | rfl
      · exact hk k h1
      · exact hn
    · rintro ⟨h0, hk⟩
      exact ⟨⟨h0, fun k h1 => hk k (by omega)⟩, hk n (by omega)⟩

theorem top_nonneg (h : ℕ → EReal) (n : ℕ) : 0 ≤ top h n := ((top_le h _ n).1 le_rfl).1

/-- A fold of the maximum over all numbers below `N` is that. -/
theorem fold_eq_top (h : ℕ → EReal) (N : ℕ) : max 0 ((Finset.univ : Finset (Fin N)).fold max ⊥ fun n => h n.val) = top h N := by
  refine eq_of_forall_ge_iff fun x => ?_
  rw [max_le_iff, Finset.fold_max_le, top_le]
  constructor
  · rintro ⟨h0, -, hk⟩
    exact ⟨h0, fun k hN => hk ⟨k, hN⟩ (Finset.mem_univ _)⟩
  · rintro ⟨h0, hk⟩
    exact ⟨h0, bot_le, fun n _ => hk n.val n.isLt⟩

/-- A choice by two bits that both come of a proposition. -/
theorem select_and (p q : Prop) [Decidable p] [Decidable q] (x y : EReal) :
    Scalar.select (IntOp.andi (BitVec.ofBool (decide p)) (BitVec.ofBool (decide q))) x y = if p ∧ q then x else y := by
  by_cases hp : p <;> by_cases hq : q <;> simp [hp, hq, Scalar.select, IntOp.andi]

theorem andi_and (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem select_one (p : Prop) [Decidable p] (x y : EReal) : Scalar.select (BitVec.ofBool (decide p)) x y = if p then x else y := by
  by_cases hp : p <;> simp [hp, Scalar.select]

/-- Comparing the words of two small numbers compares the numbers. -/
theorem slt_iff (n k : ℕ) (hn : n < 20000) (hk : k < 20000) :
    IntOp.cmpi .slt (BitVec.ofNat 32 n) (BitVec.ofNat 32 k) = BitVec.ofBool (decide (n < k)) := by
  have e : ∀ a : ℕ, a < 20000 → (BitVec.ofNat 32 a).toInt = (a : ℤ) := fun a ha => by
    rw [BitVec.toInt_eq_toNat_of_lt (by rw [BitVec.toNat_ofNat]; omega), BitVec.toNat_ofNat]
    omega
  unfold IntOp.cmpi
  simp only [BitVec.slt, e n hn, e k hk, Nat.cast_lt]

theorem zero_at : (id (constant (F := Ideal) S_ .f32 0x00000000#32) ix0 : Ideal .f32) = (0 : EReal) := by
  show Ideal.ofBits FTy.f32 0x00000000#32 = 0
  simp [Ideal.ofBits, Ideal.ieee]

theorem bottom : Ideal.ofBits FTy.f32 4286578688#32 = ⊥ := by
  simp [Ideal.ofBits, Ideal.ieee]

theorem values_at (X : FVec Ideal S15360x128 .f32) (n : Fin 15360) : (values X (ix1 n) : Ideal .f32) = value X n.val := by
  have hn := n.isLt
  unfold values
  pointwise
  rw [slt_iff n.val 5120 (by omega) (by omega), slt_iff n.val 10240 (by omega) (by omega), select_one, select_one, zero_at]
  unfold value boxValue matchValue prevValue
  simp only [item_fin]

theorem table_at (X : FVec Ideal S15360x128 .f32) (n : Fin 15360) (i j : Fin 256) :
    (table X (ix3 n i j) : Ideal .f32) = paints X i j n.val := by
  unfold table
  pointwise
  rw [values_at, zero_at, andi_and, andi_and, select_and]
  unfold paints covRow covCol
  simp only [item_fin, place, and_assoc]

theorem reduce_at (z : FVec Ideal S15360x256x256 .f32) (i j : Fin 256) :
    (Host.reduce FloatOps.maximumf z (constant S_ .f32 0xFF800000#32) reducesTo_S15360x256x256_S256x256_d0 h_S_ (ix2 i j) : Ideal .f32)
      = (Finset.univ : Finset (Fin 15360)).fold max (Ideal.ofBits FTy.f32 4286578688#32) fun n => (z (ix3 n i j) : Ideal .f32) := by
  pointwise

theorem over_zero (w : FVec Ideal S256x256 .f32) (i j : Fin 256) :
    (maximumf (broadcastInDim S256x256 ![] bcast_S_S256x256 (constant S_ .f32 0x00000000#32)) w (ix2 i j) : Ideal .f32)
      = max (0 : EReal) (w (ix2 i j)) := by
  pointwise

/-- The mask, read at a place. -/
theorem mask_at (X : FVec Ideal S15360x128 .f32) (i j : Fin 256) : (mask X (ix2 i j) : Ideal .f32) = top (paints X i j) 15360 := by
  unfold mask
  rw [over_zero, reduce_at, bottom, ← fold_eq_top]
  simp only [table_at]

end Cert.PaintReferenceIdeal.Hand

end
-- ==== Proof.PaintLoops.lean ====
/-
  The mask that the painting call leaves: three loops of 640 trips each, a trip painting the next eight items over what the trips
  before it left.
-/
module

public import proofs.«01_k».proof.Proof.Gen.PaintIdeal.Value
public import proofs.«01_k».proof.Proof.Gen.PaintIdeal.Frame
public import proofs.«01_k».proof.Proof.PaintReference
public import Idealize.ShloMosaic.Lib.VecWindow
public import Idealize.ShloMosaic.Lib.Pipeline.ValueKit

@[expose] public section

noncomputable section

namespace Cert.Proof.Paint

open Idealize.ShloMosaic Idealize.ShloMosaic.TcCoe Idealize.SL.Sem
open Cert.PaintIdeal Cert.PaintIdeal.Gen
open Cert.PaintReferenceIdeal.Hand (item item_fin boxValue matchValue prevValue value place covRow covCol paints top top_nonneg select_and)

/-- The number that the kernel takes for infinity. -/
def large : EReal := Ideal.ofBits FTy.f32 0x4E6E6B28#32

theorem large_nonneg : 0 ≤ large := by
  unfold large
  simp [Ideal.ofBits, Ideal.ieee]
  rw [← EReal.coe_pow, ← EReal.coe_mul]
  exact EReal.coe_nonneg.2 (by norm_num)

/-- Cutting what is painted down the rows by what is painted along the columns paints the box, over a mask that is not negative. -/
theorem cut (M v : EReal) (A B : Prop) [Decidable A] [Decidable B] [Decidable (A ∧ B)] (hM : 0 ≤ M) (hv : v ≤ large) :
    max M (min (if A then v else 0) (if B then large else 0)) = max M (if A ∧ B then v else 0) := by
  by_cases hA : A <;> by_cases hB : B <;> simp only [hA, hB, if_true, if_false, and_true, true_and, and_false, false_and]
  · rw [min_eq_left hv]
  · rw [max_eq_left hM, max_eq_left ((min_le_right _ _).trans hM)]
  · rw [min_eq_left large_nonneg]
  · rw [min_self]

/-! ## One trip -/

/-- The row numbers that the kernel holds. -/
theorem lane_at (j : Fin 256) : (k0_pay16 (F := Ideal) (ix2 0 j) : Ideal .f32) = place j := by
  unfold k0_pay16 place
  pointwise

/-- The chain of eight that a trip ends with. -/
def eight (M : EReal) (y x : Fin 8 → EReal) : EReal :=
  max (max (max (max (max (max (max (max M (min (y 0) (x 0))) (min (y 1) (x 1))) (min (y 2) (x 2))) (min (y 3) (x 3))) (min (y 4) (x 4)))
    (min (y 5) (x 5))) (min (y 6) (x 6))) (min (y 7) (x 7))

/-- Eight items more. -/
theorem eight_eq (X : FVec Ideal S15360x128 .f32) (i j : Fin 256) (n : ℕ) (y x : Fin 8 → EReal)
    (hv : ∀ k : Fin 8, value X (n + k.val) ≤ large)
    (hy : ∀ k : Fin 8, y k = open Classical in if covRow X (n + k.val) i then value X (n + k.val) else 0)
    (hx : ∀ k : Fin 8, x k = open Classical in if covCol X (n + k.val) j then large else 0) :
    eight (top (paints X i j) n) y x = top (paints X i j) (n + 8) := by
  classical
  have key : ∀ k : Fin 8, max (top (paints X i j) (n + k.val)) (min (y k) (x k)) = top (paints X i j) (n + k.val + 1) := fun k => by
    rw [hy, hx]
    refine (cut _ _ _ _ (top_nonneg _ _) (hv k)).trans ?_
    rw [top]
    unfold paints
    congr
  unfold eight
  rw [show max (top (paints X i j) n) (min (y 0) (x 0)) = top (paints X i j) (n + 1) from key 0,
    show max (top (paints X i j) (n + 1)) (min (y 1) (x 1)) = top (paints X i j) (n + 2) from key 1,
    show max (top (paints X i j) (n + 2)) (min (y 2) (x 2)) = top (paints X i j) (n + 3) from key 2,
    show max (top (paints X i j) (n + 3)) (min (y 3) (x 3)) = top (paints X i j) (n + 4) from key 3,
    show max (top (paints X i j) (n + 4)) (min (y 4) (x 4)) = top (paints X i j) (n + 5) from key 4,
    show max (top (paints X i j) (n + 5)) (min (y 5) (x 5)) = top (paints X i j) (n + 6) from key 5,
    show max (top (paints X i j) (n + 6)) (min (y 6) (x 6)) = top (paints X i j) (n + 7) from key 6]
  exact key 7

section Steps

variable (L : FVec Ideal S1x256 .f32) (b : Ideal .f32) (x : FVec Ideal S8x128 .f32) (M : FVec Ideal S256x256 .f32)

/-- What a trip of each loop stores over the mask `M`, from the block `x` of items. -/
def step1 : FVec Ideal S256x256 .f32 := k0_pay17 (k0_pay2 L b x) (k0_pay3 L x) (k0_pay4 L b x M) (k0_pay5 L x) (k0_pay6 L b x)
def step2 : FVec Ideal S256x256 .f32 := k0_pay18 (k0_pay7 L b x) (k0_pay8 L x) (k0_pay9 L b x M) (k0_pay10 L x) (k0_pay11 L b x)
def step3 : FVec Ideal S256x256 .f32 := k0_pay19 (k0_pay12 L b x) (k0_pay13 L x) (k0_pay14 L b x M)

theorem step1_at (i j : Fin 256) : (step1 L b x M (ix2 i j) : Ideal .f32)
    = eight (M (ix2 i j)) (fun k => k0_pay3 L x (ix2 i k)) fun k => k0_pay2 L b x (ix2 k j) := by
  unfold step1 k0_pay17 k0_pay4 k0_pay5 k0_pay6 eight
  pointwise

theorem step2_at (i j : Fin 256) : (step2 L b x M (ix2 i j) : Ideal .f32)
    = eight (M (ix2 i j)) (fun k => k0_pay8 L x (ix2 i k)) fun k => k0_pay7 L b x (ix2 k j) := by
  unfold step2 k0_pay18 k0_pay9 k0_pay10 k0_pay11 eight
  pointwise

theorem step3_at (i j : Fin 256) : (step3 L b x M (ix2 i j) : Ideal .f32)
    = eight (M (ix2 i j)) (fun k => k0_pay13 L x (ix2 i k)) fun k => k0_pay12 L b x (ix2 k j) := by
  unfold step3 k0_pay19 k0_pay14 eight
  pointwise

end Steps

section Pieces

variable (X : FVec Ideal S15360x128 .f32) (x : FVec Ideal S8x128 .f32) (n : ℕ)
  (hx : ∀ (k : Fin 8) (l : Fin 128), (x (ix2 k l) : Ideal .f32) = item X (n + k.val) l) (k : Fin 8) (i j : Fin 256)
include hx

theorem cols1 : (k0_pay2 (F := Ideal) k0_pay16 large x (ix2 k j) : Ideal .f32)
    = open Classical in if covCol X (n + k.val) j then large else 0 := by
  unfold k0_pay2 covCol
  pointwise
  rw [select_and, lane_at, hx, hx]
  congr

theorem cols2 : (k0_pay7 (F := Ideal) k0_pay16 large x (ix2 k j) : Ideal .f32)
    = open Classical in if covCol X (n + k.val) j then large else 0 := by
  unfold k0_pay7 covCol
  pointwise
  rw [select_and, lane_at, hx, hx]
  congr

theorem cols3 : (k0_pay12 (F := Ideal) k0_pay16 large x (ix2 k j) : Ideal .f32)
    = open Classical in if covCol X (n + k.val) j then large else 0 := by
  unfold k0_pay12 covCol
  pointwise
  rw [select_and, lane_at, hx, hx]
  congr

theorem rows1 : (k0_pay3 (F := Ideal) k0_pay16 x (ix2 i k) : Ideal .f32)
    = open Classical in if covRow X (n + k.val) i then boxValue X (n + k.val) else 0 := by
  unfold k0_pay3 covRow boxValue
  pointwise
  rw [select_and, lane_at, hx, hx, hx, hx]
  congr

theorem rows2 : (k0_pay8 (F := Ideal) k0_pay16 x (ix2 i k) : Ideal .f32)
    = open Classical in if covRow X (n + k.val) i then matchValue X (n + k.val) else 0 := by
  unfold k0_pay8 covRow matchValue
  pointwise
  rw [select_and, lane_at, hx, hx, hx, hx]
  congr

theorem rows3 : (k0_pay13 (F := Ideal) k0_pay16 x (ix2 i k) : Ideal .f32)
    = open Classical in if covRow X (n + k.val) i then prevValue X (n + k.val) else 0 := by
  unfold k0_pay13 covRow prevValue
  pointwise
  rw [select_and, lane_at, hx, hx, hx, hx]
  congr

end Pieces

/-! ## The loops -/

section Loops

variable (c : Dev nD) (a0 : Memref sig .tc .vmem S15360x128 .f32) (h0 : a0.IsWhole) (a1 : Memref sig .tc .vmem S5120x128 .f32)
  (h1 : a1.IsWhole) (a2 : Memref sig .tc .vmem S5120x128 .f32) (h2 : a2.IsWhole) (a3 : Memref sig .tc .vmem S256x256 .f32)
  (h3 : a3.IsWhole) (a4 : Memref sig .tc .vmem S16x128 .f32) (h4 : a4.IsWhole) (X : FVec Ideal S15360x128 .f32)

/-- The eight items that a load at row `o` reads. -/
def block (o : Fin 2 → ℕ) (h : ∀ a, o a + S8x128.size a ≤ S15360x128.size a) : FVec Ideal S8x128 .f32 :=
  View.ld (Val := Elt Ideal) (e' := EltTy.f32) X (Rect.unit (s := S15360x128) o S8x128.size h)

theorem block_at (o : Fin 2 → ℕ) (h : ∀ a, o a + S8x128.size a ≤ S15360x128.size a) (n : ℕ) (ho : o = ![n, 0]) (k : Fin 8) (l : Fin 128) :
    (block X o h (ix2 k l) : Ideal .f32) = item X (n + k.val) l := by
  subst ho
  have hn : n + 8 ≤ 15360 := h 0
  have hk := k.isLt
  unfold block item
  rw [dif_pos (by omega)]
  simp only [View.ld_unit]
  pointwise

theorem trip1 (k : Fin k0_t1_loop.trips) (f : BufTy.Contents (Elt Ideal) a3.view.ty) :
    tripL_k0_t1 (F := Ideal) Variants.none c none a0 h0 a1 h1 a2 h2 a3 h3 a4 h4 large (h0.unread X) k f
      = [⟨Rect.unit ![0, 0] S256x256.size inb_S256x256_S256x256_0_0, step1 k0_pay16 large
          (a0.view.readAt (Elt Ideal) (Rect.unit (s := S15360x128) (k0_off1 k) S8x128.size (k0_off1_inb k)).toLoadRect (h0.unread X))
          (a3.view.readAt (Elt Ideal) (Rect.unit ![0, 0] S256x256.size inb_S256x256_S256x256_0_0).toLoadRect f)⟩] := by
  unfold tripL_k0_t1 trip_k0_t1
  dsimp only
  sl_unfold_words
  rfl

theorem trip2 (k : Fin k0_t2_loop.trips) (f : BufTy.Contents (Elt Ideal) a3.view.ty) :
    tripL_k0_t2 (F := Ideal) Variants.none c none a0 h0 a1 h1 a2 h2 a3 h3 a4 h4 large (h0.unread X) k f
      = [⟨Rect.unit ![0, 0] S256x256.size inb_S256x256_S256x256_0_0, step2 k0_pay16 large
          (a0.view.readAt (Elt Ideal) (Rect.unit (s := S15360x128) (k0_off2 k) S8x128.size (k0_off2_inb k)).toLoadRect (h0.unread X))
          (a3.view.readAt (Elt Ideal) (Rect.unit ![0, 0] S256x256.size inb_S256x256_S256x256_0_0).toLoadRect f)⟩] := by
  unfold tripL_k0_t2 trip_k0_t2
  dsimp only
  sl_unfold_words
  rfl

theorem trip3 (k : Fin k0_t3_loop.trips) (f : BufTy.Contents (Elt Ideal) a3.view.ty) :
    tripL_k0_t3 (F := Ideal) Variants.none c none a0 h0 a1 h1 a2 h2 a3 h3 a4 h4 large (h0.unread X) k f
      = [⟨Rect.unit ![0, 0] S256x256.size inb_S256x256_S256x256_0_0, step3 k0_pay16 large
          (a0.view.readAt (Elt Ideal) (Rect.unit (s := S15360x128) (k0_off3 k) S8x128.size (k0_off3_inb k)).toLoadRect (h0.unread X))
          (a3.view.readAt (Elt Ideal) (Rect.unit ![0, 0] S256x256.size inb_S256x256_S256x256_0_0).toLoadRect f)⟩] := by
  unfold tripL_k0_t3 trip_k0_t3
  dsimp only
  sl_unfold_words
  rfl

/-- The mask after a trip of the first loop, from the mask before it. -/
theorem after1 (G : BufTy.Contents (Elt Ideal) a3.view.ty) (k : Fin k0_t1_loop.trips) :
    a3.view.read (Elt Ideal) (a3.view.writes (Elt Ideal) G
        (pb_k0_t1 (F := Ideal) Variants.none c none a0 h0 a1 h1 a2 h2 a3 h3 a4 h4 large (h0.unread X) G (k.val + 1)))
      = step1 k0_pay16 large (block X (k0_off1 k) (k0_off1_inb k))
          (a3.view.read (Elt Ideal) (a3.view.writes (Elt Ideal) G
            (pb_k0_t1 (F := Ideal) Variants.none c none a0 h0 a1 h1 a2 h2 a3 h3 a4 h4 large (h0.unread X) G k.val))) := by
  rw [pb_k0_t1_succ, trip1, List.singleton_append]
  refine (View.read_writes_full a3.view G inb_S256x256_S256x256_0_0 _ _).trans ?_
  rw [View.readAt_full, View.readAt_eq_ld, h0.read_unread]
  rfl

theorem after2 (G : BufTy.Contents (Elt Ideal) a3.view.ty) (k : Fin k0_t2_loop.trips) :
    a3.view.read (Elt Ideal) (a3.view.writes (Elt Ideal) G
        (pb_k0_t2 (F := Ideal) Variants.none c none a0 h0 a1 h1 a2 h2 a3 h3 a4 h4 large (h0.unread X) G (k.val + 1)))
      = step2 k0_pay16 large (block X (k0_off2 k) (k0_off2_inb k))
          (a3.view.read (Elt Ideal) (a3.view.writes (Elt Ideal) G
            (pb_k0_t2 (F := Ideal) Variants.none c none a0 h0 a1 h1 a2 h2 a3 h3 a4 h4 large (h0.unread X) G k.val))) := by
  rw [pb_k0_t2_succ, trip2, List.singleton_append]
  refine (View.read_writes_full a3.view G inb_S256x256_S256x256_0_0 _ _).trans ?_
  rw [View.readAt_full, View.readAt_eq_ld, h0.read_unread]
  rfl

theorem after3 (G : BufTy.Contents (Elt Ideal) a3.view.ty) (k : Fin k0_t3_loop.trips) :
    a3.view.read (Elt Ideal) (a3.view.writes (Elt Ideal) G
        (pb_k0_t3 (F := Ideal) Variants.none c none a0 h0 a1 h1 a2 h2 a3 h3 a4 h4 large (h0.unread X) G (k.val + 1)))
      = step3 k0_pay16 large (block X (k0_off3 k) (k0_off3_inb k))
          (a3.view.read (Elt Ideal) (a3.view.writes (Elt Ideal) G
            (pb_k0_t3 (F := Ideal) Variants.none c none a0 h0 a1 h1 a2 h2 a3 h3 a4 h4 large (h0.unread X) G k.val))) := by
  rw [pb_k0_t3_succ, trip3, List.singleton_append]
  refine (View.read_writes_full a3.view G inb_S256x256_S256x256_0_0 _ _).trans ?_
  rw [View.readAt_full, View.readAt_eq_ld, h0.read_unread]
  rfl

variable (hX : ∀ n < 15360, value X n ≤ large)
include hX

/-- A mask that holds the largest value of the first `n` items. -/
def Holds (X : FVec Ideal S15360x128 .f32) (n : ℕ) (M : FVec Ideal S256x256 .f32) : Prop :=
  ∀ i j : Fin 256, (M (ix2 i j) : Ideal .f32) = top (paints X i j) n

theorem loop1 (G : BufTy.Contents (Elt Ideal) a3.view.ty) (hG : Holds X 0 (a3.view.read (Elt Ideal) G)) (k : ℕ) (hk : k ≤ 640) :
    Holds X (8 * k) (a3.view.read (Elt Ideal) (a3.view.writes (Elt Ideal) G
        (pb_k0_t1 (F := Ideal) Variants.none c none a0 h0 a1 h1 a2 h2 a3 h3 a4 h4 large (h0.unread X) G k))) := by
  induction k with
  | zero => exact hG
  | succ k ih =>
    intro i j
    have hk' : k < k0_t1_loop.trips := lt_of_lt_of_eq (show k < 640 by omega) (by decide +kernel)
    have ho : k0_off1 ⟨k, hk'⟩ = ![8 * k, 0] := k0_off1_eq ⟨k, hk'⟩
    rw [after1 c a0 h0 a1 h1 a2 h2 a3 h3 a4 h4 X G ⟨k, hk'⟩, step1_at, ih (by omega) i j]
    refine eight_eq X i j (8 * k) _ _ (fun q => hX _ (by have := q.isLt; omega)) (fun q => ?_)
      fun q => cols1 X _ (8 * k) (block_at X _ _ _ ho) q j
    rw [rows1 X _ (8 * k) (block_at X _ _ _ ho)]
    have hq : 8 * k + q.val < 5120 := by have := q.isLt; omega
    simp only [value, if_pos hq]

theorem loop2 (G : BufTy.Contents (Elt Ideal) a3.view.ty) (hG : Holds X 5120 (a3.view.read (Elt Ideal) G)) (k : ℕ) (hk : k ≤ 640) :
    Holds X (5120 + 8 * k) (a3.view.read (Elt Ideal) (a3.view.writes (Elt Ideal) G
        (pb_k0_t2 (F := Ideal) Variants.none c none a0 h0 a1 h1 a2 h2 a3 h3 a4 h4 large (h0.unread X) G k))) := by
  induction k with
  | zero => exact hG
  | succ k ih =>
    intro i j
    have hk' : k < k0_t2_loop.trips := lt_of_lt_of_eq (show k < 640 by omega) (by decide +kernel)
    have ho : k0_off2 ⟨k, hk'⟩ = ![5120 + 8 * k, 0] := (k0_off2_eq ⟨k, hk'⟩).trans (by simp [Nat.add_comm])
    rw [after2 c a0 h0 a1 h1 a2 h2 a3 h3 a4 h4 X G ⟨k, hk'⟩, step2_at, ih (by omega) i j]
    refine eight_eq X i j (5120 + 8 * k) _ _ (fun q => hX _ (by have := q.isLt; omega)) (fun q => ?_)
      fun q => cols2 X _ (5120 + 8 * k) (block_at X _ _ _ ho) q j
    rw [rows2 X _ (5120 + 8 * k) (block_at X _ _ _ ho)]
    have hq : 5120 + 8 * k + q.val < 10240 := by have := q.isLt; omega
    simp only [value, if_neg (show ¬5120 + 8 * k + q.val < 5120 by omega), if_pos hq]

theorem loop3 (G : BufTy.Contents (Elt Ideal) a3.view.ty) (hG : Holds X 10240 (a3.view.read (Elt Ideal) G)) (k : ℕ) (hk : k ≤ 640) :
    Holds X (10240 + 8 * k) (a3.view.read (Elt Ideal) (a3.view.writes (Elt Ideal) G
        (pb_k0_t3 (F := Ideal) Variants.none c none a0 h0 a1 h1 a2 h2 a3 h3 a4 h4 large (h0.unread X) G k))) := by
  induction k with
  | zero => exact hG
  | succ k ih =>
    intro i j
    have hk' : k < k0_t3_loop.trips := lt_of_lt_of_eq (show k < 640 by omega) (by decide +kernel)
    have ho : k0_off3 ⟨k, hk'⟩ = ![10240 + 8 * k, 0] := (k0_off3_eq ⟨k, hk'⟩).trans (by simp [Nat.add_comm])
    rw [after3 c a0 h0 a1 h1 a2 h2 a3 h3 a4 h4 X G ⟨k, hk'⟩, step3_at, ih (by omega) i j]
    refine eight_eq X i j (10240 + 8 * k) _ _ (fun q => hX _ (by have := q.isLt; omega)) (fun q => ?_)
      fun q => cols3 X _ (10240 + 8 * k) (block_at X _ _ _ ho) q j
    rw [rows3 X _ (10240 + 8 * k) (block_at X _ _ _ ho)]
    simp only [value, if_neg (show ¬10240 + 8 * k + q.val < 5120 by omega), if_neg (show ¬10240 + 8 * k + q.val < 10240 by omega)]

/-- The zero mask. -/
theorem start : Holds X 0 (k0_pay15 (F := Ideal)) := by
  intro i j
  unfold k0_pay15 top
  pointwise

/-- The body leaves the largest value of all the items at each place. -/
theorem body_mask (x1 x2 : FVec Ideal S5120x128 .f32) :
    Holds X 15360 (out0_A_3 (F := Ideal) c a0 h0 a1 h1 a2 h2 a3 h3 a4 h4 X x1 x2) := by
  unfold out0_A_3
  rw [View.read_writes_of_cover (Val := Elt Ideal) VO0_3 VO0_3.junk a3.view a3.view.junk _
    (cover0_A_3 c a0 h0 a1 h1 a2 h2 a3 h3 a4 h4 X x1 x2)]
  unfold kernelRun0_A
  dsimp only
  sl_unfold_words
  rw [View.writes_append]
  refine loop3 c a0 h0 a1 h1 a2 h2 a3 h3 a4 h4 X hX _ ?_ 640 le_rfl
  rw [View.writes_append]
  refine loop2 c a0 h0 a1 h1 a2 h2 a3 h3 a4 h4 X hX _ ?_ 640 le_rfl
  rw [View.writes_append]
  refine loop1 c a0 h0 a1 h1 a2 h2 a3 h3 a4 h4 X hX _ ?_ 640 le_rfl
  rw [View.read_writes_full]
  exact start X hX

end Loops

end Cert.Proof.Paint

end
-- ==== Proof.PaintValue.lean ====
/-
  The painting call's first array after the run: at every place the largest of zero and what the items paint there.
-/
module

public import proofs.«01_k».proof.Proof.PaintLoops
public import proofs.«01_k».proof.Proof.Gen.Pre_bounded
public import Idealize.ShloMosaic.Lib.Pointwise

@[expose] public section

noncomputable section

namespace Cert.Proof.Paint

open Idealize.ShloMosaic Idealize.ShloMosaic.TcCoe Idealize.SL.Sem
open Cert.PaintIdeal Cert.PaintIdeal.Gen
open Cert.PaintReferenceIdeal.Hand (item item_fin boxValue matchValue prevValue value paints top slt_iff select_one zero_at)

/-- The precondition, read item by item: no item paints more than the number that the kernel takes for infinity. -/
theorem values_le (X : FVec Ideal S15360x128 .f32) (Y Z : FVec Ideal S5120x128 .f32)
    (h : (Cert.Pre_bounded.fn (F := Ideal) X Y Z).1 = fun _ => 1#1) : ∀ n < 15360, value X n ≤ large := by
  intro n hn
  have e : (Cert.Pre_bounded.fn (F := Ideal) X Y Z).1
      = cmpf .ole (Cert.PaintReferenceIdeal.Hand.values X) (Cert.PaintReferenceIdeal.Hand.every 0x4E6E6B28#32) := rfl
  have hk := congrFun (e.symm.trans h) (ix1 ⟨n, hn⟩)
  revert hk
  pointwise
  rw [Cert.PaintReferenceIdeal.Hand.values_at]
  intro hk
  have one : ∀ b : Bool, BitVec.ofBool b = 1#1 → b = true := by decide
  exact of_decide_eq_true (one _ hk)

variable (m : (ℓ : Loc nD τ sig) → Buf (Elt Ideal) ℓ) (c : Dev nD)

/-- The items. -/
abbrev items : FVec Ideal S15360x128 .f32 := m ((c.tc : Thread nD τ).loc main_arg0)

theorem index0 : ∀ t : Fin cfg0.N, win0_0.index t 0 = 0 ∧ win0_0.index t 1 = 0 := by decide +kernel
theorem index3 : ∀ t : Fin cfg0.N, win0_3.index t 0 = 0 ∧ win0_3.index t 1 = 0 := by decide +kernel

/-- The block of items is all of them. -/
theorem block_items (t : Fin cfg0.N) : iblk m c 0 t = items m c := by
  funext i
  have e : ∀ (r : Fin 15360) (l : Fin 128), iblk m c 0 t (ix2 r l) = items m c (ix2 r l) := fun r l => by
    have h := index0 t
    blk_ext [iblk] <;> omega
  have hi : i = ix2 (i 0) (i 1) := by funext a; fin_cases a <;> rfl
  rw [hi]
  exact e (i 0) (i 1)

/-- The one point. -/
abbrev pt : Fin cfg0.N := ⟨0, by decide +kernel⟩

/-- The first array after the run. -/
theorem array_at (hX : ∀ n < 15360, value (items m c) n ≤ large) (i j : Fin 256) :
    ((dats m 0 c).arrAt 3 cfg0.N (ix2 i j) : Ideal .f32) = top (paints (items m c) i j) 15360 := by
  have hb := congrFun ((Cert.PaintIdeal.Value.blocks3 m c pt (by decide +kernel)).trans (Cert.PaintIdeal.Value.flushed3_A m c pt)) (ix2 i j)
  rw [block_items] at hb
  refine Eq.trans ?_ (hb.trans ?_)
  · have h := index3 pt
    blk_ext [] <;> omega
  · refine Eq.trans ?_ (body_mask c (ms0_0 pt) (hs0_0 pt) (ms0_1 pt) (hs0_1 pt) (ms0_2 pt) (hs0_2 pt) (ms0_3 pt) (hs0_3 pt) (ms0_4 pt) (hs0_4 pt)
      (items m c) hX (iblk m c 1 pt) (iblk m c 2 pt) i j)
    rfl

end Cert.Proof.Paint

end
-- ==== Proof.GridReference.lean ====
/-
  The grid of the painting call's reference, named: the cells that the boxes cover, the other boxes on them, the boxes that stand alone,
  and the maximum over the boxes.
-/
module

public import proofs.«01_k».proof.Proof.Gen.PaintReferenceIdeal.Run
public import Idealize.ShloMosaic.Lib.Pointwise

@[expose] public section

set_option maxRecDepth 8192

noncomputable section

namespace Cert.PaintReferenceIdeal.Grid

open Cert.PaintReferenceIdeal Cert.PaintReferenceIdeal.Gen Idealize.ShloMosaic Idealize.ShloMosaic.TcCoe Idealize.SL.Sem

section Terms

variable {F : FTy → Type} [FloatOps F]

/-- One column of a table of boxes. -/
abbrev col (o : Fin 2 → ℕ) (h : S5120x4.Slices o S5120x1) (X : FVec F S5120x4 .f32) : FVec F S5120 .f32 :=
  shapeCast _ (extractStridedSlice S5120x1 o X h) shapeCasts_S5120x1_S5120

/-- The same of the wide table. -/
abbrev wide (o : Fin 2 → ℕ) (h : S5120x128.Slices o S5120x1) (X : FVec F S5120x128 .f32) : FVec F S5120 .f32 :=
  shapeCast _ (extractStridedSlice S5120x1 o X h) shapeCasts_S5120x1_S5120

/-- One number for every box. -/
abbrev every (b : BitVec 32) : FVec F S5120 .f32 := broadcastInDim S5120 ![] bcast_S_S5120 (constant S_ .f32 b)

/-- The cell of a coordinate, and of the last place before it. -/
abbrev first (x : FVec F S5120 .f32) : FVec F S5120x1x1 .f32 :=
  broadcastInDim S5120x1x1 ![0] bcast_S5120_S5120x1x1_0 (Host.floor (Host.divf x (every 0x42000000#32)))
abbrev last (x : FVec F S5120 .f32) : FVec F S5120x1x1 .f32 :=
  broadcastInDim S5120x1x1 ![0] bcast_S5120_S5120x1x1_0 (Host.floor (Host.divf (subf x (every 0x3F800000#32)) (every 0x42000000#32)))

/-- The same down the rows, and along the columns. -/
abbrev down (x : FVec F S5120x1x1 .f32) : FVec F S5120x16x1 .f32 := broadcastInDim S5120x16x1 ![0, 1, 2] bcast_S5120x1x1_S5120x16x1_0_1_2 x
abbrev along (x : FVec F S5120x1x1 .f32) : FVec F S5120x1x16 .f32 := broadcastInDim S5120x1x16 ![0, 1, 2] bcast_S5120x1x1_S5120x1x16_0_1_2 x
abbrev far (x : FVec F S5120x1x1 .f32) : FVec F S5120x1x128 .f32 := broadcastInDim S5120x1x128 ![0, 1, 2] bcast_S5120x1x1_S5120x1x128_0_1_2 x

/-- The numbers of the rows, of the columns, and of all lanes. -/
abbrev rowNo : FVec F S5120x16x1 .f32 := broadcastInDim S5120x16x1 ![0, 1, 2] bcast_S1x16x1_S5120x16x1_0_1_2
  (broadcastInDim S1x16x1 ![1] bcast_S16_S1x16x1_1 (sitofp .f32 (iotaInDim S16 32 0)))
abbrev colNo : FVec F S5120x1x16 .f32 := broadcastInDim S5120x1x16 ![0, 1, 2] bcast_S1x1x16_S5120x1x16_0_1_2
  (broadcastInDim S1x1x16 ![2] bcast_S16_S1x1x16_2 (sitofp .f32 (iotaInDim S16 32 0)))
abbrev laneNo : FVec F S1x1x128 .f32 := broadcastInDim S1x1x128 ![2] bcast_S128_S1x1x128_2 (sitofp .f32 (iotaInDim S128 32 0))

/-- The rows that lie between two coordinates, and the columns. -/
abbrev rows (a b : FVec F S5120 .f32) : IVec S5120x16x1 1 :=
  andi (cmpf .oge rowNo (down (first a))) (cmpf .ole rowNo (down (last b)))

/-- Which cells the boxes of a table cover. -/
def coverage (X : FVec F S5120x4 .f32) : FVec F S5120x16x16 .f32 :=
  uitofp .f32
    (andi
      (andi
        (broadcastInDim S5120x16x16 ![0, 1, 2] bcast_S5120x16x1_S5120x16x16_0_1_2
          (rows (col ![0, 1] slices_S5120x4_S5120x1_0_1 X) (col ![0, 3] slices_S5120x4_S5120x1_0_3 X)))
        (broadcastInDim S5120x16x16 ![0, 1, 2] bcast_S5120x1x16_S5120x16x16_0_1_2
          (cmpf .oge colNo (along (first (col ![0, 0] slices_S5120x4_S5120x1_0_0 X))))))
      (broadcastInDim S5120x16x16 ![0, 1, 2] bcast_S5120x1x16_S5120x16x16_0_1_2
        (cmpf .ole colNo (along (last (col ![0, 2] slices_S5120x4_S5120x1_0_2 X))))))

/-- The boxes themselves, and the best matches. -/
abbrev boxes (X : FVec F S5120x128 .f32) : FVec F S5120x4 .f32 := extractStridedSlice S5120x4 ![0, 0] X slices_S5120x128_S5120x4_0_0
abbrev matches' (X : FVec F S5120x128 .f32) : FVec F S5120x4 .f32 := extractStridedSlice S5120x4 ![0, 6] X slices_S5120x128_S5120x4_0_6

/-- Whether a box has a match. -/
def matched (X : FVec F S5120x128 .f32) : IVec S5120 1 := cmpf .ogt (wide ![0, 5] slices_S5120x128_S5120x1_0_5 X) (every 0x00000000#32)

/-- Which cells the boxes cover, and which their matches do. -/
def own (X : FVec F S5120x128 .f32) : FVec F S5120x16x16 .f32 := coverage (boxes X)
def mate (X : FVec F S5120x128 .f32) : FVec F S5120x16x16 .f32 :=
  select (broadcastInDim S5120x16x16 ![0, 1, 2] bcast_S5120x1x1_S5120x16x16_0_1_2 (broadcastInDim S5120x1x1 ![0] bcast_S5120_S5120x1x1_0 (matched X)))
    (coverage (matches' X)) (broadcastInDim S5120x16x16 ![] bcast_S_S5120x16x16 (id (constant S_ .f32 0x00000000#32)))

/-- How many boxes cover each cell. -/
def count (z : FVec F S5120x16x16 .f32) : FVec F S16x16 .f32 :=
  Host.reduceAdd z (constant S_ .f32 0x00000000#32) reducesTo_S5120x16x16_S16x16_d0 h_S_

/-- The others on each cell, from the tables of coverage and the two counts. -/
def others (u v : FVec F S5120x16x16 .f32) (s t : FVec F S16x16 .f32) : FVec F S5120x16x16 .f32 :=
  mulf (maximumf u v)
    (subf (subf (broadcastInDim S5120x16x16 ![0, 1, 2] bcast_S1x16x16_S5120x16x16_0_1_2
      (broadcastInDim S1x16x16 ![1, 2] bcast_S16x16_S1x16x16_1_2 (addf s t))) u) v)

/-- The largest number of others of each box. -/
def most (z : FVec F S5120x16x16 .f32) : FVec F S5120 .f32 :=
  Host.reduce FloatOps.maximumf z (constant S_ .f32 0xFF800000#32) reducesTo_S5120x16x16_S5120_d1_2 h_S_

/-- The value of each box: 2 if it stands alone, is tall and sure, else 1. -/
def worth (X : FVec F S5120x128 .f32) (z : FVec F S5120 .f32) : FVec F S5120 .f32 :=
  select
    (andi
      (andi (cmpf .oeq z (every 0x00000000#32))
        (cmpf .oge (subf (col ![0, 3] slices_S5120x4_S5120x1_0_3 (boxes X)) (col ![0, 1] slices_S5120x4_S5120x1_0_1 (boxes X))) (every 0x42C80000#32)))
      (cmpf .oge (wide ![0, 4] slices_S5120x128_S5120x1_0_4 X) (every 0x3F333333#32)))
    (every 0x40000000#32) (every 0x3F800000#32)

/-- A coordinate of the box around a box and its match. -/
def low (o : Fin 2 → ℕ) (h : S5120x4.Slices o S5120x1) (X : FVec F S5120x128 .f32) : FVec F S5120 .f32 :=
  select (matched X) (minimumf (col o h (boxes X)) (col o h (matches' X))) (col o h (boxes X))
def high (o : Fin 2 → ℕ) (h : S5120x4.Slices o S5120x1) (X : FVec F S5120x128 .f32) : FVec F S5120 .f32 :=
  select (matched X) (maximumf (col o h (boxes X)) (col o h (matches' X))) (col o h (boxes X))

/-- Which cells lie between the given coordinates. -/
def region (a b c d : FVec F S5120 .f32) : FVec F S5120x16x128 .f32 :=
  uitofp .f32
    (andi
      (andi
        (andi
          (broadcastInDim S5120x16x128 ![0, 1, 2] bcast_S5120x16x1_S5120x16x128_0_1_2
            (rows b d))
          (broadcastInDim S5120x16x128 ![0, 1, 2] bcast_S5120x1x128_S5120x16x128_0_1_2
            (cmpf (F := F) .oge (broadcastInDim S5120x1x128 ![0, 1, 2] bcast_S1x1x128_S5120x1x128_0_1_2 laneNo)
              (far (first a)))))
        (broadcastInDim S5120x16x128 ![0, 1, 2] bcast_S5120x1x128_S5120x16x128_0_1_2
          (cmpf (F := F) .ole (broadcastInDim S5120x1x128 ![0, 1, 2] bcast_S1x1x128_S5120x1x128_0_1_2 laneNo)
            (far (last c)))))
      (broadcastInDim S5120x16x128 ![0, 1, 2] bcast_S1x1x128_S5120x16x128_0_1_2
        (cmpf (F := F) .olt laneNo (broadcastInDim S1x1x128 ![] bcast_S_S1x1x128 (constant S_ .f32 0x41800000#32)))))

/-- What each box brings to each cell, and the largest. -/
def brings (u : FVec F S5120x16x128 .f32) (w : FVec F S5120 .f32) : FVec F S5120x16x128 .f32 :=
  mulf u (broadcastInDim S5120x16x128 ![0, 1, 2] bcast_S5120x1x1_S5120x16x128_0_1_2 (broadcastInDim S5120x1x1 ![0] bcast_S5120_S5120x1x1_0 w))
def largest (z : FVec F S5120x16x128 .f32) : FVec F S16x128 .f32 :=
  Host.reduce FloatOps.maximumf z (constant S_ .f32 0xFF800000#32) reducesTo_S5120x16x128_S16x128_d0 h_S_

/-- The others of the two tables. -/
def rest (Y Z : FVec F S5120x128 .f32) : FVec F S5120x16x16 .f32 :=
  others (own Y) (mate Y) (count (own Y)) (count (coverage (boxes Z)))

/-- The cells of the box around a box and its match. -/
def around (Y : FVec F S5120x128 .f32) : FVec F S5120x16x128 .f32 :=
  region (low ![0, 0] slices_S5120x4_S5120x1_0_0 Y) (low ![0, 1] slices_S5120x4_S5120x1_0_1 Y)
    (high ![0, 2] slices_S5120x4_S5120x1_0_2 Y) (high ![0, 3] slices_S5120x4_S5120x1_0_3 Y)

/-- The grid. -/
def grid (Y Z : FVec F S5120x128 .f32) : FVec F S16x128 .f32 := largest (brings (around Y) (worth Y (most (rest Y Z))))

/-- It is the second result. -/
theorem grid_eq (V : Valuation τ sig (Elt F)) :
    Host.reduce FloatOps.maximumf (Value.res_main_v338 V) (constant S_ .f32 0xFF800000#32) reducesTo_S5120x16x128_S16x128_d0 h_S_
      = grid (V (Proc.devRef .tc main_arg1)) (V (Proc.devRef .tc main_arg2)) := rfl

end Terms

/-! ## Read at an index -/

/-- The cell that a coordinate lies in, and a small number, as an extended real. -/
def cell (x : EReal) : EReal := Ideal.liftRound Int.floor (Ideal.div x (Ideal.ofBits FTy.f32 1107296256#32))
def step (k : ℕ) : EReal := FloatOps.sitofp (F := Ideal) FTy.f32 (BitVec.ofNat 32 k)

/-- Cell `k` lies between two coordinates. -/
def within (a b : EReal) (k : ℕ) : Prop := cell a ≤ step k ∧ step k ≤ cell (b - 1)

/-- A whole number, as an extended real. -/
def num (z : ℤ) : EReal := ((z : ℝ) : EReal)

open Classical in
/-- 1 for what is so, else 0. -/
def bit (p : Prop) : ℤ := if p then 1 else 0

/-- 1 if cell `k`, of sixteen, lies between two coordinates of box `n`, else 0. -/
def span (Y : FVec Ideal S5120x128 .f32) (a b : Fin 128) (n : Fin 5120) (k : ℕ) : ℤ := bit (k < 16 ∧ within (Y (ix2 n a)) (Y (ix2 n b)) k)

/-- 1 if box `n` has a match, else 0. -/
def has (Y : FVec Ideal S5120x128 .f32) (n : Fin 5120) : ℤ := bit (0 < (Y (ix2 n 5) : EReal))

theorem num_zero : num 0 = 0 := by simp [num]
theorem num_one : num 1 = 1 := by simp [num]
theorem num_add (a b : ℤ) : num (a + b) = num a + num b := by simp [num]
theorem num_sub (a b : ℤ) : num (a - b) = num a - num b := by simp [num]
theorem num_mul (a b : ℤ) : num (a * b) = num a * num b := by simp [num]
theorem num_le (a b : ℤ) : num a ≤ num b ↔ a ≤ b := by simp [num]
theorem num_lt (a b : ℤ) : num a < num b ↔ a < b := by simp [num]
theorem num_inj (a b : ℤ) : num a = num b ↔ a = b := by simp [num]

theorem num_max (a b : ℤ) : num (max a b) = max (num a) (num b) :=
  Monotone.map_max (f := num) fun a b h => (num_le a b).2 h

theorem num_sum {ι : Type} (s : Finset ι) (f : ι → ℤ) : num (∑ i ∈ s, f i) = ∑ i ∈ s, num (f i) := by
  classical
  induction s using Finset.induction_on with
  | empty => simp [num_zero]
  | insert a s ha ih => rw [Finset.sum_insert ha, Finset.sum_insert ha, num_add, ih]

theorem bit_or (p : Prop) : bit p = 0 ∨ bit p = 1 := by
  unfold bit
  split <;> simp

theorem bit_and (p q : Prop) : bit (p ∧ q) = bit p * bit q := by
  by_cases hp : p <;> by_cases hq : q <;> simp [bit, hp, hq]

theorem num_bit (p : Prop) [Decidable p] : num (bit p) = if p then 1 else 0 := by
  by_cases hp : p <;> simp [bit, hp, num_zero, num_one]

theorem andi_and (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem select_one (p : Prop) [Decidable p] (x y : EReal) : Scalar.select (BitVec.ofBool (decide p)) x y = if p then x else y := by
  by_cases hp : p <;> simp [hp, Scalar.select]

theorem number_bit (p : Prop) [Decidable p] : (FloatOps.uitofp (F := Ideal) FTy.f32 (BitVec.ofBool (decide p)) : EReal) = num (bit p) := by
  rw [num_bit]
  by_cases hp : p <;> simp [hp, FloatOps.uitofp]

theorem zero_at : (id (constant (F := Ideal) S_ .f32 0x00000000#32) ix0 : Ideal .f32) = (0 : EReal) := by
  show Ideal.ofBits FTy.f32 0x00000000#32 = 0
  simp [Ideal.ofBits, Ideal.ieee]

theorem bottom : Ideal.ofBits FTy.f32 4286578688#32 = ⊥ := by
  simp [Ideal.ofBits, Ideal.ieee]

/-- The small numbers below 128, compared with 16. -/
theorem step_lt (k : Fin 128) : step k.val < Ideal.ofBits FTy.f32 1098907648#32 ↔ k.val < 16 := by
  have e : step k.val = num (k.val : ℤ) := by
    have h : (BitVec.ofNat 32 k.val).toInt = (k.val : ℤ) := by
      rw [BitVec.toInt_eq_toNat_of_lt (by rw [BitVec.toNat_ofNat]; omega), BitVec.toNat_ofNat]
      omega
    unfold step num
    simp [FloatOps.sitofp, h]
  have e' : Ideal.ofBits FTy.f32 1098907648#32 = num 16 := by
    simp only [Ideal.ofBits, Ideal.ieee, num]
    simp
    rw [← EReal.coe_mul]
    norm_num
  rw [e, e', num_lt]
  omega

theorem coverage_at (X : FVec Ideal S5120x4 .f32) (n : Fin 5120) (i j : Fin 16) :
    (coverage X (ix3 n i j) : Ideal .f32)
      = num (bit (within (X (ix2 n 1)) (X (ix2 n 3)) i.val ∧ within (X (ix2 n 0)) (X (ix2 n 2)) j.val)) := by
  unfold coverage
  pointwise
  rw [andi_and, andi_and, andi_and, number_bit]
  simp only [within, cell, step, and_assoc]

theorem own_at (Y : FVec Ideal S5120x128 .f32) (n : Fin 5120) (i j : Fin 16) :
    (coverage (boxes Y) (ix3 n i j) : Ideal .f32) = num (span Y 1 3 n i.val * span Y 0 2 n j.val) := by
  rw [coverage_at, bit_and]
  unfold boxes
  pointwise
  simp only [span, i.isLt, j.isLt, true_and]

theorem mate_at (Y : FVec Ideal S5120x128 .f32) (n : Fin 5120) (i j : Fin 16) :
    (mate Y (ix3 n i j) : Ideal .f32) = num (has Y n * span Y 7 9 n i.val * (has Y n * span Y 6 8 n j.val)) := by
  have e : (coverage (matches' Y) (ix3 n i j) : Ideal .f32) = num (span Y 7 9 n i.val * span Y 6 8 n j.val) := by
    rw [coverage_at, bit_and]
    unfold matches'
    pointwise
    simp only [span, i.isLt, j.isLt, true_and]
  unfold mate matched
  pointwise
  rw [e, zero_at]
  by_cases h : 0 < (Y (ix2 n 5) : EReal)
  · rw [if_pos h, has, bit, if_pos h, one_mul, one_mul]
  · rw [if_neg h, has, bit, if_neg h, zero_mul, zero_mul, num_zero]

theorem count_at (u : FVec Ideal S5120x16x16 .f32) (i j : Fin 16) : (count u (ix2 i j) : Ideal .f32) = ∑ n, (u (ix3 n i j) : EReal) := by
  unfold count
  pointwise

theorem others_at (u v : FVec Ideal S5120x16x16 .f32) (s t : FVec Ideal S16x16 .f32) (n : Fin 5120) (i j : Fin 16) :
    (others u v s t (ix3 n i j) : Ideal .f32)
      = max (u (ix3 n i j) : EReal) (v (ix3 n i j)) * (s (ix2 i j) + t (ix2 i j) - u (ix3 n i j) - v (ix3 n i j)) := by
  unfold others
  pointwise

theorem most_at (u : FVec Ideal S5120x16x16 .f32) (n : Fin 5120) :
    (most u (ix1 n) : Ideal .f32) = (Finset.univ : Finset (Fin 16 × Fin 16)).fold max (⊥ : EReal) fun x => (u (ix3 n x.1 x.2) : EReal) := by
  unfold most
  pointwise
  rw [bottom]

/-- How many boxes cover a cell. -/
def occ (Y Z : FVec Ideal S5120x128 .f32) (k l : ℕ) : ℤ := (∑ n, span Y 1 3 n k * span Y 0 2 n l) + ∑ n, span Z 1 3 n k * span Z 0 2 n l

/-- The others on a cell. -/
def over (y x y' x' : ℕ → ℤ) (m : ℕ → ℕ → ℤ) (k l : ℕ) : ℤ := max (y k * x l) (y' k * x' l) * (m k l - y k * x l - y' k * x' l)

/-- The others of box `n` on a cell. -/
def restOf (Y Z : FVec Ideal S5120x128 .f32) (n : Fin 5120) : ℕ → ℕ → ℤ :=
  over (span Y 1 3 n) (span Y 0 2 n) (fun k => has Y n * span Y 7 9 n k) (fun k => has Y n * span Y 6 8 n k) (occ Y Z)

theorem rest_at (Y Z : FVec Ideal S5120x128 .f32) (n : Fin 5120) (i j : Fin 16) :
    (rest Y Z (ix3 n i j) : Ideal .f32) = num (restOf Y Z n i.val j.val) := by
  unfold rest own
  rw [others_at, count_at, count_at, mate_at]
  simp only [own_at]
  unfold restOf over occ
  simp only [num_mul, num_max, num_sub, num_add, num_sum]

/-- Box `n` is worth 2. -/
def big (Y : FVec Ideal S5120x128 .f32) (n : Fin 5120) (alone : Prop) : Prop :=
  (alone ∧ Ideal.ofBits FTy.f32 1120403456#32 ≤ (Y (ix2 n 3) : EReal) - Y (ix2 n 1)) ∧ Ideal.ofBits FTy.f32 1060320051#32 ≤ (Y (ix2 n 4) : EReal)

theorem two : Ideal.ofBits FTy.f32 1073741824#32 = num 2 := by
  simp [Ideal.ofBits, Ideal.ieee, num]
  rw [← EReal.coe_mul]
  norm_num

theorem half : Ideal.ofBits FTy.f32 1056964608#32 = ((1 / 2 : ℝ) : EReal) := by
  simp [Ideal.ofBits, Ideal.ieee]
  rw [← EReal.coe_mul]
  norm_num

open Classical in
theorem worth_at (Y : FVec Ideal S5120x128 .f32) (w : FVec Ideal S5120 .f32) (n : Fin 5120) :
    (worth Y w (ix1 n) : Ideal .f32) = if big Y n ((w (ix1 n) : EReal) = 0) then num 2 else num 1 := by
  unfold worth
  pointwise
  rw [andi_and, andi_and, select_one, two, num_one]
  unfold big
  congr

theorem region_at (a b c d : FVec Ideal S5120 .f32) (n : Fin 5120) (i : Fin 16) (l : Fin 128) :
    (region a b c d (ix3 n i l) : Ideal .f32)
      = num (bit (within (b (ix1 n)) (d (ix1 n)) i.val) * bit (l.val < 16 ∧ within (a (ix1 n)) (c (ix1 n)) l.val)) := by
  rw [← bit_and, and_comm (a := l.val < 16), ← step_lt, ← and_assoc]
  unfold region
  pointwise
  rw [andi_and, andi_and, andi_and, andi_and, number_bit]
  simp only [within, cell, step, and_assoc]

/-- The coordinates of the box around a box and its match. -/
def lower (Y : FVec Ideal S5120x128 .f32) (a b : Fin 128) (n : Fin 5120) : EReal :=
  if 0 < (Y (ix2 n 5) : EReal) then min (Y (ix2 n a) : EReal) (Y (ix2 n b)) else Y (ix2 n a)
def upper (Y : FVec Ideal S5120x128 .f32) (a b : Fin 128) (n : Fin 5120) : EReal :=
  if 0 < (Y (ix2 n 5) : EReal) then max (Y (ix2 n a) : EReal) (Y (ix2 n b)) else Y (ix2 n a)

/-- 1 if that box covers row `k`, or column `k`, of sixteen, else 0. -/
def tall (Y : FVec Ideal S5120x128 .f32) (n : Fin 5120) (k : ℕ) : ℤ := bit (k < 16 ∧ within (lower Y 1 7 n) (upper Y 3 9 n) k)
def broad (Y : FVec Ideal S5120x128 .f32) (n : Fin 5120) (k : ℕ) : ℤ := bit (k < 16 ∧ within (lower Y 0 6 n) (upper Y 2 8 n) k)

theorem around_at (Y : FVec Ideal S5120x128 .f32) (n : Fin 5120) (i : Fin 16) (l : Fin 128) :
    (around Y (ix3 n i l) : Ideal .f32) = num (tall Y n i.val * broad Y n l.val) := by
  have e0 : (low ![0, 0] slices_S5120x4_S5120x1_0_0 Y (ix1 n) : Ideal .f32) = lower Y 0 6 n := by
    unfold low matched lower
    pointwise
  have e1 : (low ![0, 1] slices_S5120x4_S5120x1_0_1 Y (ix1 n) : Ideal .f32) = lower Y 1 7 n := by
    unfold low matched lower
    pointwise
  have e2 : (high ![0, 2] slices_S5120x4_S5120x1_0_2 Y (ix1 n) : Ideal .f32) = upper Y 2 8 n := by
    unfold high matched upper
    pointwise
  have e3 : (high ![0, 3] slices_S5120x4_S5120x1_0_3 Y (ix1 n) : Ideal .f32) = upper Y 3 9 n := by
    unfold high matched upper
    pointwise
  unfold around
  rw [region_at, e0, e1, e2, e3]
  simp only [tall, broad, i.isLt, true_and]

theorem largest_at (u : FVec Ideal S5120x16x128 .f32) (w : FVec Ideal S5120 .f32) (i : Fin 16) (l : Fin 128) :
    (largest (brings u w) (ix2 i l) : Ideal .f32)
      = (Finset.univ : Finset (Fin 5120)).fold max (⊥ : EReal) fun n => (u (ix3 n i l) : EReal) * w (ix1 n) := by
  unfold largest brings
  pointwise
  rw [bottom]

end Cert.PaintReferenceIdeal.Grid

end
-- ==== Proof.GridSum.lean ====
/-
  The arithmetic of the grid: a sum of products over rows and columns tells whether a box stands alone, and two counts tell the largest
  of the values 0, 1 and 2.
-/
module

public import proofs.«01_k».proof.Proof.GridReference

@[expose] public section

noncomputable section

namespace Cert.PaintReferenceIdeal.Grid

open Idealize.ShloMosaic

/-- A number that is 0 or 1. -/
def Unit01 (z : ℤ) : Prop := z = 0 ∨ z = 1

theorem over_eq (y x y' x' : ℕ → ℤ) (m : ℕ → ℕ → ℤ) (hy : ∀ k, Unit01 (y k)) (hx : ∀ k, Unit01 (x k)) (hy' : ∀ k, Unit01 (y' k))
    (hx' : ∀ k, Unit01 (x' k)) (k l : ℕ) :
    over y x y' x' m k l
      = y k * m k l * x l + y' k * m k l * x' l - y k * y' k * m k l * (x l * x' l) - y k * x l - y' k * x' l := by
  unfold over
  rcases hy k with h1 | h1 <;> rcases hx l with h2 | h2 <;> rcases hy' k with h3 | h3 <;> rcases hx' l with h4 | h4 <;>
    rw [h1, h2, h3, h4] <;> simp

/-- The kernel's sums of products are the sum of the others over all cells. -/
theorem sums_eq (y x y' x' : ℕ → ℤ) (m : ℕ → ℕ → ℤ) (hy : ∀ k, Unit01 (y k)) (hx : ∀ k, Unit01 (x k)) (hy' : ∀ k, Unit01 (y' k))
    (hx' : ∀ k, Unit01 (x' k)) :
    (∑ l : Fin 128, (∑ k : Fin 128, num (y k) * num (m k l)) * num (x l)) + (∑ l : Fin 128, (∑ k : Fin 128, num (y' k) * num (m k l)) * num (x' l))
        - (∑ l : Fin 128, (∑ k : Fin 128, num (y k) * num (y' k) * num (m k l)) * (num (x l) * num (x' l)))
        - (∑ k : Fin 128, num (y k)) * (∑ l : Fin 128, num (x l)) - (∑ k : Fin 128, num (y' k)) * (∑ l : Fin 128, num (x' l))
      = num (∑ l : Fin 128, ∑ k : Fin 128, over y x y' x' m k l) := by
  simp only [← num_mul, ← num_sum, ← num_add, ← num_sub]
  congr 1
  have both : ∀ a b : ℕ → ℤ, (∑ k : Fin 128, a k) * (∑ l : Fin 128, b l) = ∑ l : Fin 128, ∑ k : Fin 128, a k * b l := fun a b => by
    rw [Finset.sum_mul_sum, Finset.sum_comm]
  rw [both, both]
  simp only [over_eq y x y' x' m hy hx hy' hx', Finset.sum_add_distrib, Finset.sum_sub_distrib, Finset.sum_mul]

theorem num_lt_half (z : ℤ) : num z < Ideal.ofBits FTy.f32 1056964608#32 ↔ z ≤ 0 := by
  rw [half, num, EReal.coe_lt_coe_iff]
  constructor
  · intro h
    by_contra hc
    have : (1 : ℝ) ≤ (z : ℝ) := by exact_mod_cast (by omega : (1 : ℤ) ≤ z)
    linarith
  · intro h
    have : (z : ℝ) ≤ 0 := by exact_mod_cast h
    linarith

/-- A maximum that bounds all and is attained. -/
theorem fold_eq {ι : Type} [Fintype ι] (h : ι → EReal) (v : EReal) (le : ∀ n, h n ≤ v) (n : ι) (at_n : h n = v) :
    (Finset.univ : Finset ι).fold max ⊥ h = v :=
  le_antisymm ((Finset.fold_max_le v).2 ⟨bot_le, fun n _ => le n⟩) ((Finset.le_fold_max v).2 (Or.inr ⟨n, Finset.mem_univ n, at_n.ge⟩))

/-- The sum is below a half where the largest is zero, of numbers none of which is negative on the sixteen rows and columns, and which are
    zero beyond. -/
theorem alone_iff (t : ℕ → ℕ → ℤ) (nonneg : ∀ i j : Fin 16, 0 ≤ t i j) (beyond : ∀ k l : ℕ, 16 ≤ k ∨ 16 ≤ l → t k l = 0) :
    num (∑ l : Fin 128, ∑ k : Fin 128, t k l) < Ideal.ofBits FTy.f32 1056964608#32
      ↔ (Finset.univ : Finset (Fin 16 × Fin 16)).fold max (⊥ : EReal) (fun x => num (t x.1 x.2)) = 0 := by
  have all : ∀ k l : ℕ, 0 ≤ t k l := fun k l => by
    by_cases h : 16 ≤ k ∨ 16 ≤ l
    · exact (beyond k l h).ge
    · exact nonneg ⟨k, by omega⟩ ⟨l, by omega⟩
  rw [num_lt_half]
  constructor
  · intro h
    have z : ∀ i j : Fin 16, t i j = 0 := fun i j => by
      have h0 := le_antisymm h (Finset.sum_nonneg fun l _ => Finset.sum_nonneg fun k _ => all k l)
      have h1 := (Finset.sum_eq_zero_iff_of_nonneg (fun (l : Fin 128) _ => Finset.sum_nonneg fun (k : Fin 128) _ => all k l)).1 h0 ⟨j.val, by omega⟩
        (Finset.mem_univ _)
      exact (Finset.sum_eq_zero_iff_of_nonneg (fun (k : Fin 128) _ => all k _)).1 h1 ⟨i.val, by omega⟩ (Finset.mem_univ _)
    refine fold_eq _ 0 (fun x => ?_) (0, 0) ?_
    · rw [z x.1 x.2, num_zero]
    · rw [z, num_zero]
  · intro h
    have h' := ((Finset.fold_max_le (0 : EReal)).1 h.le).2
    refine (Finset.sum_eq_zero fun l _ => Finset.sum_eq_zero fun k _ => ?_).le
    by_cases hb : 16 ≤ k.val ∨ 16 ≤ l.val
    · exact beyond k l hb
    · have := h' (⟨k.val, by omega⟩, ⟨l.val, by omega⟩) (Finset.mem_univ _)
      rw [← num_zero, num_le] at this
      exact le_antisymm this (all k l)

theorem count_pos {ι : Type} [Fintype ι] (f : ι → ℤ) (hf : ∀ n, 0 ≤ f n) : 0 < ∑ n, num (f n) ↔ ∃ n, 0 < f n := by
  rw [← num_sum, ← num_zero, num_lt, Finset.sum_pos_iff_of_nonneg fun n _ => hf n]
  simp

open Classical in
/-- The two counts tell the largest value. -/
theorem counts_eq (f : Fin 5120 → ℤ) (b : Fin 5120 → Prop) (hf : ∀ n, Unit01 (f n)) :
    (if 0 < ∑ n, num (f n * bit (b n)) then num 2 else if 0 < ∑ n, num (f n) then num 1 else num 0)
      = (Finset.univ : Finset (Fin 5120)).fold max (⊥ : EReal) fun n => num (f n) * (if b n then num 2 else num 1) := by
  have e : ∀ n, num (f n) * (if b n then num 2 else num 1) = num (f n * (if b n then 2 else 1)) := fun n => by
    split <;> rw [num_mul]
  have pos : ∀ n, 0 ≤ f n := fun n => by rcases hf n with h | h <;> omega
  have pos' : ∀ n, 0 ≤ f n * bit (b n) := fun n => mul_nonneg (pos n) (by rcases bit_or (b n) with h | h <;> omega)
  simp only [e]
  simp only [count_pos _ pos, count_pos _ pos']
  symm
  by_cases h2 : ∃ n, 0 < f n * bit (b n)
  · rw [if_pos h2]
    obtain ⟨n, hn⟩ := h2
    refine fold_eq _ _ (fun k => (num_le _ _).2 ?_) n ?_
    · rcases hf k with h | h <;> rw [h] <;> split <;> omega
    · unfold bit at hn
      rcases hf n with h | h <;> rw [h] at hn ⊢ <;> split at hn <;> simp_all
  · rw [if_neg h2]
    have small : ∀ n, f n * (if b n then 2 else 1) = f n := fun n => by
      have := mt (fun h => (⟨n, h⟩ : ∃ n, 0 < f n * bit (b n))) h2
      unfold bit at this
      rcases hf n with h | h <;> rw [h] at this ⊢ <;> split <;> simp_all
    simp only [small]
    by_cases h1 : ∃ n, 0 < f n
    · rw [if_pos h1]
      obtain ⟨n, hn⟩ := h1
      refine fold_eq _ _ (fun k => (num_le _ _).2 ?_) n ?_
      · rcases hf k with h | h <;> omega
      · rcases hf n with h | h
        · omega
        · rw [h]
    · rw [if_neg h1]
      have z : ∀ n, f n = 0 := fun n => by
        have := mt (fun h => (⟨n, h⟩ : ∃ n, 0 < f n)) h1
        have := pos n
        omega
      exact fold_eq _ _ (fun k => by rw [z]) 0 (by rw [z])

end Cert.PaintReferenceIdeal.Grid

end
-- ==== Proof.GridKernel.lean ====
/-
  The grid that the painting call stores, read at a cell: the largest of what the boxes bring there.
-/
module

public import proofs.«01_k».proof.Proof.PaintLoops
public import proofs.«01_k».proof.Proof.GridSum
public import Idealize.ShloMosaic.Lib.Pointwise

@[expose] public section

noncomputable section

namespace Cert.Proof.Paint

open Idealize.ShloMosaic Idealize.ShloMosaic.TcCoe Idealize.SL.Sem
open Cert.PaintIdeal Cert.PaintIdeal.Gen
open Cert.PaintReferenceIdeal.Grid

/-- The numbers of the lanes. -/
abbrev lanes : FVec Ideal S1x128 .f32 := k0_pay20

theorem lanes_at (k : Fin 128) : (lanes (ix2 0 k) : Ideal .f32) = step k.val := by
  unfold lanes k0_pay20
  pointwise
  rfl

theorem select_bit (p : Prop) [Decidable p] : Scalar.select (BitVec.ofBool (decide p)) (1 : EReal) 0 = num (bit p) := by
  rw [select_one, num_bit]

/-- The two comparisons with a lane's number, and the comparison with 16. -/
theorem within_lane (a b : EReal) (k : Fin 128) :
    ((cell a ≤ step k.val ∧ step k.val ≤ cell (b - 1)) ∧ step k.val < Ideal.ofBits FTy.f32 1098907648#32) = (k.val < 16 ∧ within a b k.val) := by
  rw [step_lt, and_comm]
  rfl

section Columns

variable (X : FVec Ideal S5120x128 .f32) (n : Fin 5120) (k : Fin 128)

/-- The rows and the columns of the boxes. -/
abbrev rowsOf : FVec Ideal S5120x128 .f32 := k0_pay29 lanes (k0_pay23 X) (k0_pay24 X) (Ideal.ofBits FTy.f32 1107296256#32)
abbrev colsBit : IVec S5120x128 1 := k0_pay30 lanes (k0_pay21 X) (k0_pay22 X)
abbrev colsOf : FVec Ideal S5120x128 .f32 := k0_pay31 (colsBit X) (1 : EReal) (0 : EReal)

theorem rows_at : (rowsOf X (ix2 n k) : Ideal .f32) = num (span X 1 3 n k.val) := by
  have e23 : (k0_pay23 X (ix2 n 0) : Ideal .f32) = cell (X (ix2 n 1)) := by
    unfold k0_pay23
    pointwise
    rfl
  have e24 : (k0_pay24 X (ix2 n 0) : Ideal .f32) = (X (ix2 n 3) : EReal) - 1 := by
    unfold k0_pay24
    pointwise
  unfold rowsOf k0_pay29
  pointwise
  rw [e23, e24, lanes_at, andi_and, andi_and, select_bit]
  exact congrArg (fun p => num (bit p)) (within_lane _ _ k)

theorem cols_at : (colsOf X (ix2 n k) : Ideal .f32) = num (span X 0 2 n k.val) := by
  have e21 : (k0_pay21 X (ix2 n 0) : Ideal .f32) = cell (X (ix2 n 0)) := by
    unfold k0_pay21
    pointwise
    rfl
  have e22 : (k0_pay22 X (ix2 n 0) : Ideal .f32) = cell ((X (ix2 n 2) : EReal) - 1) := by
    unfold k0_pay22
    pointwise
    rfl
  unfold colsOf k0_pay31 colsBit k0_pay30
  pointwise
  rw [e21, e22, lanes_at, andi_and, andi_and, select_bit]
  exact congrArg (fun p => num (bit p)) (within_lane _ _ k)

/-- The rows and the columns of the matches. -/
abbrev mateRows : FVec Ideal S5120x128 .f32 := k0_pay37 X lanes (k0_pay34 X)
abbrev mateCols : FVec Ideal S5120x128 .f32 := k0_pay38 lanes (k0_pay34 X) (k0_pay35 X) (k0_pay36 X)

theorem has_at : (k0_pay34 X (ix2 n 0) : Ideal .f32) = num (has X n) := by
  unfold k0_pay34 k0_pay33
  pointwise
  unfold has
  rw [num_bit]

theorem select_mul (p : Prop) [Decidable p] (z : ℤ) : Scalar.select (BitVec.ofBool (decide p)) (num z) (0 : EReal) = num (z * bit p) := by
  rw [select_one]
  by_cases h : p <;> simp [h, bit, num_zero]

theorem mateRows_at : (mateRows X (ix2 n k) : Ideal .f32) = num (has X n * span X 7 9 n k.val) := by
  unfold mateRows k0_pay37
  pointwise
  rw [has_at, lanes_at, andi_and, andi_and, select_mul]
  exact congrArg (fun p => num (has X n * bit p)) (within_lane _ _ k)

theorem mateCols_at : (mateCols X (ix2 n k) : Ideal .f32) = num (has X n * span X 6 8 n k.val) := by
  have e35 : (k0_pay35 X (ix2 n 0) : Ideal .f32) = cell (X (ix2 n 6)) := by
    unfold k0_pay35
    pointwise
    rfl
  have e36 : (k0_pay36 X (ix2 n 0) : Ideal .f32) = (X (ix2 n 8) : EReal) - 1 := by
    unfold k0_pay36
    pointwise
  unfold mateCols k0_pay38
  pointwise
  rw [has_at, e35, e36, lanes_at, andi_and, andi_and, select_mul]
  exact congrArg (fun p => num (has X n * bit p)) (within_lane _ _ k)

/-- The rows and the columns of the box around a box and its match. -/
abbrev aroundRows : FVec Ideal S5120x128 .f32 := k0_pay45 X lanes (k0_pay33 (F := Ideal) X) (k0_pay43 X) (k0_pay44 X)
abbrev aroundBit : IVec S5120x128 1 := k0_pay46 X lanes (k0_pay33 (F := Ideal) X) (k0_pay42 X (k0_pay33 (F := Ideal) X))

theorem matched_at : k0_pay33 (F := Ideal) X (ix2 n 0) = BitVec.ofBool (decide (0 < (X (ix2 n 5) : EReal))) := by
  unfold k0_pay33
  pointwise

theorem aroundRows_at : (aroundRows X (ix2 n k) : Ideal .f32) = num (tall X n k.val) := by
  have e43 : (k0_pay43 X (ix2 n 0) : Ideal .f32) = (X (ix2 n 1) : EReal) := by
    unfold k0_pay43
    pointwise
  have e44 : (k0_pay44 X (ix2 n 0) : Ideal .f32) = (X (ix2 n 7) : EReal) := by
    unfold k0_pay44
    pointwise
  unfold aroundRows k0_pay45
  pointwise
  rw [e43, e44, matched_at, lanes_at, select_one, select_one, andi_and, andi_and, select_bit]
  exact congrArg (fun p => num (bit p)) (within_lane (lower X 1 7 n) (upper X 3 9 n) k)

theorem aroundCols_at : aroundBit X (ix2 n k) = BitVec.ofBool (decide (cell (lower X 0 6 n) ≤ step k.val ∧ step k.val ≤ cell (upper X 2 8 n - 1))) := by
  have e42 : (k0_pay42 X (k0_pay33 (F := Ideal) X) (ix2 n 0) : Ideal .f32) = lower X 0 6 n := by
    unfold k0_pay42
    pointwise
    rw [matched_at, select_one]
    rfl
  unfold aroundBit k0_pay46
  pointwise
  rw [e42, matched_at, lanes_at, select_one, andi_and]
  rfl

end Columns

/-- How many boxes cover a cell. -/
abbrev occOf (Y Z : FVec Ideal S5120x128 .f32) : FVec Ideal S128x128 .f32 :=
  k0_pay32 lanes (k0_pay25 Z) (k0_pay26 Z) (k0_pay27 Z) (k0_pay28 Z) (rowsOf Y) (colsBit Y) (1 : EReal) (0 : EReal)

theorem occ_at (Y Z : FVec Ideal S5120x128 .f32) (k l : Fin 128) : (occOf Y Z (ix2 k l) : Ideal .f32) = num (occ Y Z k.val l.val) := by
  have e25 : ∀ n, (k0_pay25 Z (ix2 n 0) : Ideal .f32) = cell (Z (ix2 n 0)) := fun n => by
    unfold k0_pay25
    pointwise
    rfl
  have e26 : ∀ n, (k0_pay26 Z (ix2 n 0) : Ideal .f32) = cell ((Z (ix2 n 2) : EReal) - 1) := fun n => by
    unfold k0_pay26
    pointwise
    rfl
  have e27 : ∀ n, (k0_pay27 Z (ix2 n 0) : Ideal .f32) = cell (Z (ix2 n 1)) := fun n => by
    unfold k0_pay27
    pointwise
    rfl
  have e28 : ∀ n, (k0_pay28 Z (ix2 n 0) : Ideal .f32) = cell ((Z (ix2 n 3) : EReal) - 1) := fun n => by
    unfold k0_pay28
    pointwise
    rfl
  unfold occOf k0_pay32
  pointwise
  have hl : ∀ x, (k0_pay31 (colsBit Y) (1 : EReal) (0 : EReal) (ix2 x l) : Ideal .f32) = num (span Y 0 2 x l.val) := fun x => cols_at Y x l
  simp only [hl, rows_at, e25, e26, e27, e28, lanes_at, andi_and, select_bit, select_mul, within_lane]
  simp only [← num_mul, ← num_sum, ← num_add]
  rfl

section Last

variable (X Y1 Y2 : FVec Ideal S5120x128 .f32) (M : FVec Ideal S128x128 .f32) (Y3 Y4 : FVec Ideal S5120x128 .f32) (n : Fin 5120)

open Classical in
/-- The boxes that stand alone, are tall and sure, from the tables and the count. -/
theorem big_at :
    (k0_pay41 X Y1 Y2 M Y3 Y4 (k0_pay39 Y1) (k0_pay40 Y2) (ix2 n 0) : Ideal .f32)
      = num (bit (big X n
          ((∑ l : Fin 128, (∑ k : Fin 128, (Y1 (ix2 n k) : EReal) * M (ix2 k l)) * Y2 (ix2 n l))
            + (∑ l : Fin 128, (∑ k : Fin 128, (Y3 (ix2 n k) : EReal) * M (ix2 k l)) * Y4 (ix2 n l))
            - (∑ l : Fin 128, (∑ k : Fin 128, (Y1 (ix2 n k) : EReal) * Y3 (ix2 n k) * M (ix2 k l)) * ((Y2 (ix2 n l) : EReal) * Y4 (ix2 n l)))
            - (∑ k : Fin 128, (Y1 (ix2 n k) : EReal)) * (∑ l : Fin 128, (Y2 (ix2 n l) : EReal))
            - (∑ k : Fin 128, (Y3 (ix2 n k) : EReal)) * (∑ l : Fin 128, (Y4 (ix2 n l) : EReal)) < Ideal.ofBits FTy.f32 1056964608#32))) := by
  have e39 : (k0_pay39 Y1 (ix2 n 0) : Ideal .f32) = ∑ k : Fin 128, (Y1 (ix2 n k) : EReal) := by
    unfold k0_pay39
    pointwise
  have e40 : (k0_pay40 Y2 (ix1 n) : Ideal .f32) = ∑ k : Fin 128, (Y2 (ix2 n k) : EReal) := by
    unfold k0_pay40
    pointwise
  unfold k0_pay41
  pointwise
  rw [e39, e40, andi_and, andi_and, select_bit]
  rfl

end Last

/-- What is stored in the second array, from the tables. -/
theorem stored_at (P : FVec Ideal S5120x1 .f32) (X : FVec Ideal S5120x128 .f32) (w : IVec S5120x128 1) (i : Fin 16) (k : Fin 128) :
    (k0_pay1 lanes P X w (Ideal.ofBits FTy.f32 1098907648#32) (ix2 i k) : Ideal .f32)
      = if 0 < ∑ n, Scalar.select (IntOp.andi (w (ix2 n k)) (BitVec.ofBool (decide (step k.val < Ideal.ofBits FTy.f32 1098907648#32))))
            ((X (ix2 n ⟨i.val, by omega⟩) : EReal) * P (ix2 n 0)) 0 then num 2
        else if 0 < ∑ n, Scalar.select (IntOp.andi (w (ix2 n k)) (BitVec.ofBool (decide (step k.val < Ideal.ofBits FTy.f32 1098907648#32))))
            (X (ix2 n ⟨i.val, by omega⟩) : EReal) 0 then num 1 else num 0 := by
  unfold k0_pay1
  pointwise
  rw [lanes_at, two, num_one, num_zero]

/-- The table of the boxes that are worth 2. -/
abbrev bigOf (Y Z : FVec Ideal S5120x128 .f32) : FVec Ideal S5120x1 .f32 :=
  k0_pay41 Y (rowsOf Y) (colsOf Y) (occOf Y Z) (mateRows Y) (mateCols Y) (k0_pay39 (rowsOf Y)) (k0_pay40 (colsOf Y))

theorem bigOf_at (Y Z : FVec Ideal S5120x128 .f32) (hYZ : ∀ n (i j : Fin 16), 0 ≤ restOf Y Z n i j) (n : Fin 5120) :
    (bigOf Y Z (ix2 n 0) : Ideal .f32) = num (bit (big Y n ((most (rest Y Z) (ix1 n) : EReal) = 0))) := by
  rw [most_at]
  simp only [rest_at]
  unfold bigOf
  rw [big_at]
  simp only [rows_at, cols_at, occ_at, mateRows_at, mateCols_at]
  have b : ∀ (a c : Fin 128) (k : ℕ), Unit01 (span Y a c n k) := fun a c k => bit_or _
  have b' : ∀ (a c : Fin 128) (k : ℕ), Unit01 (has Y n * span Y a c n k) := fun a c k => by
    rcases b a c k with h | h <;> rcases bit_or (0 < (Y (ix2 n 5) : EReal)) with h' | h' <;> unfold has <;> rw [h, h'] <;> simp [Unit01]
  have z : ∀ (a c : Fin 128) (k : ℕ), 16 ≤ k → span Y a c n k = 0 := fun a c k hk => if_neg fun h => absurd h.1 (by omega)
  rw [sums_eq (span Y 1 3 n) (span Y 0 2 n) (fun k => has Y n * span Y 7 9 n k) (fun k => has Y n * span Y 6 8 n k) (occ Y Z) (b 1 3) (b 0 2)
    (b' 7 9) (b' 6 8)]
  have h := alone_iff (restOf Y Z n) (hYZ n) fun k l hkl => by
    unfold restOf over
    rcases hkl with hk | hl
    · simp [z _ _ k hk]
    · simp [z _ _ l hl]
  exact congrArg (fun p => num (bit (big Y n p))) (propext h)

/-- The second array, from the two tables of boxes. -/
abbrev gridOf (Y Z : FVec Ideal S5120x128 .f32) : FVec Ideal S16x128 .f32 :=
  k0_pay1 lanes (bigOf Y Z) (aroundRows Y) (aroundBit Y) (Ideal.ofBits FTy.f32 1098907648#32)

/-- It is the reference's. -/
theorem gridOf_at (Y Z : FVec Ideal S5120x128 .f32) (hYZ : ∀ n (i j : Fin 16), 0 ≤ restOf Y Z n i j) (i : Fin 16) (k : Fin 128) :
    (gridOf Y Z (ix2 i k) : Ideal .f32) = (grid Y Z (ix2 i k) : Ideal .f32) := by
  unfold gridOf grid
  rw [stored_at, largest_at]
  simp only [aroundRows_at, bigOf_at Y Z hYZ, aroundCols_at, andi_and, within_lane, around_at, worth_at, ← num_mul, select_mul]
  rw [← counts_eq (fun n => tall Y n i.val * broad Y n k.val)]
  · simp only [mul_right_comm _ (bit (big _ _ _)) _]
    rfl
  · intro n
    rw [tall, broad, ← bit_and]
    exact bit_or _

end Cert.Proof.Paint

end
-- ==== Proof.GridValue.lean ====
/-
  The painting call's second array after the run: the reference's grid.
-/
module

public import proofs.«01_k».proof.Proof.PaintValue
public import proofs.«01_k».proof.Proof.GridKernel

@[expose] public section

set_option maxRecDepth 8192

noncomputable section

namespace Cert.Proof.Paint

open Idealize.ShloMosaic Idealize.ShloMosaic.TcCoe Idealize.SL.Sem
open Cert.PaintIdeal Cert.PaintIdeal.Gen
open Cert.PaintReferenceIdeal.Grid (grid rest rest_at restOf num num_zero num_le)

/-- The precondition's second part, read at a cell: no box leaves fewer than no others there. -/
theorem rest_nonneg (X : FVec Ideal S15360x128 .f32) (Y Z : FVec Ideal S5120x128 .f32)
    (h : (Cert.Pre_bounded.fn (F := Ideal) X Y Z).2 = fun _ => 1#1) (n : Fin 5120) (i j : Fin 16) : 0 ≤ restOf Y Z n i j := by
  have e : (Cert.Pre_bounded.fn (F := Ideal) X Y Z).2
      = cmpf .oge (rest Y Z) (broadcastInDim Cert.PaintReferenceIdeal.S5120x16x16 ![] Cert.PaintReferenceIdeal.Gen.bcast_S_S5120x16x16
          (constant Cert.PaintReferenceIdeal.S_ .f32 0x00000000#32)) := rfl
  have hk := congrFun (e.symm.trans h) (ix3 n i j)
  revert hk
  pointwise
  rw [rest_at]
  intro hk
  have one : ∀ b : Bool, BitVec.ofBool b = 1#1 → b = true := by decide
  have h' := of_decide_eq_true (one _ hk)
  rw [← num_zero, num_le] at h'
  exact h'

section Store

theorem one_word : Ideal.ofBits FTy.f32 1065353216#32 = 1 := by
  simp [Ideal.ofBits, Ideal.ieee]
  rw [← EReal.coe_mul]
  norm_num

theorem zero_word : Ideal.ofBits FTy.f32 0#32 = 0 := by simp [Ideal.ofBits, Ideal.ieee]

variable (c : Dev nD) (a0 : Memref sig .tc .vmem S15360x128 .f32) (h0 : a0.IsWhole) (a1 : Memref sig .tc .vmem S5120x128 .f32) (h1 : a1.IsWhole)
  (a2 : Memref sig .tc .vmem S5120x128 .f32) (h2 : a2.IsWhole) (a3 : Memref sig .tc .vmem S256x256 .f32) (h3 : a3.IsWhole)
  (a4 : Memref sig .tc .vmem S16x128 .f32) (h4 : a4.IsWhole)

/-- The body stores the grid of its two tables of boxes. -/
theorem body_grid (X : FVec Ideal S15360x128 .f32) (Y Z : FVec Ideal S5120x128 .f32) :
    out0_A_4 (F := Ideal) c a0 h0 a1 h1 a2 h2 a3 h3 a4 h4 X Y Z = gridOf Y Z := by
  unfold out0_A_4
  rw [View.read_writes_of_cover (Val := Elt Ideal) VO0_4 VO0_4.junk a4.view a4.view.junk _
    (cover0_A_4 c a0 h0 a1 h1 a2 h2 a3 h3 a4 h4 X Y Z)]
  unfold kernelRun0_A
  dsimp only
  sl_unfold_words
  rw [View.read_writes_full]
  rw [View.readAt_full, View.readAt_full, h1.read_unread, h2.read_unread]
  rw [show (FloatOps.ofBits FTy.f32 1065353216#32 : Ideal .f32) = (1 : EReal) from one_word,
    show (FloatOps.ofBits FTy.f32 0#32 : Ideal .f32) = (0 : EReal) from zero_word]
  rfl

end Store

variable (m : (ℓ : Loc nD τ sig) → Buf (Elt Ideal) ℓ) (c : Dev nD)

/-- The two tables of boxes. -/
abbrev table1 : FVec Ideal S5120x128 .f32 := m ((c.tc : Thread nD τ).loc main_arg1)
abbrev table2 : FVec Ideal S5120x128 .f32 := m ((c.tc : Thread nD τ).loc main_arg2)

theorem index1 : ∀ t : Fin cfg0.N, win0_1.index t 0 = 0 ∧ win0_1.index t 1 = 0 := by decide +kernel
theorem index2 : ∀ t : Fin cfg0.N, win0_2.index t 0 = 0 ∧ win0_2.index t 1 = 0 := by decide +kernel
theorem index4 : ∀ t : Fin cfg0.N, win0_4.index t 0 = 0 ∧ win0_4.index t 1 = 0 := by decide +kernel

/-- The block of each is all of it. -/
theorem block_table1 (t : Fin cfg0.N) : iblk m c 1 t = table1 m c := by
  funext i
  have e : ∀ (r : Fin 5120) (l : Fin 128), iblk m c 1 t (ix2 r l) = table1 m c (ix2 r l) := fun r l => by
    have h := index1 t
    blk_ext [iblk] <;> omega
  have hi : i = ix2 (i 0) (i 1) := by funext a; fin_cases a <;> rfl
  rw [hi]
  exact e (i 0) (i 1)

theorem block_table2 (t : Fin cfg0.N) : iblk m c 2 t = table2 m c := by
  funext i
  have e : ∀ (r : Fin 5120) (l : Fin 128), iblk m c 2 t (ix2 r l) = table2 m c (ix2 r l) := fun r l => by
    have h := index2 t
    blk_ext [iblk] <;> omega
  have hi : i = ix2 (i 0) (i 1) := by funext a; fin_cases a <;> rfl
  rw [hi]
  exact e (i 0) (i 1)

/-- The second array after the run. -/
theorem grid_array_at (hYZ : ∀ n (i j : Fin 16), 0 ≤ restOf (table1 m c) (table2 m c) n i j) (i : Fin 16) (j : Fin 128) :
    ((dats m 0 c).arrAt 4 cfg0.N (ix2 i j) : Ideal .f32) = (grid (table1 m c) (table2 m c) (ix2 i j) : Ideal .f32) := by
  have hb := congrFun ((Cert.PaintIdeal.Value.blocks4 m c pt (by decide +kernel)).trans (Cert.PaintIdeal.Value.flushed4_A m c pt)) (ix2 i j)
  rw [block_table1, block_table2] at hb
  refine Eq.trans ?_ (hb.trans ?_)
  · have h := index4 pt
    blk_ext [] <;> omega
  · refine Eq.trans ?_ (gridOf_at (table1 m c) (table2 m c) hYZ i j)
    exact congrFun (body_grid c (ms0_0 pt) (hs0_0 pt) (ms0_1 pt) (hs0_1 pt) (ms0_2 pt) (hs0_2 pt) (ms0_3 pt) (hs0_3 pt) (ms0_4 pt) (hs0_4 pt)
      (iblk m c 0 pt) (table1 m c) (table2 m c)) (ix2 i j)

end Cert.Proof.Paint

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Results
public import proofs.«01_k».proof.Proof.MatchFrame
public import proofs.«01_k».proof.Proof.MatchValue
public import proofs.«01_k».proof.Proof.Gen.Paint.Frame
public import proofs.«01_k».proof.Proof.PaintValue
public import proofs.«01_k».proof.Proof.GridValue

@[expose] public section

noncomputable section

namespace Cert.Proof

open Idealize.ShloMosaic Idealize.SL.Sem

/-- On the bits, the kernel runs, its arguments keep their contents and every counter ends at zero. -/
theorem frame_kernel : Cert.quiescent_Kernel := fun m ρ hpre =>
  (θ_run Cert.Kernel.defs _ _).mono
    (fun _ h => ⟨fun c => ⟨(h.1 c).1, (h.1 c).2.1, (h.1 c).2.2.1, (h.1 c).2.2.2.1⟩, h.2⟩)
    (Match.run_main (F := Bits) m ρ fun d => Value.pre_lt (hpre d))

/-- On the extended reals too. -/
theorem frame_ideal : Cert.quiescent_KernelIdeal := fun m ρ hpre =>
  (θ_run Cert.KernelIdeal.defs _ _).mono
    (fun _ h => ⟨fun c => ⟨(h.1 c).1, (h.1 c).2.1, (h.1 c).2.2.1, (h.1 c).2.2.2.1⟩, h.2⟩)
    (IdealMatch.run_main (F := Ideal) m ρ fun d => Value.pre_lt (hpre d))

/-- The reference runs and keeps its arguments; it has no counter. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- Kernel and reference end with the same gathered rows and the same marks. -/
theorem same_results : Cert.algebraic_KernelIdeal_ReferenceIdeal := by
  intro m ρ m' ρ' hpre hagree
  refine ⟨fun c => Value.rows (m (IdealMatch.jLoc c)) (m (IdealMatch.bLoc c)) (m (IdealMatch.sLoc c)),
    fun c => Value.marks (m (IdealMatch.jLoc c)) (m (IdealMatch.iLoc c)),
    Value.kernel_run m ρ fun d => Value.pre_lt (hpre d), ?_⟩
  refine (θ_run Cert.ReferenceIdeal.defs _ _).mono (fun r h c => ?_) (Cert.ReferenceIdeal.Value.run (F := Ideal) m' ρ')
  obtain ⟨hj, hi, hb, hs⟩ := hagree c
  refine ⟨(h c).1.trans ?_, (h c).2.1.trans ?_, (h c).2.2⟩
  · rw [hj, hb, hs]; rfl
  · rw [hj, hi]; rfl

/-! ## The best-match call -/

/-- On the bits, the call runs, its arguments keep their contents and every counter ends at zero. -/
theorem frame_best_match : Cert.quiescent_BestMatch := fun m ρ _ =>
  (θ_run Cert.BestMatch.defs _ _).mono (fun _ h => ⟨fun c => Cert.BestMatch.Hand.kept h.1 c, h.2⟩)
    (Cert.BestMatch.Hand.run_main (F := Bits) m ρ)

/-- On the extended reals too. -/
theorem frame_best_match_ideal : Cert.quiescent_BestMatchIdeal := fun m ρ _ =>
  (θ_run Cert.BestMatchIdeal.defs _ _).mono (fun _ h => ⟨fun c => Cert.BestMatchIdeal.Hand.kept h.1 c, h.2⟩)
    (Cert.BestMatchIdeal.Hand.run_main (F := Ideal) m ρ)

/-- Its reference runs and keeps its arguments; it has no counter. -/
theorem frame_best_match_reference : Cert.quiescent_BestMatchReferenceIdeal := fun m ρ _ =>
  (θ_run Cert.BestMatchReferenceIdeal.defs _ _).mono
    (fun r h => ⟨fun c => (h c).2.2, sem_eq_zero_of_no_sems (by decide) r.2⟩)
    (Cert.BestMatchReferenceIdeal.Hand.run (F := Ideal) m ρ)

theorem facts_first_row : Cert.On_first_row.Facts := ⟨by decide⟩

instance : Cert.On_first_row.Facts := facts_first_row

/-- Where the mask is set the row number is zero. -/
theorem first_row_index (X : FVec Ideal Cert.On_first_row.S8x5120 .f32) (Y : FVec Ideal Cert.On_first_row.S5120x128 .f32)
    (i : Cert.On_first_row.S8x5120.Idx) (h : (Cert.On_first_row.fn (F := Ideal) X Y).1 i = 1#1) : i = ix2 0 (i 1) := by
  have h0 : ∀ a : Fin 8, IntOp.cmpi .eq (BitVec.ofNat 32 a.val) 0#32 = 1#1 → a = 0 := by decide
  funext a; fin_cases a
  · exact h0 (i 0) h
  · rfl

/-- The call and its reference end with the same first rows. -/
theorem same_first_rows : Cert.algebraic_BestMatchIdeal_BestMatchReferenceIdeal_on_first_row := by
  intro m ρ m' ρ' _ hagree
  refine ⟨fun c => Cert.BestMatchReferenceIdeal.Hand.best (BestMatch.subs m c) (BestMatch.prevs m c),
    fun c => Cert.BestMatchReferenceIdeal.Hand.bestAt (BestMatch.subs m c) (BestMatch.prevs m c), ?_, ?_⟩
  · refine (θ_run Cert.BestMatchIdeal.defs _ _).mono (fun r h c => ?_) (Cert.BestMatchIdeal.Hand.run_main (F := Ideal) m ρ)
    obtain ⟨hv, hi⟩ := Cert.BestMatchIdeal.Hand.first_rows h.1 c
    refine ⟨fun i hm => ?_, fun i hm => ?_, Cert.BestMatchIdeal.Hand.kept h.1 c⟩
    · rw [first_row_index (m ((c.tc : Thread _ _).loc Cert.BestMatchIdeal.main_arg0)) (m ((c.tc : Thread _ _).loc Cert.BestMatchIdeal.main_arg1)) i hm]
      refine Eq.trans ?_ (BestMatch.rows_eq m c (i 1)).1
      exact (BestMatch.top_at _ (i 1)).symm.trans (congrFun hv (ix2 0 (i 1)))
    · rw [first_row_index (m ((c.tc : Thread _ _).loc Cert.BestMatchIdeal.main_arg0)) (m ((c.tc : Thread _ _).loc Cert.BestMatchIdeal.main_arg1)) i hm]
      refine Eq.trans ?_ (BestMatch.rows_eq m c (i 1)).2
      exact (BestMatch.top_at _ (i 1)).symm.trans (congrFun hi (ix2 0 (i 1)))
  · refine (θ_run Cert.BestMatchReferenceIdeal.defs _ _).mono (fun r h c => ?_) (Cert.BestMatchReferenceIdeal.Hand.run (F := Ideal) m' ρ')
    obtain ⟨h0, h1⟩ := hagree c
    refine ⟨fun i _ => ?_, fun i _ => ?_, (h c).2.2⟩
    · rw [(h c).1, h0, h1]
    · rw [(h c).2.1, h0, h1]

/-! ## The painting call -/

/-- On the bits, the call runs, its arguments keep their contents and every counter ends at zero. -/
theorem frame_paint : Cert.quiescent_Paint := fun m ρ _ => Cert.Paint.Gen.frame (F := Bits) m ρ

/-- On the extended reals too. -/
theorem frame_paint_ideal : Cert.quiescent_PaintIdeal := fun m ρ _ => Cert.PaintIdeal.Gen.frame (F := Ideal) m ρ

theorem frame_paint_ideal_bounded : Cert.quiescent_PaintIdeal_pre_bounded := fun m ρ _ => Cert.PaintIdeal.Gen.frame (F := Ideal) m ρ

/-- Its reference runs and keeps its arguments; it has no counter. -/
theorem frame_paint_reference : Cert.quiescent_PaintReferenceIdeal := fun m ρ _ =>
  (θ_run Cert.PaintReferenceIdeal.defs _ _).mono
    (fun r h => ⟨fun c => (h c).2.2, sem_eq_zero_of_no_sems (by decide) r.2⟩)
    (Cert.PaintReferenceIdeal.Value.run (F := Ideal) m ρ)

theorem frame_paint_reference_bounded : Cert.quiescent_PaintReferenceIdeal_pre_bounded := fun m ρ _ => frame_paint_reference m ρ trivial

set_option maxRecDepth 8192 in
/-- The call and its reference end with the same mask and the same grid. -/
theorem same_picture : Cert.algebraic_PaintIdeal_PaintReferenceIdeal_pre_bounded := by
  intro m ρ m' ρ' hpre hagree
  refine ⟨fun c => Cert.PaintReferenceIdeal.Hand.mask (Paint.items m c),
    fun c => Cert.PaintReferenceIdeal.Grid.grid (Paint.table1 m c) (Paint.table2 m c), ?_, ?_⟩
  · refine (θ_run Cert.PaintIdeal.defs _ _).mono (fun r h c => ?_) (Cert.PaintIdeal.Value.run_blocks (F := Ideal) m ρ)
    refine ⟨(h c).1.trans ?_, (h c).2.1.trans ?_, (h c).2.2⟩
    · funext i
      have hi : i = ix2 (i 0) (i 1) := by funext a; fin_cases a <;> rfl
      rw [hi]
      exact (Paint.array_at m c (Paint.values_le _ _ _ (hpre c).1) (i 0) (i 1)).trans
        (Cert.PaintReferenceIdeal.Hand.mask_at (Paint.items m c) (i 0) (i 1)).symm
    · funext i
      have hi : i = ix2 (i 0) (i 1) := by funext a; fin_cases a <;> rfl
      rw [hi]
      exact Paint.grid_array_at m c (Paint.rest_nonneg _ _ _ (hpre c).2) (i 0) (i 1)
  · refine (θ_run Cert.PaintReferenceIdeal.defs _ _).mono (fun r h c => ?_) (Cert.PaintReferenceIdeal.Value.run (F := Ideal) m' ρ')
    obtain ⟨h0, h1, h2⟩ := hagree c
    refine ⟨Eq.trans ?_ (congrArg (Cert.PaintReferenceIdeal.Hand.mask (F := Ideal)) h0),
      Eq.trans ?_ (congrArg₂ (Cert.PaintReferenceIdeal.Grid.grid (F := Ideal)) h1 h2), (h c).2.2⟩
    · exact (h c).1
    · exact (h c).2.1.trans (Cert.PaintReferenceIdeal.Grid.grid_eq _)

theorem claim : Cert.Claim :=
  ⟨Cert.Kernel.Gen.facts, Cert.KernelIdeal.Gen.facts, Cert.ReferenceIdeal.Gen.facts, Cert.BestMatch.Gen.facts, Cert.BestMatchIdeal.Gen.facts,
    Cert.BestMatchReferenceIdeal.Gen.facts, Cert.Paint.Gen.facts, Cert.PaintIdeal.Gen.facts, Cert.PaintReferenceIdeal.Gen.facts,
    Cert.Pre_in_range.Gen.facts, Cert.Pre_bounded.Gen.facts, facts_first_row,
    frame_kernel, frame_ideal, frame_reference, frame_best_match, frame_best_match_ideal, frame_best_match_reference,
    frame_paint, frame_paint_ideal, frame_paint_ideal_bounded, frame_paint_reference, frame_paint_reference_bounded,
    trivial, same_results, trivial, same_first_rows, trivial, same_picture⟩

end Cert.Proof

end
